-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_ReferenceIdeal [hKernel2Ideal : Cert.Kernel2Ideal.Facts] [hReferenceIdeal : Cert.ReferenceIdeal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_Kernel2Ideal m →
    (∀ c : Dev Cert.Kernel2Ideal.nD,
      m' ((c.tc : Thread Cert.ReferenceIdeal.nD Cert.ReferenceIdeal.τ).loc Cert.ReferenceIdeal.main_arg0) = m ((c.tc : Thread Cert.Kernel2Ideal.nD Cert.Kernel2Ideal.τ).loc Cert.Kernel2Ideal.main_arg0)
      ∧ m' ((c.tc : Thread Cert.ReferenceIdeal.nD Cert.ReferenceIdeal.τ).loc Cert.ReferenceIdeal.main_arg1) = m ((c.tc : Thread Cert.Kernel2Ideal.nD Cert.Kernel2Ideal.τ).loc Cert.Kernel2Ideal.main_arg1)
      ∧ m' ((c.tc : Thread Cert.ReferenceIdeal.nD Cert.ReferenceIdeal.τ).loc Cert.ReferenceIdeal.main_arg2) = m ((c.tc : Thread Cert.Kernel2Ideal.nD Cert.Kernel2Ideal.τ).loc Cert.Kernel2Ideal.main_arg2)
      ∧ m' ((c.tc : Thread Cert.ReferenceIdeal.nD Cert.ReferenceIdeal.τ).loc Cert.ReferenceIdeal.main_arg3) = m ((c.tc : Thread Cert.Kernel2Ideal.nD Cert.Kernel2Ideal.τ).loc Cert.Kernel2Ideal.main_arg3)
      ∧ m' ((c.tc : Thread Cert.ReferenceIdeal.nD Cert.ReferenceIdeal.τ).loc Cert.ReferenceIdeal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)) (v3 : (c : Dev Cert.Kernel5Ideal.nD) → Buf (Elt Ideal) ((c.tc : Thread Cert.Kernel5Ideal.nD Cert.Kernel5Ideal.τ).loc Cert.Kernel5Ideal.main_v15_3)) (v4 : (c : Dev Cert.Kernel5Ideal.nD) → Buf (Elt Ideal) ((c.tc : Thread Cert.Kernel5Ideal.nD Cert.Kernel5Ideal.τ).loc Cert.Kernel5Ideal.main_v15_4)) (v5 : (c : Dev Cert.Kernel5Ideal.nD) → Buf (Elt Ideal) ((c.tc : Thread Cert.Kernel5Ideal.nD Cert.Kernel5Ideal.τ).loc Cert.Kernel5Ideal.main_v15_5)) (v6 : (c : Dev Cert.Kernel5Ideal.nD) → Buf (Elt Ideal) ((c.tc : Thread Cert.Kernel5Ideal.nD Cert.Kernel5Ideal.τ).loc Cert.Kernel5Ideal.main_v15_6)) (v7 : (c : Dev Cert.Kernel5Ideal.nD) → Buf (Elt Ideal) ((c.tc : Thread Cert.Kernel5Ideal.nD Cert.Kernel5Ideal.τ).loc Cert.Kernel5Ideal.main_v15_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_v15_3) = v3 c
          ∧ r.2.mem ((c.tc : Thread Cert.Kernel5Ideal.nD Cert.Kernel5Ideal.τ).loc Cert.Kernel5Ideal.main_v15_4) = v4 c
          ∧ r.2.mem ((c.tc : Thread Cert.Kernel5Ideal.nD Cert.Kernel5Ideal.τ).loc Cert.Kernel5Ideal.main_v15_5) = v5 c
          ∧ r.2.mem ((c.tc : Thread Cert.Kernel5Ideal.nD Cert.Kernel5Ideal.τ).loc Cert.Kernel5Ideal.main_v15_6) = v6 c
          ∧ r.2.mem ((c.tc : Thread Cert.Kernel5Ideal.nD Cert.Kernel5Ideal.τ).loc Cert.Kernel5Ideal.main_v15_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_v22) = v3 c
          ∧ r.2.mem ((c.tc : Thread Cert.Reference5Ideal.nD Cert.Reference5Ideal.τ).loc Cert.Reference5Ideal.main_v23) = v4 c
          ∧ r.2.mem ((c.tc : Thread Cert.Reference5Ideal.nD Cert.Reference5Ideal.τ).loc Cert.Reference5Ideal.main_v24) = v5 c
          ∧ r.2.mem ((c.tc : Thread Cert.Reference5Ideal.nD Cert.Reference5Ideal.τ).loc Cert.Reference5Ideal.main_v25) = v6 c
          ∧ r.2.mem ((c.tc : Thread Cert.Reference5Ideal.nD Cert.Reference5Ideal.τ).loc Cert.Reference5Ideal.main_v26) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  IdealRules.named_const.Statement Cert.Kernel6Ideal.κ "mask" .f32 0xF149F2CA#32 ⊥

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v82) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v105) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_ReferenceIdeal (hKernel2Ideal := hKernel2Ideal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite6.lean ====
abbrev S8192x11280 : Shape := ⟨2, ![8192, 11280]⟩
abbrev S128 : Shape := ⟨1, ![128]⟩
abbrev S8x320 : Shape := ⟨2, ![8, 320]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S8x320 : S_.BroadcastsInDim S8x320 (![] : Fin 0 → Fin S8x320.rank)
  reducesTo_S8x320_S_d0_1 : S8x320.ReducesTo [0, 1] S_

variable [Facts]

def fn {F : FTy → Type} [FloatOps F] (main_arg0 : FVec F S8192x11280 .f32) (main_arg1 : FVec F S128 .f32) (main_arg2 : FVec F S128 .f32) (main_arg3 : FVec F S8x320 .f32) : IVec S_ 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S8x320 .f32 := Host.absf main_arg3
  let main_cst_2 : FVec F S_ .f32 := constant S_ .f32 0x7F800000#32
  let main_v10 : FVec F S8x320 .f32 := broadcastInDim S8x320 ![] bcast_S_S8x320 main_cst_2
  let main_v11 : IVec S8x320 1 := cmpf .olt main_v9 main_v10
  let main_c_3 : IVec S_ 1 := constantI S_ 1 1#1
  let main_v12 : IVec S_ 1 := (fun x v => Host.reduce IntOp.andi x v reducesTo_S8x320_S_d0_1 h_S_) main_v11 main_c_3
  let main_v13 : IVec S_ 1 := andi main_v8 main_v12
  main_v13
-- ==== Pre_finite7.lean ====
abbrev S8192x11280 : Shape := ⟨2, ![8192, 11280]⟩
abbrev S4x3072 : Shape := ⟨2, ![4, 3072]⟩
abbrev S8 : Shape := ⟨1, ![8]⟩
abbrev S128 : Shape := ⟨1, ![128]⟩
abbrev S8192x3072 : Shape := ⟨2, ![8192, 3072]⟩
abbrev S_ : Shape := ⟨0, ![]⟩
abbrev S8192x8 : Shape := ⟨2, ![8192, 8]⟩

class Facts : Prop where
  slices_S8192x11280_S8192x3072_0_0 : S8192x11280.Slices ![0, 0] S8192x3072
  bcast_S_S8192x3072 : S_.BroadcastsInDim S8192x3072 (![] : Fin 0 → Fin S8192x3072.rank)
  reducesTo_S8192x3072_S_d0_1 : S8192x3072.ReducesTo [0, 1] S_
  h_S_ : 0 < S_.numel
  slices_S8192x11280_S8192x8_0_4096 : S8192x11280.Slices ![0, 4096] S8192x8
  bcast_S_S8192x8 : S_.BroadcastsInDim S8192x8 (![] : Fin 0 → Fin S8192x8.rank)
  reducesTo_S8192x8_S_d0_1 : S8192x8.ReducesTo [0, 1] S_
  bcast_S_S4x3072 : S_.BroadcastsInDim S4x3072 (![] : Fin 0 → Fin S4x3072.rank)
  reducesTo_S4x3072_S_d0_1 : S4x3072.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg3 : FVec F S8 .f32) (main_v14 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v14 main_v17
  let main_cst_6 : FVec F S_ .f32 := constant S_ .f32 0x7F800000#32
  let main_v19 : FVec F S8 .f32 := broadcastInDim S8 ![] bcast_S_S8 main_cst_6
  let main_v20 : IVec S8 1 := cmpf .olt main_arg3 main_v19
  let main_c_7 : IVec S_ 1 := constantI S_ 1 1#1
  let main_v21 : IVec S_ 1 := (fun x v => Host.reduce IntOp.andi x v reducesTo_S8_S_d0 h_S_) main_v20 main_c_7
  let main_v22 : IVec S_ 1 := andi main_v18 main_v21
  main_v22

def fn {F : FTy → Type} [FloatOps F] (main_arg0 : FVec F S8192x11280 .f32) (main_arg1 : FVec F S4x3072 .f32) (main_arg2 : FVec F S8 .f32) (main_arg3 : FVec F S8 .f32) (main_arg4 : FVec F S128 .f32) : IVec S_ 1 :=
  let main_v0 : FVec F S8192x3072 .f32 := (extractStridedSlice S8192x3072 ![0, 0] · slices_S8192x11280_S8192x3072_0_0) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x8 .f32 := (extractStridedSlice S8192x8 ![0, 4096] · slices_S8192x11280_S8192x8_0_4096) main_arg0
  let main_cst_0 : FVec F S_ .f32 := constant S_ .f32 0x7F800000#32
  let main_v6 : FVec F S8192x8 .f32 := broadcastInDim S8192x8 ![] bcast_S_S8192x8 main_cst_0
  let main_v7 : IVec S8192x8 1 := cmpf .olt main_v5 main_v6
  let main_c_1 : IVec S_ 1 := constantI S_ 1 1#1
  let main_v8 : IVec S_ 1 := (fun x v => Host.reduce IntOp.andi x v reducesTo_S8192x8_S_d0_1 h_S_) main_v7 main_c_1
  let main_v9 : IVec S_ 1 := andi main_v4 main_v8
  let main_v10 : FVec F S4x3072 .f32 := Host.absf main_arg1
  let main_cst_2 : FVec F S_ .f32 := constant S_ .f32 0x7F800000#32
  let main_v11 : FVec F S4x3072 .f32 := broadcastInDim S4x3072 ![] bcast_S_S4x3072 main_cst_2
  let main_v12 : IVec S4x3072 1 := cmpf .olt main_v10 main_v11
  let main_c_3 : IVec S_ 1 := constantI S_ 1 1#1
  let main_v13 : IVec S_ 1 := (fun x v => Host.reduce IntOp.andi x v reducesTo_S4x3072_S_d0_1 h_S_) main_v12 main_c_3
  let main_v14 : IVec S_ 1 := andi main_v9 main_v13
  let main_cst_4 : FVec F S_ .f32 := constant S_ .f32 0x7F800000#32
  let main_v15 : FVec F S8 .f32 := broadcastInDim S8 ![] bcast_S_S8 main_cst_4
  let main_v16 : IVec S8 1 := cmpf .olt main_arg2 main_v15
  fn_part1 (F := F) main_arg3 main_v14 main_v16
-- ==== Kernel.lean ====
abbrev S8192x2048 : Shape := ⟨2, ![8192, 2048]⟩
abbrev S2048 : Shape := ⟨1, ![2048]⟩
abbrev S2048x5504 : Shape := ⟨2, ![2048, 5504]⟩
abbrev S5504x2048 : Shape := ⟨2, ![5504, 2048]⟩
abbrev S1x2048 : Shape := ⟨2, ![1, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S1x2048, .f32⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x2048, .f32⟩
  | .local _ .vmem, ⟨8, _⟩ => ⟨S256x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 22], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c5248_i32 : BitVec 32 := 5248#32
  let v1 : BitVec 32 := Scalar.minsi v0 c5248_i32
  v1
def k0_mult2 (i : grid0.Coords) : BitVec 32 :=
  let arg1 : BitVec 32 := BitVec.ofNat 32 (i 1).val
  let c256_i32 : BitVec 32 := 256#32
  let v0 : BitVec 32 := Scalar.muli arg1 c256_i32
  let c5248_i32 : BitVec 32 := 5248#32
  let v1 : BitVec 32 := Scalar.minsi v0 c5248_i32
  v1
def k0_mult3 (i : grid0.Coords) : BitVec 32 :=
  let arg1 : BitVec 32 := BitVec.ofNat 32 (i 1).val
  let c256_i32 : BitVec 32 := 256#32
  let v0 : BitVec 32 := Scalar.muli arg1 c256_i32
  let c5248_i32 : BitVec 32 := 5248#32
  let v1 : BitVec 32 := Scalar.minsi v0 c5248_i32
  v1
def k0_mult4 (i : grid0.Coords) : BitVec 32 :=
  let arg1 : BitVec 32 := BitVec.ofNat 32 (i 1).val
  let c256_i32_11 : BitVec 32 := 256#32
  let v22 : BitVec 32 := Scalar.muli arg1 c256_i32_11
  let c5248_i32 : BitVec 32 := 5248#32
  let v23 : BitVec 32 := Scalar.minsi v22 c5248_i32
  v23
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c5248_i32 : BitVec 32 := 5248#32
  let v1 : BitVec 32 := Scalar.minsi v0 c5248_i32
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c5248_i32 : BitVec 32 := 5248#32
  let v1 : BitVec 32 := Scalar.minsi v0 c5248_i32
  let v2 : BitVec 32 := v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c5248_i32 : BitVec 32 := 5248#32
  let v1 : BitVec 32 := Scalar.minsi v0 c5248_i32
  let v2 : BitVec 32 := v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8192x2048 : Shape := ⟨2, ![8192, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5504 : Shape := ⟨2, ![8192, 5504]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x5504, .f32⟩
  | .hbm, ⟨22, _⟩ => ⟨S8192x5504, .f32⟩
  | .hbm, ⟨23, _⟩ => ⟨S8192x5504, .f32⟩
  | .hbm, ⟨24, _⟩ => ⟨S_, .f32⟩
  | .hbm, ⟨25, _⟩ => ⟨S8192x5504, .f32⟩
  | .hbm, ⟨26, _⟩ => ⟨S8192x5504, .f32⟩
  | .hbm, ⟨27, _⟩ => ⟨S_, .f32⟩
  | .hbm, ⟨28, _⟩ => ⟨S8192x5504, .f32⟩
  | .hbm, ⟨29, _⟩ => ⟨S8192x5504, .f32⟩
  | .hbm, ⟨30, _⟩ => ⟨S8192x5504, .f32⟩
  | .hbm, ⟨31, _⟩ => ⟨S8192x5504, .f32⟩
  | .hbm, ⟨32, _⟩ => ⟨S8192x5504, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x5504 : Shape := ⟨2, ![2048, 5504]⟩
abbrev S5504x2048 : Shape := ⟨2, ![5504, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S1x2048, .f32⟩
  | .hbm, ⟨6, _⟩ => ⟨S2048x5504, .bf16⟩
  | .hbm, ⟨7, _⟩ => ⟨S2048x5504, .bf16⟩
  | .hbm, ⟨8, _⟩ => ⟨S5504x2048, .bf16⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c4992_i32 : BitVec 32 := 4992#32
  let v1 : BitVec 32 := Scalar.minsi v0 c4992_i32
  v1
def k0_mult2 (i : grid0.Coords) : BitVec 32 :=
  let arg1 : BitVec 32 := BitVec.ofNat 32 (i 1).val
  let c512_i32 : BitVec 32 := 512#32
  let v0 : BitVec 32 := Scalar.muli arg1 c512_i32
  let c4992_i32 : BitVec 32 := 4992#32
  let v1 : BitVec 32 := Scalar.minsi v0 c4992_i32
  v1
def k0_mult3 (i : grid0.Coords) : BitVec 32 :=
  let arg1 : BitVec 32 := BitVec.ofNat 32 (i 1).val
  let c512_i32 : BitVec 32 := 512#32
  let v0 : BitVec 32 := Scalar.muli arg1 c512_i32
  let c4992_i32 : BitVec 32 := 4992#32
  let v1 : BitVec 32 := Scalar.minsi v0 c4992_i32
  v1
def k0_mult4 (i : grid0.Coords) : BitVec 32 :=
  let arg1 : BitVec 32 := BitVec.ofNat 32 (i 1).val
  let c512_i32_11 : BitVec 32 := 512#32
  let v22 : BitVec 32 := Scalar.muli arg1 c512_i32_11
  let c4992_i32 : BitVec 32 := 4992#32
  let v23 : BitVec 32 := Scalar.minsi v22 c4992_i32
  v23
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4992_i32 : BitVec 32 := 4992#32
  let v1 : BitVec 32 := Scalar.minsi v0 c4992_i32
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4992_i32 : BitVec 32 := 4992#32
  let v1 : BitVec 32 := Scalar.minsi v0 c4992_i32
  let v2 : BitVec 32 := v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4992_i32 : BitVec 32 := 4992#32
  let v1 : BitVec 32 := Scalar.minsi v0 c4992_i32
  let v2 : BitVec 32 := v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel3.lean ====
abbrev S8192x2048 : Shape := ⟨2, ![8192, 2048]⟩
abbrev S8192x1024 : Shape := ⟨2, ![8192, 1024]⟩
abbrev S8192x11280 : Shape := ⟨2, ![8192, 11280]⟩
abbrev S1024x2048 : Shape := ⟨2, ![1024, 2048]⟩
abbrev S2048x2048 : Shape := ⟨2, ![2048, 2048]⟩
abbrev S8192x4096 : Shape := ⟨2, ![8192, 4096]⟩
abbrev S8192x3072 : Shape := ⟨2, ![8192, 3072]⟩
abbrev S8192x11264 : Shape := ⟨2, ![8192, 11264]⟩
abbrev S512x2048 : Shape := ⟨2, ![512, 2048]⟩
abbrev S512x1024 : Shape := ⟨2, ![512, 1024]⟩

abbrev nBuf : Space → Nat
  | .hbm => 18
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x11280, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S8192x4096, .f32⟩
  | .hbm, ⟨8, _⟩ => ⟨S8192x4096, .f32⟩
  | .hbm, ⟨9, _⟩ => ⟨S8192x3072, .f32⟩
  | .hbm, ⟨10, _⟩ => ⟨S8192x11264, .f32⟩
  | .hbm, ⟨11, _⟩ => ⟨S8192x11264, .bf16⟩
  | .hbm, ⟨12, _⟩ => ⟨S8192x1024, .bf16⟩
  | .hbm, ⟨13, _⟩ => ⟨S8192x1024, .bf16⟩
  | .hbm, ⟨14, _⟩ => ⟨S1024x2048, .bf16⟩
  | .hbm, ⟨15, _⟩ => ⟨S1024x2048, .bf16⟩
  | .hbm, ⟨16, _⟩ => ⟨S2048x2048, .bf16⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x2048 : Shape := ⟨2, ![8192, 2048]⟩
abbrev S8192x1024 : Shape := ⟨2, ![8192, 1024]⟩
abbrev S8192x11280 : Shape := ⟨2, ![8192, 11280]⟩
abbrev S1024x2048 : Shape := ⟨2, ![1024, 2048]⟩
abbrev S2048x2048 : Shape := ⟨2, ![2048, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x11280, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel4.lean ====
abbrev S2048x11280 : Shape := ⟨2, ![2048, 11280]⟩
abbrev S11280x2048 : Shape := ⟨2, ![11280, 2048]⟩
abbrev S2048x11264 : Shape := ⟨2, ![2048, 11264]⟩
abbrev S2048x128 : Shape := ⟨2, ![2048, 128]⟩
abbrev S1024x2048 : Shape := ⟨2, ![1024, 2048]⟩
abbrev S16x2048 : Shape := ⟨2, ![16, 2048]⟩
abbrev S2048x1024 : Shape := ⟨2, ![2048, 1024]⟩
abbrev S112x2048 : Shape := ⟨2, ![112, 2048]⟩
abbrev S128x2048 : Shape := ⟨2, ![128, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2048x11280, .f32⟩
  | .hbm, ⟨1, _⟩ => ⟨S11280x2048, .f32⟩
  | .hbm, ⟨2, _⟩ => ⟨S2048x11264, .bf16⟩
  | .hbm, ⟨3, _⟩ => ⟨S2048x128, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | _, _ => ⟨S2048x11280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![11], ![false]⟩

def k0_mult1 (i : grid0.Coords) : BitVec 32 :=
  let arg0 : BitVec 32 := BitVec.ofNat 32 (i 0).val
  let c4_i32 : BitVec 32 := 4#32
  let v0 : BitVec 1 := Scalar.cmpi .slt arg0 c4_i32
  let c1024_i32 : BitVec 32 := 1024#32
  let v1 : BitVec 32 := Scalar.muli arg0 c1024_i32
  let c8_i32 : BitVec 32 := 8#32
  let v2 : BitVec 1 := Scalar.cmpi .slt arg0 c8_i32
  let c7184_i32 : BitVec 32 := 7184#32
  let c4_i32_0 : BitVec 32 := 4#32
  let v3 : BitVec 32 := Scalar.subi arg0 c4_i32_0
  let c1024_i32_1 : BitVec 32 := 1024#32
  let v4 : BitVec 32 := Scalar.muli v3 c1024_i32_1
  let v5 : BitVec 32 := Scalar.addi c7184_i32 v4
  let c4112_i32 : BitVec 32 := 4112#32
  let c4_i32_2 : BitVec 32 := 4#32
  let v6 : BitVec 32 := Scalar.subi arg0 c4_i32_2
  let c4_i32_3 : BitVec 32 := 4#32
  let v7 : BitVec 32 := Scalar.subi v6 c4_i32_3
  let c1024_i32_4 : BitVec 32 := 1024#32
  let v8 : BitVec 32 := Scalar.muli v7 c1024_i32_4
  let v9 : BitVec 32 := Scalar.addi c4112_i32 v8
  let v10 : BitVec 32 := Scalar.select v2 v5 v9
  let v11 : BitVec 32 := Scalar.select v0 v1 v10
  v11
def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let c4_i32 : BitVec 32 := 4#32
  let v0 : BitVec 1 := Scalar.cmpi .slt arg0 c4_i32
  let c1024_i32 : BitVec 32 := 1024#32
  let v1 : BitVec 32 := Scalar.muli arg0 c1024_i32
  let c8_i32 : BitVec 32 := 8#32
  let v2 : BitVec 1 := Scalar.cmpi .slt arg0 c8_i32
  let c4_i32_0 : BitVec 32 := 4#32
  let v3 : BitVec 32 := Scalar.subi arg0 c4_i32_0
  let c1024_i32_1 : BitVec 32 := 1024#32
  let v4 : BitVec 32 := Scalar.muli v3 c1024_i32_1
  let c7184_i32 : BitVec 32 := 7184#32
  let v5 : BitVec 32 := Scalar.addi c7184_i32 v4
  let c4_i32_2 : BitVec 32 := 4#32
  let v6 : BitVec 32 := Scalar.subi arg0 c4_i32_2
  let c4_i32_3 : BitVec 32 := 4#32
  let v7 : BitVec 32 := Scalar.subi v6 c4_i32_3
  let c1024_i32_4 : BitVec 32 := 1024#32
  let v8 : BitVec 32 := Scalar.muli v7 c1024_i32_4
  let c4112_i32 : BitVec 32 := 4112#32
  let v9 : BitVec 32 := Scalar.addi c4112_i32 v8
  let v10 : BitVec 32 := Scalar.select v2 v5 v9
  let v11 : BitVec 32 := Scalar.select v0 v1 v10
  let v12 : BitVec 32 := v11
  let c0_i32 : BitVec 32 := 0#32
  let c0_i32_5 : BitVec 32 := 0#32
  ![v12.toNat, c0_i32.toNat]

def cc0_transform_1 (i : grid0.Coords) : Fin 2 → Nat :=
  let arg0 : BitVec 32 := BitVec.ofNat 32 (i 0).val
  let c4096_i32 : BitVec 32 := 4096#32
  let c0_i32 : BitVec 32 := 0#32
  let c0_i32_0 : BitVec 32 := 0#32
  ![c4096_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference4Ideal.lean ====
abbrev S2048x11280 : Shape := ⟨2, ![2048, 11280]⟩
abbrev S2048x4096 : Shape := ⟨2, ![2048, 4096]⟩
abbrev S2048x3072 : Shape := ⟨2, ![2048, 3072]⟩
abbrev S2048x11264 : Shape := ⟨2, ![2048, 11264]⟩
abbrev S2048x16 : Shape := ⟨2, ![2048, 16]⟩
abbrev S_ : Shape := ⟨0, ![]⟩
abbrev S2048x128 : Shape := ⟨2, ![2048, 128]⟩

abbrev nBuf : Space → Nat
  | .hbm => 11
  | .vmem => 0
  | .smem => 0
  | _ => 0

abbrev bufTy : (tb : Table) → Fin (tcTables nBuf tb) → BufTy
  | .hbm, ⟨0, _⟩ => ⟨S2048x11280, .f32⟩
  | .hbm, ⟨1, _⟩ => ⟨S2048x4096, .f32⟩
  | .hbm, ⟨2, _⟩ => ⟨S2048x4096, .f32⟩
  | .hbm, ⟨3, _⟩ => ⟨S2048x3072, .f32⟩
  | .hbm, ⟨4, _⟩ => ⟨S2048x11264, .f32⟩
  | .hbm, ⟨5, _⟩ => ⟨S2048x11264, .bf16⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | _, _ => ⟨S2048x11280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x11280 : Shape := ⟨2, ![2048, 11280]⟩
abbrev S1024x2048 : Shape := ⟨2, ![1024, 2048]⟩
abbrev S2048x2048 : Shape := ⟨2, ![2048, 2048]⟩
abbrev S2048x5504 : Shape := ⟨2, ![2048, 5504]⟩
abbrev S5504x2048 : Shape := ⟨2, ![5504, 2048]⟩
abbrev S2048x4096 : Shape := ⟨2, ![2048, 4096]⟩
abbrev S2048x3072 : Shape := ⟨2, ![2048, 3072]⟩
abbrev S2048x11264 : Shape := ⟨2, ![2048, 11264]⟩
abbrev S2048x16 : Shape := ⟨2, ![2048, 16]⟩
abbrev S_ : Shape := ⟨0, ![]⟩
abbrev S2048x128 : Shape := ⟨2, ![2048, 128]⟩
abbrev S1x1024x2048 : Shape := ⟨3, ![1, 1024, 2048]⟩
abbrev S1x2048x2048 : Shape := ⟨3, ![1, 2048, 2048]⟩
abbrev S1x2048x5504 : Shape := ⟨3, ![1, 2048, 5504]⟩
abbrev S1x5504x2048 : Shape := ⟨3, ![1, 5504, 2048]⟩
abbrev S1x2048 : Shape := ⟨2, ![1, 2048]⟩
abbrev S8192x11264 : Shape := ⟨2, ![8192, 11264]⟩
abbrev S8192x128 : Shape := ⟨2, ![8192, 128]⟩
abbrev S2048x1024 : Shape := ⟨2, ![2048, 1024]⟩
abbrev S1x16x2048 : Shape := ⟨3, ![1, 16, 2048]⟩
abbrev S1x32x2048 : Shape := ⟨3, ![1, 32, 2048]⟩
abbrev S1x32x5504 : Shape := ⟨3, ![1, 32, 5504]⟩
abbrev S1x64x2048 : Shape := ⟨3, ![1, 64, 2048]⟩
abbrev S1024x1024 : Shape := ⟨2, ![1024, 1024]⟩
abbrev S1024x128 : Shape := ⟨2, ![1024, 128]⟩
abbrev S16x2048 : Shape := ⟨2, ![16, 2048]⟩
abbrev S32x2048 : Shape := ⟨2, ![32, 2048]⟩
abbrev S32x5504 : Shape := ⟨2, ![32, 5504]⟩
abbrev S64x2048 : Shape := ⟨2, ![64, 2048]⟩
abbrev S1024 : Shape := ⟨1, ![1024]⟩
abbrev S1024x1 : Shape := ⟨2, ![1024, 1]⟩

abbrev nBuf : Space → Nat
  | .hbm => 34
  | .vmem => 35
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11280, .f32⟩
  | .hbm, ⟨3, _⟩ => ⟨S1024x2048, .f32⟩
  | .hbm, ⟨4, _⟩ => ⟨S1024x2048, .f32⟩
  | .hbm, ⟨5, _⟩ => ⟨S2048x2048, .f32⟩
  | .hbm, ⟨6, _⟩ => ⟨S2048x5504, .f32⟩
  | .hbm, ⟨7, _⟩ => ⟨S2048x5504, .f32⟩
  | .hbm, ⟨8, _⟩ => ⟨S5504x2048, .f32⟩
  | .hbm, ⟨9, _⟩ => ⟨S2048x4096, .f32⟩
  | .hbm, ⟨10, _⟩ => ⟨S2048x4096, .f32⟩
  | .hbm, ⟨11, _⟩ => ⟨S2048x3072, .f32⟩
  | .hbm, ⟨12, _⟩ => ⟨S2048x11264, .f32⟩
  | .hbm, ⟨13, _⟩ => ⟨S2048x11264, .bf16⟩
  | .hbm, ⟨14, _⟩ => ⟨S2048x16, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S1x1024x2048, .f32⟩
  | .hbm, ⟨20, _⟩ => ⟨S1x1024x2048, .f32⟩
  | .hbm, ⟨21, _⟩ => ⟨S1x2048x2048, .f32⟩
  | .hbm, ⟨22, _⟩ => ⟨S1x2048x5504, .f32⟩
  | .hbm, ⟨23, _⟩ => ⟨S1x2048x5504, .f32⟩
  | .hbm, ⟨24, _⟩ => ⟨S1x5504x2048, .f32⟩
  | .hbm, ⟨25, _⟩ => ⟨S1x2048, .f32⟩
  | .hbm, ⟨26, _⟩ => ⟨S8192x11264, .bf16⟩
  | .hbm, ⟨27, _⟩ => ⟨S8192x128, .f32⟩
  | .hbm, ⟨28, _⟩ => ⟨S1024x2048, .bf16⟩
  | .hbm, ⟨29, _⟩ => ⟨S1024x2048, .bf16⟩
  | .hbm, ⟨30, _⟩ => ⟨S2048x2048, .bf16⟩
  | .hbm, ⟨31, _⟩ => ⟨S2048x5504, .bf16⟩
  | .hbm, ⟨32, _⟩ => ⟨S2048x5504, .bf16⟩
  | .hbm, ⟨33, _⟩ => ⟨S5504x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1x16x2048, .f32⟩
  | .local _ .vmem, ⟨7, _⟩ => ⟨S1x16x2048, .f32⟩
  | .local _ .vmem, ⟨8, _⟩ => ⟨S1x16x2048, .f32⟩
  | .local _ .vmem, ⟨9, _⟩ => ⟨S1x16x2048, .f32⟩
  | .local _ .vmem, ⟨10, _⟩ => ⟨S1x32x2048, .f32⟩
  | .local _ .vmem, ⟨11, _⟩ => ⟨S1x32x2048, .f32⟩
  | .local _ .vmem, ⟨12, _⟩ => ⟨S1x32x5504, .f32⟩
  | .local _ .vmem, ⟨13, _⟩ => ⟨S1x32x5504, .f32⟩
  | .local _ .vmem, ⟨14, _⟩ => ⟨S1x32x5504, .f32⟩
  | .local _ .vmem, ⟨15, _⟩ => ⟨S1x32x5504, .f32⟩
  | .local _ .vmem, ⟨16, _⟩ => ⟨S1x64x2048, .f32⟩
  | .local _ .vmem, ⟨17, _⟩ => ⟨S1x64x2048, .f32⟩
  | .local _ .vmem, ⟨18, _⟩ => ⟨S1024x1024, .bf16⟩
  | .local _ .vmem, ⟨19, _⟩ => ⟨S1024x1024, .bf16⟩
  | .local _ .vmem, ⟨20, _⟩ => ⟨S1024x128, .f32⟩
  | .local _ .vmem, ⟨21, _⟩ => ⟨S1024x128, .f32⟩
  | .local _ .vmem, ⟨22, _⟩ => ⟨S16x2048, .bf16⟩
  | .local _ .vmem, ⟨23, _⟩ => ⟨S16x2048, .bf16⟩
  | .local _ .vmem, ⟨24, _⟩ => ⟨S16x2048, .bf16⟩
  | .local _ .vmem, ⟨25, _⟩ => ⟨S16x2048, .bf16⟩
  | .local _ .vmem, ⟨26, _⟩ => ⟨S32x2048, .bf16⟩
  | .local _ .vmem, ⟨27, _⟩ => ⟨S32x2048, .bf16⟩
  | .local _ .vmem, ⟨28, _⟩ => ⟨S32x5504, .bf16⟩
  | .local _ .vmem, ⟨29, _⟩ => ⟨S32x5504, .bf16⟩
  | .local _ .vmem, ⟨30, _⟩ => ⟨S32x5504, .bf16⟩
  | .local _ .vmem, ⟨31, _⟩ => ⟨S32x5504, .bf16⟩
  | .local _ .vmem, ⟨32, _⟩ => ⟨S64x2048, .bf16⟩
  | .local _ .vmem, ⟨33, _⟩ => ⟨S64x2048, .bf16⟩
  | .local _ .vmem, ⟨34, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev main_v15_6 : Ref sig .tc := ⟨.hbm, 32, rfl⟩
abbrev main_v15_7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x5504 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x5504 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x5504 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x5504 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference5Ideal.lean ====
abbrev S8192x2048 : Shape := ⟨2, ![8192, 2048]⟩
abbrev S2048 : Shape := ⟨1, ![2048]⟩
abbrev S2048x11280 : Shape := ⟨2, ![2048, 11280]⟩
abbrev S1024x2048 : Shape := ⟨2, ![1024, 2048]⟩
abbrev S2048x2048 : Shape := ⟨2, ![2048, 2048]⟩
abbrev S2048x5504 : Shape := ⟨2, ![2048, 5504]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x11280 : Shape := ⟨2, ![8192, 11280]⟩
abbrev S8192x4096 : Shape := ⟨2, ![8192, 4096]⟩
abbrev S8192x3072 : Shape := ⟨2, ![8192, 3072]⟩
abbrev S8192x11264 : Shape := ⟨2, ![8192, 11264]⟩
abbrev S8192x16 : Shape := ⟨2, ![8192, 16]⟩
abbrev S8192x128 : Shape := ⟨2, ![8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11280, .f32⟩
  | .hbm, ⟨3, _⟩ => ⟨S1024x2048, .f32⟩
  | .hbm, ⟨4, _⟩ => ⟨S1024x2048, .f32⟩
  | .hbm, ⟨5, _⟩ => ⟨S2048x2048, .f32⟩
  | .hbm, ⟨6, _⟩ => ⟨S2048x5504, .f32⟩
  | .hbm, ⟨7, _⟩ => ⟨S2048x5504, .f32⟩
  | .hbm, ⟨8, _⟩ => ⟨S5504x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x11280, .f32⟩
  | .hbm, ⟨26, _⟩ => ⟨S8192x4096, .f32⟩
  | .hbm, ⟨27, _⟩ => ⟨S8192x4096, .f32⟩
  | .hbm, ⟨28, _⟩ => ⟨S8192x3072, .f32⟩
  | .hbm, ⟨29, _⟩ => ⟨S8192x11264, .f32⟩
  | .hbm, ⟨30, _⟩ => ⟨S8192x16, .f32⟩
  | .hbm, ⟨31, _⟩ => ⟨S_, .i32⟩
  | .hbm, ⟨32, _⟩ => ⟨S_, .f32⟩
  | .hbm, ⟨33, _⟩ => ⟨S8192x128, .f32⟩
  | .hbm, ⟨34, _⟩ => ⟨S8192x11264, .bf16⟩
  | .hbm, ⟨35, _⟩ => ⟨S1024x2048, .bf16⟩
  | .hbm, ⟨36, _⟩ => ⟨S1024x2048, .bf16⟩
  | .hbm, ⟨37, _⟩ => ⟨S2048x2048, .bf16⟩
  | .hbm, ⟨38, _⟩ => ⟨S2048x5504, .bf16⟩
  | .hbm, ⟨39, _⟩ => ⟨S2048x5504, .bf16⟩
  | .hbm, ⟨40, _⟩ => ⟨S5504x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel6.lean ====
abbrev S8192x11280 : Shape := ⟨2, ![8192, 11280]⟩
abbrev S128 : Shape := ⟨1, ![128]⟩
abbrev S8x320 : Shape := ⟨2, ![8, 320]⟩
abbrev S8192x4096 : Shape := ⟨2, ![8192, 4096]⟩
abbrev S8192x3072 : Shape := ⟨2, ![8192, 3072]⟩
abbrev S8192x11264 : Shape := ⟨2, ![8192, 11264]⟩
abbrev S8x1 : Shape := ⟨2, ![8, 1]⟩
abbrev S8x256 : Shape := ⟨2, ![8, 256]⟩
abbrev S8x192 : Shape := ⟨2, ![8, 192]⟩
abbrev S8x1024 : Shape := ⟨2, ![8, 1024]⟩
abbrev S8x1x1024 : Shape := ⟨3, ![8, 1, 1024]⟩
abbrev S1x128 : Shape := ⟨2, ![1, 128]⟩
abbrev S8192x1024 : Shape := ⟨2, ![8192, 1024]⟩
abbrev S2048x128 : Shape := ⟨2, ![2048, 128]⟩
abbrev S8192x128 : Shape := ⟨2, ![8192, 128]⟩
abbrev S1x1x1024 : Shape := ⟨3, ![1, 1, 1024]⟩
abbrev S256x768 : Shape := ⟨2, ![256, 768]⟩
abbrev S1x1024 : Shape := ⟨2, ![1, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 21
  | .vmem => 13
  | .smem => 0
  | _ => 0

abbrev bufTy : (tb : Table) → Fin (tcTables nBuf tb) → BufTy
  | .hbm, ⟨0, _⟩ => ⟨S8192x11280, .f32⟩
  | .hbm, ⟨1, _⟩ => ⟨S128, .f32⟩
  | .hbm, ⟨2, _⟩ => ⟨S128, .f32⟩
  | .hbm, ⟨3, _⟩ => ⟨S8x320, .f32⟩
  | .hbm, ⟨4, _⟩ => ⟨S8192x4096, .f32⟩
  | .hbm, ⟨5, _⟩ => ⟨S8192x4096, .f32⟩
  | .hbm, ⟨6, _⟩ => ⟨S8192x3072, .f32⟩
  | .hbm, ⟨7, _⟩ => ⟨S8192x11264, .f32⟩
  | .hbm, ⟨8, _⟩ => ⟨S8192x11264, .bf16⟩
  | .hbm, ⟨9, _⟩ => ⟨S8x1, .f32⟩
  | .hbm, ⟨10, _⟩ => ⟨S8x256, .f32⟩
  | .hbm, ⟨11, _⟩ => ⟨S8x320, .f32⟩
  | .hbm, ⟨12, _⟩ => ⟨S8x1, .f32⟩
  | .hbm, ⟨13, _⟩ => ⟨S8x192, .f32⟩
  | .hbm, ⟨14, _⟩ => ⟨S8x1, .f32⟩
  | .hbm, ⟨15, _⟩ => ⟨S8x256, .f32⟩
  | .hbm, ⟨16, _⟩ => ⟨S8x1024, .f32⟩
  | .hbm, ⟨17, _⟩ => ⟨S8x1x1024, .f32⟩
  | .hbm, ⟨18, _⟩ => ⟨S1x128, .f32⟩
  | .hbm, ⟨19, _⟩ => ⟨S1x128, .f32⟩
  | .hbm, ⟨20, _⟩ => ⟨S8192x1024, .bf16⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x1x1024, .f32⟩
  | .local _ .vmem, ⟨7, _⟩ => ⟨S1x1x1024, .f32⟩
  | .local _ .vmem, ⟨8, _⟩ => ⟨S1x128, .f32⟩
  | .local _ .vmem, ⟨9, _⟩ => ⟨S1x128, .f32⟩
  | .local _ .vmem, ⟨10, _⟩ => ⟨S2048x128, .bf16⟩
  | .local _ .vmem, ⟨11, _⟩ => ⟨S2048x128, .bf16⟩
  | .local _ .vmem, ⟨12, _⟩ => ⟨S256x768, .f32⟩
  | _, _ => ⟨S8192x11280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c8_i32 : BitVec 32 := 8#32
  let v5 : BitVec 32 := Scalar.muli arg1 c8_i32
  let c2_i32 : BitVec 32 := 2#32
  let v6 : BitVec 32 := Scalar.subi v5 c2_i32
  let c0_i32_2 : BitVec 32 := 0#32
  let v7 : BitVec 32 := Scalar.addi v6 c0_i32_2
  let c0_i32_3 : BitVec 32 := 0#32
  let v8 : BitVec 32 := Scalar.maxsi v7 c0_i32_3
  let c256_i32 : BitVec 32 := 256#32
  let v9 : BitVec 32 := Scalar.muli v8 c256_i32
  v9
def k0_off1 (i : grid0.Coords) (c0_i32_2 : BitVec 32) : Fin 2 → Nat :=
  let arg1 : BitVec 32 := BitVec.ofNat 32 (i 1).val
  let c8_i32 : BitVec 32 := 8#32
  let v5 : BitVec 32 := Scalar.muli arg1 c8_i32
  let c2_i32 : BitVec 32 := 2#32
  let v6 : BitVec 32 := Scalar.subi v5 c2_i32
  let v7 : BitVec 32 := Scalar.addi v6 c0_i32_2
  let c0_i32_3 : BitVec 32 := 0#32
  let v8 : BitVec 32 := Scalar.maxsi v7 c0_i32_3
  let c256_i32 : BitVec 32 := 256#32
  let v9 : BitVec 32 := Scalar.muli v8 c256_i32
  let v10 : BitVec 32 := v9
  let v11 : Index := Scalar.indexCast v10
  let c0_4 : Index := 0#32
  ![v11.toNat, 0]
def k0_mult2 (i : grid0.Coords) : BitVec 32 :=
  let arg1 : BitVec 32 := BitVec.ofNat 32 (i 1).val
  let c8_i32_9 : BitVec 32 := 8#32
  let v32 : BitVec 32 := Scalar.muli arg1 c8_i32_9
  let c2_i32_10 : BitVec 32 := 2#32
  let v33 : BitVec 32 := Scalar.subi v32 c2_i32_10
  let c1_i32 : BitVec 32 := 1#32
  let v34 : BitVec 32 := Scalar.addi v33 c1_i32
  let c0_i32_11 : BitVec 32 := 0#32
  let v35 : BitVec 32 := Scalar.maxsi v34 c0_i32_11
  let c256_i32_12 : BitVec 32 := 256#32
  let v36 : BitVec 32 := Scalar.muli v35 c256_i32_12
  v36
def k0_mult3 (i : grid0.Coords) : BitVec 32 :=
  let arg1 : BitVec 32 := BitVec.ofNat 32 (i 1).val
  let c8_i32_19 : BitVec 32 := 8#32
  let v59 : BitVec 32 := Scalar.muli arg1 c8_i32_19
  let c2_i32_20 : BitVec 32 := 2#32
  let v60 : BitVec 32 := Scalar.subi v59 c2_i32_20
  let c2_i32_21 : BitVec 32 := 2#32
  let v61 : BitVec 32 := Scalar.addi v60 c2_i32_21
  let c0_i32_22 : BitVec 32 := 0#32
  let v62 : BitVec 32 := Scalar.maxsi v61 c0_i32_22
  let c256_i32_23 : BitVec 32 := 256#32
  let v63 : BitVec 32 := Scalar.muli v62 c256_i32_23
  v63
def k0_mult4 (i : grid0.Coords) : BitVec 32 :=
  let arg1 : BitVec 32 := BitVec.ofNat 32 (i 1).val
  let c8_i32_30 : BitVec 32 := 8#32
  let v86 : BitVec 32 := Scalar.muli arg1 c8_i32_30
  let c2_i32_31 : BitVec 32 := 2#32
  let v87 : BitVec 32 := Scalar.subi v86 c2_i32_31
  let c3_i32 : BitVec 32 := 3#32
  let v88 : BitVec 32 := Scalar.addi v87 c3_i32
  let c0_i32_32 : BitVec 32 := 0#32
  let v89 : BitVec 32 := Scalar.maxsi v88 c0_i32_32
  let c256_i32_33 : BitVec 32 := 256#32
  let v90 : BitVec 32 := Scalar.muli v89 c256_i32_33
  v90
def k0_mult5 (i : grid0.Coords) : BitVec 32 :=
  let arg1 : BitVec 32 := BitVec.ofNat 32 (i 1).val
  let c8_i32_40 : BitVec 32 := 8#32
  let v113 : BitVec 32 := Scalar.muli arg1 c8_i32_40
  let c2_i32_41 : BitVec 32 := 2#32
  let v114 : BitVec 32 := Scalar.subi v113 c2_i32_41
  let c4_i32 : BitVec 32 := 4#32
  let v115 : BitVec 32 := Scalar.addi v114 c4_i32
  let c0_i32_42 : BitVec 32 := 0#32
  let v116 : BitVec 32 := Scalar.maxsi v115 c0_i32_42
  let c256_i32_43 : BitVec 32 := 256#32
  let v117 : BitVec 32 := Scalar.muli v116 c256_i32_43
  v117
def k0_mult6 (i : grid0.Coords) : BitVec 32 :=
  let arg1 : BitVec 32 := BitVec.ofNat 32 (i 1).val
  let c8_i32_50 : BitVec 32 := 8#32
  let v140 : BitVec 32 := Scalar.muli arg1 c8_i32_50
  let c2_i32_51 : BitVec 32 := 2#32
  let v141 : BitVec 32 := Scalar.subi v140 c2_i32_51
  let c5_i32 : BitVec 32 := 5#32
  let v142 : BitVec 32 := Scalar.addi v141 c5_i32
  let c0_i32_52 : BitVec 32 := 0#32
  let v143 : BitVec 32 := Scalar.maxsi v142 c0_i32_52
  let c256_i32_53 : BitVec 32 := 256#32
  let v144 : BitVec 32 := Scalar.muli v143 c256_i32_53
  v144
def k0_mult7 (i : grid0.Coords) : BitVec 32 :=
  let arg1 : BitVec 32 := BitVec.ofNat 32 (i 1).val
  let c8_i32_60 : BitVec 32 := 8#32
  let v167 : BitVec 32 := Scalar.muli arg1 c8_i32_60
  let c2_i32_61 : BitVec 32 := 2#32
  let v168 : BitVec 32 := Scalar.subi v167 c2_i32_61
  let c6_i32 : BitVec 32 := 6#32
  let v169 : BitVec 32 := Scalar.addi v168 c6_i32
  let c0_i32_62 : BitVec 32 := 0#32
  let v170 : BitVec 32 := Scalar.maxsi v169 c0_i32_62
  let c256_i32_63 : BitVec 32 := 256#32
  let v171 : BitVec 32 := Scalar.muli v170 c256_i32_63
  v171
def k0_mult8 (i : grid0.Coords) : BitVec 32 :=
  let arg1 : BitVec 32 := BitVec.ofNat 32 (i 1).val
  let c8_i32_70 : BitVec 32 := 8#32
  let v194 : BitVec 32 := Scalar.muli arg1 c8_i32_70
  let c2_i32_71 : BitVec 32 := 2#32
  let v195 : BitVec 32 := Scalar.subi v194 c2_i32_71
  let c7_i32 : BitVec 32 := 7#32
  let v196 : BitVec 32 := Scalar.addi v195 c7_i32
  let c0_i32_72 : BitVec 32 := 0#32
  let v197 : BitVec 32 := Scalar.maxsi v196 c0_i32_72
  let c256_i32_73 : BitVec 32 := 256#32
  let v198 : BitVec 32 := Scalar.muli v197 c256_i32_73
  v198
def k0_mult9 (i : grid0.Coords) : BitVec 32 :=
  let arg1 : BitVec 32 := BitVec.ofNat 32 (i 1).val
  let c8_i32_80 : BitVec 32 := 8#32
  let v221 : BitVec 32 := Scalar.muli arg1 c8_i32_80
  let c2_i32_81 : BitVec 32 := 2#32
  let v222 : BitVec 32 := Scalar.subi v221 c2_i32_81
  let c8_i32_82 : BitVec 32 := 8#32
  let v223 : BitVec 32 := Scalar.addi v222 c8_i32_82
  let c0_i32_83 : BitVec 32 := 0#32
  let v224 : BitVec 32 := Scalar.maxsi v223 c0_i32_83
  let c256_i32_84 : BitVec 32 := 256#32
  let v225 : BitVec 32 := Scalar.muli v224 c256_i32_84
  v225
def k0_mult10 (i : grid0.Coords) : BitVec 32 :=
  let arg1 : BitVec 32 := BitVec.ofNat 32 (i 1).val
  let c8_i32_91 : BitVec 32 := 8#32
  let v248 : BitVec 32 := Scalar.muli arg1 c8_i32_91
  let c2_i32_92 : BitVec 32 := 2#32
  let v249 : BitVec 32 := Scalar.subi v248 c2_i32_92
  let c9_i32 : BitVec 32 := 9#32
  let v250 : BitVec 32 := Scalar.addi v249 c9_i32
  let c0_i32_93 : BitVec 32 := 0#32
  let v251 : BitVec 32 := Scalar.maxsi v250 c0_i32_93
  let c256_i32_94 : BitVec 32 := 256#32
  let v252 : BitVec 32 := Scalar.muli v251 c256_i32_94
  v252
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel6Ideal.lean ====
variable {F : FTy → Type} [FloatOps F] [Named F]
def κ : String → Option EReal := fun
  | "mask" => some ⊥
  | _ => none
-- ==== Reference6Ideal.lean ====
abbrev S8192x11280 : Shape := ⟨2, ![8192, 11280]⟩
abbrev S128 : Shape := ⟨1, ![128]⟩
abbrev S8x320 : Shape := ⟨2, ![8, 320]⟩
abbrev S8192x1024 : Shape := ⟨2, ![8192, 1024]⟩
abbrev S8192x8x128 : Shape := ⟨3, ![8192, 8, 128]⟩
abbrev S8x8192x128 : Shape := ⟨3, ![8, 8192, 128]⟩
abbrev S_ : Shape := ⟨0, ![]⟩
abbrev S8x8192 : Shape := ⟨2, ![8, 8192]⟩
abbrev S8x8192x1 : Shape := ⟨3, ![8, 8192, 1]⟩
abbrev S1x1x128 : Shape := ⟨3, ![1, 1, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S8x8192x8192 : Shape := ⟨3, ![8, 8192, 8192]⟩

abbrev nBuf : Space → Nat
  | .hbm => 114
  | .vmem => 0
  | .smem => 0
  | _ => 0

abbrev bufTy : (tb : Table) → Fin (tcTables nBuf tb) → BufTy
  | .hbm, ⟨0, _⟩ => ⟨S8192x11280, .f32⟩
  | .hbm, ⟨1, _⟩ => ⟨S128, .f32⟩
  | .hbm, ⟨2, _⟩ => ⟨S128, .f32⟩
  | .hbm, ⟨3, _⟩ => ⟨S8x320, .f32⟩
  | .hbm, ⟨4, _⟩ => ⟨S8192x1024, .f32⟩
  | .hbm, ⟨5, _⟩ => ⟨S8192x8x128, .f32⟩
  | .hbm, ⟨6, _⟩ => ⟨S8x8192x128, .f32⟩
  | .hbm, ⟨7, _⟩ => ⟨S8x8192x128, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S8x8192x1, .f32⟩
  | .hbm, ⟨18, _⟩ => ⟨S8x8192x128, .f32⟩
  | .hbm, ⟨19, _⟩ => ⟨S8x8192x128, .f32⟩
  | .hbm, ⟨20, _⟩ => ⟨S1x1x128, .f32⟩
  | .hbm, ⟨21, _⟩ => ⟨S8x8192x128, .f32⟩
  | .hbm, ⟨22, _⟩ => ⟨S8x8192x128, .f32⟩
  | .hbm, ⟨23, _⟩ => ⟨S8192x1024, .f32⟩
  | .hbm, ⟨24, _⟩ => ⟨S8192x8x128, .f32⟩
  | .hbm, ⟨25, _⟩ => ⟨S8x8192x128, .f32⟩
  | .hbm, ⟨26, _⟩ => ⟨S8x8192x128, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S_, .f32⟩
  | .hbm, ⟨31, _⟩ => ⟨S8x8192x1, .f32⟩
  | .hbm, ⟨32, _⟩ => ⟨S8x8192x1, .f32⟩
  | .hbm, ⟨33, _⟩ => ⟨S_, .f32⟩
  | .hbm, ⟨34, _⟩ => ⟨S8x8192x1, .f32⟩
  | .hbm, ⟨35, _⟩ => ⟨S8x8192x1, .f32⟩
  | .hbm, ⟨36, _⟩ => ⟨S8x8192x1, .f32⟩
  | .hbm, ⟨37, _⟩ => ⟨S8x8192x128, .f32⟩
  | .hbm, ⟨38, _⟩ => ⟨S8x8192x128, .f32⟩
  | .hbm, ⟨39, _⟩ => ⟨S1x1x128, .f32⟩
  | .hbm, ⟨40, _⟩ => ⟨S8x8192x128, .f32⟩
  | .hbm, ⟨41, _⟩ => ⟨S8x8192x128, .f32⟩
  | .hbm, ⟨42, _⟩ => ⟨S8192x1024, .f32⟩
  | .hbm, ⟨43, _⟩ => ⟨S8192x8x128, .f32⟩
  | .hbm, ⟨44, _⟩ => ⟨S8x8192x128, .f32⟩
  | .hbm, ⟨45, _⟩ => ⟨S8192, .i32⟩
  | .hbm, ⟨46, _⟩ => ⟨S8192x1, .i32⟩
  | .hbm, ⟨47, _⟩ => ⟨S1x8192, .i32⟩
  | .hbm, ⟨48, _⟩ => ⟨S8192x8192, .i32⟩
  | .hbm, ⟨49, _⟩ => ⟨S8192x8192, .i32⟩
  | .hbm, ⟨50, _⟩ => ⟨S8192x8192, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S8192x8192, .i32⟩
  | .hbm, ⟨55, _⟩ => ⟨S8192x8192, .i32⟩
  | .hbm, ⟨56, _⟩ => ⟨S_, .i32⟩
  | .hbm, ⟨57, _⟩ => ⟨S8192x8192, .i32⟩
  | .hbm, ⟨58, _⟩ => ⟨S8192x8192, .i32⟩
  | .hbm, ⟨59, _⟩ => ⟨S_, .i32⟩
  | .hbm, ⟨60, _⟩ => ⟨S8192x8192, .i32⟩
  | .hbm, ⟨61, _⟩ => ⟨S8192x8192, .i32⟩
  | .hbm, ⟨62, _⟩ => ⟨S_, .i32⟩
  | .hbm, ⟨63, _⟩ => ⟨S8192x8192, .i32⟩
  | .hbm, ⟨64, _⟩ => ⟨S8192x8192, .i1⟩
  | .hbm, ⟨65, _⟩ => ⟨S_, .i32⟩
  | .hbm, ⟨66, _⟩ => ⟨S8192x8192, .i32⟩
  | .hbm, ⟨67, _⟩ => ⟨S8192x8192, .i32⟩
  | .hbm, ⟨68, _⟩ => ⟨S8192x8192, .i32⟩
  | .hbm, ⟨69, _⟩ => ⟨S8192x8192x1, .i32⟩
  | .hbm, ⟨70, _⟩ => ⟨S8x8192x8192, .f32⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192x1, .i32⟩
  | .hbm, ⟨75, _⟩ => ⟨S1x8192, .i32⟩
  | .hbm, ⟨76, _⟩ => ⟨S8192x8192, .i32⟩
  | .hbm, ⟨77, _⟩ => ⟨S8192x8192, .i32⟩
  | .hbm, ⟨78, _⟩ => ⟨S8192x8192, .i32⟩
  | .hbm, ⟨79, _⟩ => ⟨S8x8192x8192, .f32⟩
  | .hbm, ⟨80, _⟩ => ⟨S_, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S_, .i32⟩
  | .hbm, ⟨85, _⟩ => ⟨S8192x8192, .i32⟩
  | .hbm, ⟨86, _⟩ => ⟨S8192x8192, .i1⟩
  | .hbm, ⟨87, _⟩ => ⟨S_, .i32⟩
  | .hbm, ⟨88, _⟩ => ⟨S8192x8192, .i32⟩
  | .hbm, ⟨89, _⟩ => ⟨S8192x8192, .i1⟩
  | .hbm, ⟨90, _⟩ => ⟨S8192x8192, .i1⟩
  | .hbm, ⟨91, _⟩ => ⟨S_, .f32⟩
  | .hbm, ⟨92, _⟩ => ⟨S_, .f32⟩
  | .hbm, ⟨93, _⟩ => ⟨S8x8192x8192, .i1⟩
  | .hbm, ⟨94, _⟩ => ⟨S8x8192x8192, .f32⟩
  | .hbm, ⟨95, _⟩ => ⟨S8x8192x8192, .f32⟩
  | .hbm, ⟨96, _⟩ => ⟨S_, .f32⟩
  | .hbm, ⟨97, _⟩ => ⟨S8x8192, .f32⟩
  | .hbm, ⟨98, _⟩ => ⟨S_, .f32⟩
  | .hbm, ⟨99, _⟩ => ⟨S8x8192, .f32⟩
  | .hbm, ⟨100, _⟩ => ⟨S8x8192, .f32⟩
  | .hbm, ⟨101, _⟩ => ⟨S8x8192x1, .f32⟩
  | .hbm, ⟨102, _⟩ => ⟨S8x8192x8192, .f32⟩
  | .hbm, ⟨103, _⟩ => ⟨S8x8192x8192, .f32⟩
  | .hbm, ⟨104, _⟩ => ⟨S8x8192x8192, .f32⟩
  | .hbm, ⟨105, _⟩ => ⟨S_, .f32⟩
  | .hbm, ⟨106, _⟩ => ⟨S8x8192, .f32⟩
  | .hbm, ⟨107, _⟩ => ⟨S8x8192x1, .f32⟩
  | .hbm, ⟨108, _⟩ => ⟨S8x8192x8192, .f32⟩
  | .hbm, ⟨109, _⟩ => ⟨S8x8192x8192, .f32⟩
  | .hbm, ⟨110, _⟩ => ⟨S8x8192x128, .f32⟩
  | .hbm, ⟨111, _⟩ => ⟨S8192x8x128, .f32⟩
  | .hbm, ⟨112, _⟩ => ⟨S8192x1024, .f32⟩
  | .hbm, ⟨113, _⟩ => ⟨S8192x1024, .bf16⟩
  | _, _ => ⟨S8192x11280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c : Ref sig .tc := ⟨.hbm, 51, rfl⟩
abbrev main_c_5 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_cst_15 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Kernel7.lean ====
abbrev S8192x11280 : Shape := ⟨2, ![8192, 11280]⟩
abbrev S4x3072 : Shape := ⟨2, ![4, 3072]⟩
abbrev S8 : Shape := ⟨1, ![8]⟩
abbrev S128 : Shape := ⟨1, ![128]⟩
abbrev S8192x4096 : Shape := ⟨2, ![8192, 4096]⟩
abbrev S8192x3072 : Shape := ⟨2, ![8192, 3072]⟩
abbrev S8192x11264 : Shape := ⟨2, ![8192, 11264]⟩
abbrev S8192x16 : Shape := ⟨2, ![8192, 16]⟩
abbrev S_ : Shape := ⟨0, ![]⟩
abbrev S8192x128 : Shape := ⟨2, ![8192, 128]⟩
abbrev S1x8 : Shape := ⟨2, ![1, 8]⟩
abbrev S1x128 : Shape := ⟨2, ![1, 128]⟩
abbrev S8192x1024 : Shape := ⟨2, ![8192, 1024]⟩
abbrev S128x3072 : Shape := ⟨2, ![128, 3072]⟩
abbrev S128x1024 : Shape := ⟨2, ![128, 1024]⟩
abbrev S128x128 : Shape := ⟨2, ![128, 128]⟩
abbrev S8x3072 : Shape := ⟨2, ![8, 3072]⟩
abbrev S1024x128 : Shape := ⟨2, ![1024, 128]⟩
abbrev S136x3072 : Shape := ⟨2, ![136, 3072]⟩
abbrev S1x3072 : Shape := ⟨2, ![1, 3072]⟩
abbrev S128x1 : Shape := ⟨2, ![128, 1]⟩
abbrev S256x128 : Shape := ⟨2, ![256, 128]⟩
abbrev S128x256 : Shape := ⟨2, ![128, 256]⟩
abbrev S64x128 : Shape := ⟨2, ![64, 128]⟩
abbrev S64x256 : Shape := ⟨2, ![64, 256]⟩
abbrev S192x128 : Shape := ⟨2, ![192, 128]⟩
abbrev S1x1 : Shape := ⟨2, ![1, 1]⟩

abbrev nBuf : Space → Nat
  | .hbm => 24
  | .vmem => 14
  | .smem => 0
  | _ => 0

abbrev bufTy : (tb : Table) → Fin (tcTables nBuf tb) → BufTy
  | .hbm, ⟨0, _⟩ => ⟨S8192x11280, .f32⟩
  | .hbm, ⟨1, _⟩ => ⟨S4x3072, .f32⟩
  | .hbm, ⟨2, _⟩ => ⟨S8, .f32⟩
  | .hbm, ⟨3, _⟩ => ⟨S8, .f32⟩
  | .hbm, ⟨4, _⟩ => ⟨S128, .f32⟩
  | .hbm, ⟨5, _⟩ => ⟨S8192x4096, .f32⟩
  | .hbm, ⟨6, _⟩ => ⟨S8192x4096, .f32⟩
  | .hbm, ⟨7, _⟩ => ⟨S8192x3072, .f32⟩
  | .hbm, ⟨8, _⟩ => ⟨S8192x11264, .f32⟩
  | .hbm, ⟨9, _⟩ => ⟨S8192x11264, .bf16⟩
  | .hbm, ⟨10, _⟩ => ⟨S8192x16, .f32⟩
  | .hbm, ⟨11, _⟩ => ⟨S_, .i32⟩
  | .hbm, ⟨12, _⟩ => ⟨S_, .f32⟩
  | .hbm, ⟨13, _⟩ => ⟨S8192x128, .f32⟩
  | .hbm, ⟨14, _⟩ => ⟨S1x8, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1x8, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S8192x1024, .bf16⟩
  | .local _ .vmem, ⟨0, _⟩ => ⟨S128x3072, .bf16⟩
  | .local _ .vmem, ⟨1, _⟩ => ⟨S128x3072, .bf16⟩
  | .local _ .vmem, ⟨2, _⟩ => ⟨S128x1024, .bf16⟩
  | .local _ .vmem, ⟨3, _⟩ => ⟨S128x1024, .bf16⟩
  | .local _ .vmem, ⟨4, _⟩ => ⟨S128x128, .f32⟩
  | .local _ .vmem, ⟨5, _⟩ => ⟨S128x128, .f32⟩
  | .local _ .vmem, ⟨6, _⟩ => ⟨S4x3072, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x1024, .bf16⟩
  | .local _ .vmem, ⟨11, _⟩ => ⟨S128x1024, .bf16⟩
  | .local _ .vmem, ⟨12, _⟩ => ⟨S8x3072, .f32⟩
  | .local _ .vmem, ⟨13, _⟩ => ⟨S1024x128, .f32⟩
  | _, _ => ⟨S8192x11280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x11280 : Shape := ⟨2, ![8192, 11280]⟩
abbrev S4x3072 : Shape := ⟨2, ![4, 3072]⟩
abbrev S8 : Shape := ⟨1, ![8]⟩
abbrev S128 : Shape := ⟨1, ![128]⟩
abbrev S8192x3072 : Shape := ⟨2, ![8192, 3072]⟩
abbrev S_ : Shape := ⟨0, ![]⟩
abbrev S8195x3072 : Shape := ⟨2, ![8195, 3072]⟩
abbrev S1x3072 : Shape := ⟨2, ![1, 3072]⟩
abbrev S3072 : Shape := ⟨1, ![3072]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩
abbrev S1x8 : Shape := ⟨2, ![1, 8]⟩
abbrev S8x128x128 : Shape := ⟨3, ![8, 128, 128]⟩
abbrev S1x8x128 : Shape := ⟨3, ![1, 8, 128]⟩
abbrev S8x128 : Shape := ⟨2, ![8, 128]⟩
abbrev S8x1x1 : Shape := ⟨3, ![8, 1, 1]⟩
abbrev S8x1 : Shape := ⟨2, ![8, 1]⟩
abbrev S8x128x1 : Shape := ⟨3, ![8, 128, 1]⟩
abbrev S8x1x128 : Shape := ⟨3, ![8, 1, 128]⟩
abbrev S1x1x128 : Shape := ⟨3, ![1, 1, 128]⟩

abbrev nBuf : Space → Nat
  | .hbm => 178
  | .vmem => 0
  | .smem => 0
  | _ => 0

abbrev hbmTy0_0 (i : Nat) : BufTy := match i % 128 with
  | 0 => ⟨S8192x11280, .f32⟩
  | 1 => ⟨S4x3072, .f32⟩
  | 2 => ⟨S8, .f32⟩
  | 3 => ⟨S8, .f32⟩
  | 4 => ⟨S128, .f32⟩
  | 5 => ⟨S8192x3072, .f32⟩
  | 6 => ⟨S_, .i32⟩
  | 7 => ⟨S_, .f32⟩
  | 8 => ⟨S8195x3072, .f32⟩
  | 9 => ⟨S1x3072, .f32⟩
  | 10 => ⟨S3072, .f32⟩
  | 11 => ⟨S8192x3072, .f32⟩
  | 12 => ⟨S1x3072, .f32⟩
  | 13 => ⟨S8192x3072, .f32⟩
  | 14 => ⟨S8192x3072, .f32⟩
  | 15 => ⟨S1x3072, .f32⟩
  | 16 => ⟨S3072, .f32⟩
  | 17 => ⟨S8192x3072, .f32⟩
  | 18 => ⟨S1x3072, .f32⟩
  | 19 => ⟨S8192x3072, .f32⟩
  | 20 => ⟨S8192x3072, .f32⟩
  | 21 => ⟨S8192x3072, .f32⟩
  | 22 => ⟨S1x3072, .f32⟩
  | 23 => ⟨S3072, .f32⟩
  | 24 => ⟨S8192x3072, .f32⟩
  | 25 => ⟨S1x3072, .f32⟩
  | 26 => ⟨S8192x3072, .f32⟩
  | 27 => ⟨S8192x3072, .f32⟩
  | 28 => ⟨S8192x3072, .f32⟩
  | 29 => ⟨S1x3072, .f32⟩
  | 30 => ⟨S3072, .f32⟩
  | 31 => ⟨S8192x3072, .f32⟩
  | 32 => ⟨S1x3072, .f32⟩
  | 33 => ⟨S8192x3072, .f32⟩
  | 34 => ⟨S8192x3072, .f32⟩
  | 35 => ⟨S8192x3072, .f32⟩
  | 36 => ⟨S8192x3072, .f32⟩
  | 37 => ⟨S8192x3072, .f32⟩
  | 38 => ⟨S_, .f32⟩
  | 39 => ⟨S8192x3072, .f32⟩
  | 40 => ⟨S8192x3072, .f32⟩
  | 41 => ⟨S8192x3072, .f32⟩
  | 42 => ⟨S8192x1024, .f32⟩
  | 43 => ⟨S8192x8x128, .f32⟩
  | 44 => ⟨S8192x8x128, .f32⟩
  | 45 => ⟨S_, .f32⟩
  | 46 => ⟨S8192x8, .f32⟩
  | 47 => ⟨S8192x8x1, .f32⟩
  | 48 => ⟨S_, .f32⟩
  | 49 => ⟨S8192x8x1, .f32⟩
  | 50 => ⟨S8192x8x1, .f32⟩
  | 51 => ⟨S8192x8x1, .f32⟩
  | 52 => ⟨S8192x8x128, .f32⟩
  | 53 => ⟨S8192x8x128, .f32⟩
  | 54 => ⟨S_, .f32⟩
  | 55 => ⟨S8192x8x128, .f32⟩
  | 56 => ⟨S8192x8x128, .f32⟩
  | 57 => ⟨S8192x1024, .f32⟩
  | 58 => ⟨S8192x8x128, .f32⟩
  | 59 => ⟨S8192x8x128, .f32⟩
  | 60 => ⟨S_, .f32⟩
  | 61 => ⟨S8192x8, .f32⟩
  | 62 => ⟨S8192x8x1, .f32⟩
  | 63 => ⟨S_, .f32⟩
  | 64 => ⟨S8192x8x1, .f32⟩
  | 65 => ⟨S8192x8x1, .f32⟩
  | 66 => ⟨S8192x8x1, .f32⟩
  | 67 => ⟨S8192x8x128, .f32⟩
  | 68 => ⟨S8192x8x128, .f32⟩
  | 69 => ⟨S8192x1024, .f32⟩
  | 70 => ⟨S8192x8x128, .f32⟩
  | 71 => ⟨S8192x8, .f32⟩
  | 72 => ⟨S1x8, .f32⟩
  | 73 => ⟨S8192x8, .f32⟩
  | 74 => ⟨S8192x8, .f32⟩
  | 75 => ⟨S8, .f32⟩
  | 76 => ⟨S8, .f32⟩
  | 77 => ⟨S_, .f32⟩
  | 78 => ⟨S8192x8, .f32⟩
  | 79 => ⟨S8192x8, .f32⟩
  | 80 => ⟨S8192x8, .f32⟩
  | 81 => ⟨S8192x8, .f32⟩
  | 82 => ⟨S8192x8, .f32⟩
  | 83 => ⟨S8192x8, .f32⟩
  | 84 => ⟨S8192x8, .f32⟩
  | 85 => ⟨S1x8, .f32⟩
  | 86 => ⟨S8192x8, .f32⟩
  | 87 => ⟨S8192x8, .f32⟩
  | 88 => ⟨S8192x8, .f32⟩
  | 89 => ⟨S8192x8, .f32⟩
  | 90 => ⟨S8192x8, .f32⟩
  | 91 => ⟨S_, .f32⟩
  | 92 => ⟨S8192x8, .f32⟩
  | 93 => ⟨S8192x8, .f32⟩
  | 94 => ⟨S_, .f32⟩
  | 95 => ⟨S8192x8, .f32⟩
  | 96 => ⟨S8192x8, .f32⟩
  | 97 => ⟨S_, .f32⟩
  | 98 => ⟨S8x128x128, .f32⟩
  | 99 => ⟨S_, .f32⟩
  | 100 => ⟨S8192x8x128, .f32⟩
  | 101 => ⟨S_, .i32⟩
  | 102 => ⟨S8192x8x128, .f32⟩
  | 103 => ⟨S8192x8x128, .f32⟩
  | 104 => ⟨S8192x8x128, .f32⟩
  | 105 => ⟨S8192x8, .f32⟩
  | 106 => ⟨S8192x8, .f32⟩
  | 107 => ⟨S_, .i32⟩
  | 108 => ⟨S8x128x128, .f32⟩
  | 109 => ⟨S8192x8x128, .f32⟩
  | 110 => ⟨S_, .i32⟩
  | 111 => ⟨S_, .i1⟩
  | 112 => ⟨S_, .i32⟩
  | 113 => ⟨S_, .i32⟩
  | 114 => ⟨S1x8x128, .f32⟩
  | 115 => ⟨S8x128, .f32⟩
  | 116 => ⟨S_, .i32⟩
  | 117 => ⟨S_, .i32⟩
  | 118 => ⟨S1x8x128, .f32⟩
  | 119 => ⟨S8x128, .f32⟩
  | 120 => ⟨S_, .i32⟩
  | 121 => ⟨S_, .i32⟩
  | 122 => ⟨S1x8x128, .f32⟩
  | 123 => ⟨S8x128, .f32⟩
  | 124 => ⟨S_, .i32⟩
  | 125 => ⟨S1x8, .f32⟩
  | 126 => ⟨S8, .f32⟩
  | 127 => ⟨S_, .i32⟩
  | _ => ⟨S8192x11280, .f32⟩

abbrev hbmTy0_1 (i : Nat) : BufTy := match i % 128 with
  | 0 => ⟨S1x8, .f32⟩
  | 1 => ⟨S8, .f32⟩
  | 2 => ⟨S8, .f32⟩
  | 3 => ⟨S8x1x1, .f32⟩
  | 4 => ⟨S8x128x128, .f32⟩
  | 5 => ⟨S8x128x128, .f32⟩
  | 6 => ⟨S8x1, .f32⟩
  | 7 => ⟨S8x128, .f32⟩
  | 8 => ⟨S8x128, .f32⟩
  | 9 => ⟨S8x128, .f32⟩
  | 10 => ⟨S8x128, .f32⟩
  | 11 => ⟨S8x128x1, .f32⟩
  | 12 => ⟨S8x1x128, .f32⟩
  | 13 => ⟨S8x128x128, .f32⟩
  | 14 => ⟨S8x128x128, .f32⟩
  | 15 => ⟨S8x128x128, .f32⟩
  | 16 => ⟨S8x128x128, .f32⟩
  | 17 => ⟨S8x128, .f32⟩
  | 18 => ⟨S1x8x128, .f32⟩
  | 19 => ⟨S_, .i32⟩
  | 20 => ⟨S_, .i32⟩
  | 21 => ⟨S8192x8x128, .f32⟩
  | 22 => ⟨S_, .i32⟩
  | 23 => ⟨S_, .i32⟩
  | 24 => ⟨S8192x8x128, .f32⟩
  | 25 => ⟨S_, .f32⟩
  | 26 => ⟨S8192x8, .f32⟩
  | 27 => ⟨S8192x8x1, .f32⟩
  | 28 => ⟨S_, .f32⟩
  | 29 => ⟨S8192x8x1, .f32⟩
  | 30 => ⟨S8192x8x1, .f32⟩
  | 31 => ⟨S_, .f32⟩
  | 32 => ⟨S8192x8x1, .f32⟩
  | 33 => ⟨S8192x8x1, .f32⟩
  | 34 => ⟨S8192x8x1, .f32⟩
  | 35 => ⟨S8192x8x128, .f32⟩
  | 36 => ⟨S8192x8x128, .f32⟩
  | 37 => ⟨S1x1x128, .f32⟩
  | 38 => ⟨S8192x8x128, .f32⟩
  | 39 => ⟨S8192x8x128, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S8192x1024, .f32⟩
  | 49 => ⟨S8192x1024, .bf16⟩
  | _ => ⟨S8192x11280, .f32⟩

abbrev hbmTy (i : Nat) : BufTy := match i / 128 with
  | 0 => hbmTy0_0 i
  | 1 => hbmTy0_1 i
  | _ => ⟨S8192x11280, .f32⟩

abbrev bufTy : (tb : Table) → Fin (tcTables nBuf tb) → BufTy
  | .hbm, ⟨i, _⟩ => hbmTy i
  | _, _ => ⟨S8192x11280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_0 : Ref sig .tc := ⟨.hbm, 45, rfl⟩
abbrev main_v37 : Ref sig .tc := ⟨.hbm, 46, rfl⟩
abbrev main_v38 : Ref sig .tc := ⟨.hbm, 47, rfl⟩
abbrev main_cst_1 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_3 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_5 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_6 : Ref sig .tc := ⟨.hbm, 91, rfl⟩
abbrev main_v77 : Ref sig .tc := ⟨.hbm, 92, rfl⟩
abbrev main_v78 : Ref sig .tc := ⟨.hbm, 93, rfl⟩
abbrev main_cst_7 : Ref sig .tc := ⟨.hbm, 94, rfl⟩
abbrev main_v79 : Ref sig .tc := ⟨.hbm, 95, rfl⟩
abbrev main_v80 : Ref sig .tc := ⟨.hbm, 96, rfl⟩
abbrev main_cst_8 : Ref sig .tc := ⟨.hbm, 97, rfl⟩
abbrev main_v81 : Ref sig .tc := ⟨.hbm, 98, rfl⟩
abbrev main_cst_9 : Ref sig .tc := ⟨.hbm, 99, rfl⟩
abbrev main_v82 : Ref sig .tc := ⟨.hbm, 100, rfl⟩
abbrev main_c_10 : Ref sig .tc := ⟨.hbm, 101, rfl⟩
abbrev main_v83_0 : Ref sig .tc := ⟨.hbm, 102, rfl⟩
abbrev main_v83_1 : Ref sig .tc := ⟨.hbm, 103, rfl⟩
abbrev main_v83_2 : Ref sig .tc := ⟨.hbm, 104, rfl⟩
abbrev main_v83_3 : Ref sig .tc := ⟨.hbm, 105, rfl⟩
abbrev main_v83_4 : Ref sig .tc := ⟨.hbm, 106, rfl⟩
abbrev main_v83_5 : Ref sig .tc := ⟨.hbm, 107, rfl⟩
abbrev main_v83_6 : Ref sig .tc := ⟨.hbm, 108, rfl⟩
abbrev main_v83_7 : Ref sig .tc := ⟨.hbm, 109, rfl⟩
abbrev main_while0c_c_22 : Ref sig .tc := ⟨.hbm, 110, rfl⟩
abbrev main_while0c_v106 : Ref sig .tc := ⟨.hbm, 111, rfl⟩
abbrev main_while0b_call1_c : Ref sig .tc := ⟨.hbm, 112, rfl⟩
abbrev main_while0b_call1_c_0 : Ref sig .tc := ⟨.hbm, 113, rfl⟩
abbrev main_while0b_call1_v0 : Ref sig .tc := ⟨.hbm, 114, rfl⟩
abbrev main_while0b_v106 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_v0 : Ref sig .tc := ⟨.hbm, 118, rfl⟩
abbrev main_while0b_v107 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_v0 : Ref sig .tc := ⟨.hbm, 122, rfl⟩
abbrev main_while0b_v108 : Ref sig .tc := ⟨.hbm, 123, rfl⟩
abbrev main_while0b_call4_c : Ref sig .tc := ⟨.hbm, 124, rfl⟩
abbrev main_while0b_call4_v0 : Ref sig .tc := ⟨.hbm, 125, rfl⟩
abbrev main_while0b_v109 : Ref sig .tc := ⟨.hbm, 126, rfl⟩
abbrev main_while0b_call5_c : Ref sig .tc := ⟨.hbm, 127, rfl⟩
abbrev main_while0b_call5_v0 : Ref sig .tc := ⟨.hbm, 128, rfl⟩
abbrev main_while0b_v110 : Ref sig .tc := ⟨.hbm, 129, rfl⟩
abbrev main_while0b_v111 : Ref sig .tc := ⟨.hbm, 130, rfl⟩
abbrev main_while0b_v112 : Ref sig .tc := ⟨.hbm, 131, rfl⟩
abbrev main_while0b_v113 : Ref sig .tc := ⟨.hbm, 132, rfl⟩
abbrev main_while0b_v114 : Ref sig .tc := ⟨.hbm, 133, rfl⟩
abbrev main_while0b_v115 : Ref sig .tc := ⟨.hbm, 134, rfl⟩
abbrev main_while0b_v116 : Ref sig .tc := ⟨.hbm, 135, rfl⟩
abbrev main_while0b_v117 : Ref sig .tc := ⟨.hbm, 136, rfl⟩
abbrev main_while0b_v118 : Ref sig .tc := ⟨.hbm, 137, rfl⟩
abbrev main_while0b_v119 : Ref sig .tc := ⟨.hbm, 138, rfl⟩
abbrev main_while0b_v120 : Ref sig .tc := ⟨.hbm, 139, rfl⟩
abbrev main_while0b_v121 : Ref sig .tc := ⟨.hbm, 140, rfl⟩
abbrev main_while0b_v122 : Ref sig .tc := ⟨.hbm, 141, rfl⟩
abbrev main_while0b_v123 : Ref sig .tc := ⟨.hbm, 142, rfl⟩
abbrev main_while0b_v124 : Ref sig .tc := ⟨.hbm, 143, rfl⟩
abbrev main_while0b_v125 : Ref sig .tc := ⟨.hbm, 144, rfl⟩
abbrev main_while0b_v126 : Ref sig .tc := ⟨.hbm, 145, rfl⟩
abbrev main_while0b_call6_v0 : Ref sig .tc := ⟨.hbm, 146, rfl⟩
abbrev main_while0b_call6_c : Ref sig .tc := ⟨.hbm, 147, rfl⟩
abbrev main_while0b_call6_c_0 : Ref sig .tc := ⟨.hbm, 148, rfl⟩
abbrev main_while0b_v127 : Ref sig .tc := ⟨.hbm, 149, rfl⟩
abbrev main_while0b_c_22 : Ref sig .tc := ⟨.hbm, 150, rfl⟩
abbrev main_while0b_v128 : Ref sig .tc := ⟨.hbm, 151, rfl⟩
abbrev main_v84 : Ref sig .tc := ⟨.hbm, 152, rfl⟩
abbrev main_cst_11 : Ref sig .tc := ⟨.hbm, 153, rfl⟩
abbrev main_v85 : Ref sig .tc := ⟨.hbm, 154, rfl⟩
abbrev main_v86 : Ref sig .tc := ⟨.hbm, 155, rfl⟩
abbrev main_cst_12 : Ref sig .tc := ⟨.hbm, 156, rfl⟩
abbrev main_v87 : Ref sig .tc := ⟨.hbm, 157, rfl⟩
abbrev main_v88 : Ref sig .tc := ⟨.hbm, 158, rfl⟩
abbrev main_cst_13 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_cst_14 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩

abbrev nD : Nat := 1
abbrev τ : Topo := Topo.v7x

variable {F : FTy → Type} [FloatOps F]

abbrev main_while0_count : Scf.Loop 32 := ⟨0#32, 8192#32, 1#32⟩
-- ==== Proof.Ffn.Open.lean ====
/- What one grid point of the feed-forward call leaves behind, as a composition of the body's own
   expressions: the scratch receives the normalised rows, the output block receives the tile's product
   added to what was there (the input rows at the first tile, the previous sum at the others). -/
module

public import proofs.«01_k».proof.Proof.Gen.KernelIdeal.Value
public import Idealize.ShloMosaic.Lib.Tactic

@[expose] public section

set_option maxRecDepth 16384

noncomputable section

namespace Cert.KernelIdeal.Ffn

open Cert.KernelIdeal Cert.KernelIdeal.Gen Idealize.ShloMosaic Idealize.ShloMosaic.TcCoe Idealize.SL.Sem

variable {F : FTy → Type} [FloatOps F]

theorem off0 : (![0, 0] : Fin 2 → Nat) = fun _ => 0 := funext fun a => by fin_cases a <;> rfl

section
variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x256 .f32) (h4 : a4.IsWhole) (a5 : Memref sig .tc .vmem S2048x256 .f32) (h5 : a5.IsWhole)
  (a6 : Memref sig .tc .vmem S256x2048 .f32) (h6 : a6.IsWhole) (a7 : Memref sig .tc .vmem S1024x2048 .f32) (h7 : a7.IsWhole)
  (a8 : Memref sig .tc .vmem S1024x2048 .bf16) (h8 : a8.IsWhole)
  (x : Vec F S1024x2048 .f32) (w : Vec F S1x2048 .f32) (wg wu : Vec F S2048x256 .f32) (wd : Vec F S256x2048 .f32)

/-- The first tile fills the scratch with the normalised rows. -/
theorem scratch_first (hc : cond0_0 i) :
    sout0_A_0 c i a2 h2 a3 h3 a4 h4 a5 h5 a6 h6 a7 h7 a8 h8 hc x w wg wu wd = k0_pay2 x w := by
  unfold sout0_A_0
  rw [View.read_writes_eq_canon _ _ _ (scover0_A_0 c i a2 h2 a3 h3 a4 h4 a5 h5 a6 h6 a7 h7 a8 h8 hc x w wg wu wd)]
  unfold kernelRun0_A
  dsimp only
  sl_unfold_words
  rw [View.canon_unit_zero off0]
  simp only [View.readAt_eq_ld, h2.read_unread, h3.read_unread, View.ld_unit_zero (S := S1024x2048) off0,
    View.ld_unit_zero (S := S1x2048) off0]

/-- The first tile leaves the input rows plus the tile's product. -/
theorem out_first (hc : cond0_0 i) :
    out0_A_5 c i a2 h2 a3 h3 a4 h4 a5 h5 a6 h6 a7 h7 a8 h8 hc x w wg wu wd
      = k0_pay1 (k0_pay3 i (k0_pay2 x w) wg wu) (k0_pay4 x) wd := by
  unfold out0_A_5
  rw [View.read_writes_eq_canon _ _ _ (cover0_A_5 c i a2 h2 a3 h3 a4 h4 a5 h5 a6 h6 a7 h7 a8 h8 hc x w wg wu wd)]
  unfold kernelRun0_A
  dsimp only
  sl_unfold_words
  rw [View.canon_cons_unit_zero (S := S1024x2048) off0]
  simp only [View.readCov_unit_zero (S := S1024x2048) _ off0, View.readAt_eq_ld, h2.read_unread, h3.read_unread, h4.read_unread,
    h5.read_unread, h6.read_unread, View.ld_unit_zero (S := S1024x2048) off0, View.ld_unit_zero (S := S1x2048) off0,
    View.ld_unit_zero (S := S2048x256) off0, View.ld_unit_zero (S := S256x2048) off0]

/-- A later tile adds its product to what the output block holds. -/
theorem out_later (hc : ¬cond0_0 i) (o : Vec F S1024x2048 .f32) (s : Vec F S1024x2048 .bf16) :
    out0_B_5 c i a2 h2 a3 h3 a4 h4 a5 h5 a6 h6 a7 h7 a8 h8 hc x w wg wu wd o s
      = k0_pay1 (k0_pay3 i s wg wu) (k0_pay4 o) wd := by
  unfold out0_B_5
  rw [View.read_writes_eq_canon _ _ _ (cover0_B_5 c i a2 h2 a3 h3 a4 h4 a5 h5 a6 h6 a7 h7 a8 h8 hc x w wg wu wd o s)]
  unfold kernelRun0_B
  dsimp only
  sl_unfold_words
  rw [View.canon_unit_zero off0]
  simp only [View.readAt_eq_ld, h7.read_unread, h8.read_unread, h4.read_unread,
    h5.read_unread, h6.read_unread, View.ld_unit_zero (S := S1024x2048) off0,
    View.ld_unit_zero (S := S2048x256) off0, View.ld_unit_zero (S := S256x2048) off0]

/-- A later tile leaves the scratch as it was. -/
theorem scratch_later (hc : ¬cond0_0 i) (o : Vec F S1024x2048 .f32) (s : Vec F S1024x2048 .bf16) :
    sout0_B_0 c i a2 h2 a3 h3 a4 h4 a5 h5 a6 h6 a7 h7 a8 h8 hc x w wg wu wd o s = s := rfl
end

end Cert.KernelIdeal.Ffn

end
-- ==== Proof.Ffn.Math.lean ====
/- The mathematics of the feed-forward layer over the extended reals, and the covering of its hidden
   columns by tiles of one width whose last tile is moved back to end at the last column. -/
module

public import Idealize.ShloMosaic.Lib.Pointwise
public import Idealize.ShloMosaic.Lib.IdealHost

@[expose] public section

noncomputable section

namespace FfnMath

open Idealize.ShloMosaic

/-! ## The layer -/

/-- The constant one half, as its float word reads. -/
abbrev half : EReal := Ideal.ofBits .f32 0x3F000000#32

theorem half_eq : half = ((1 / 2 : ℝ) : EReal) := by
  simp [half, Ideal.ofBits, Ideal.ieee]
  rw [← EReal.coe_mul]
  norm_num

/-- The row's normalising factor. -/
def scale (x : Fin 2048 → EReal) : EReal :=
  Ideal.rsqrt (Ideal.div (∑ e : Fin 2048, x e * x e) (Ideal.ofBits .f32 0x45000000#32) + Ideal.ofBits .f32 0x358637BD#32)

/-- A normalised row. -/
def normed (x w : Fin 2048 → EReal) (d : Fin 2048) : EReal := x d * scale x * w d

/-- The gated product of the two hidden pre-activations, with the closing factor one half folded in. -/
def gate (a b : EReal) : EReal := a * Ideal.div 1 (1 + Ideal.exp (0 - a)) * (half * b)

/-- A hidden unit at a normalised row. -/
def hidUnit (h : Fin 2048 → EReal) (wg wu : Fin 2048 → EReal) : EReal := gate (∑ d, h d * wg d) (∑ d, h d * wu d)

/-- Multiplying by one half distributes over finite sums of extended reals. -/
theorem half_sum {ι : Type} (s : Finset ι) (f : ι → EReal) : half * ∑ i ∈ s, f i = ∑ i ∈ s, half * f i := by
  classical
  have hadd : ∀ a b : EReal, half * (a + b) = half * a + half * b := fun a b => by
    rw [half_eq]
    exact EReal.left_distrib_of_nonneg_of_ne_top (by exact_mod_cast (by norm_num : (0:ℝ) ≤ 1 / 2)) (EReal.coe_ne_top _) a b
  induction s using Finset.induction_on with
  | empty => simp
  | insert a s ha ih => rw [Finset.sum_insert ha, Finset.sum_insert ha, hadd, ih]

/-- The half taken out of the gated product. -/
theorem gate_mul (a b y : EReal) : gate a b * y = half * (a * Ideal.div 1 (1 + Ideal.exp (-a)) * b * y) := by
  unfold gate
  rw [zero_sub]
  generalize Ideal.div 1 (1 + Ideal.exp (-a)) = s
  ac_rfl

/-! ## The tiles -/

/-- The first column of tile `j`. -/
def start (W L j : ℕ) : ℕ := min (W * j) L

/-- The sum over tiles `0 … J-1`, each leaving out the columns an earlier tile has taken, is the sum over the
    columns they cover. -/
theorem tiles_sum (W L : ℕ) (f : ℕ → EReal) : ∀ J : ℕ, W * J < L + 2 * W →
    ∑ j ∈ Finset.range J, ∑ k : Fin W, (if W * j ≤ k.val + start W L j then f (start W L j + k.val) else 0)
      = ∑ n ∈ Finset.range (min (W * J) (L + W)), f n := by
  intro J
  induction J with
  | zero => intro _; simp
  | succ J ih =>
    intro hJ
    rw [Finset.sum_range_succ, ih (by rw [Nat.mul_succ] at hJ; omega)]
    rw [Nat.mul_succ] at hJ ⊢
    rw [Fin.sum_univ_eq_sum_range (fun k => if W * J ≤ k + start W L J then f (start W L J + k) else 0) W]
    unfold start
    generalize W * J = a at hJ ⊢
    rw [show min a (L + W) = a by omega]
    by_cases h : a ≤ L
    · rw [show min a L = a by omega, show min (a + W) (L + W) = a + W by omega, Finset.sum_range_add]
      refine congrArg _ (Finset.sum_congr rfl fun k _ => ?_)
      rw [if_pos (by omega)]
    · obtain ⟨b, hb⟩ : ∃ b, a = L + b := ⟨a - L, by omega⟩
      obtain ⟨r, hr⟩ : ∃ r, W = b + r := ⟨W - b, by omega⟩
      rw [show min a L = L by omega, show min (a + W) (L + W) = a + r by omega, Finset.sum_range_add]
      refine congrArg _ ?_
      rw [show Finset.range W = Finset.range (b + r) by rw [hr], Finset.sum_range_add,
        Finset.sum_eq_zero (s := Finset.range b), zero_add]
      · refine Finset.sum_congr rfl fun k _ => ?_
        rw [if_pos (by omega)]
        congr 1; omega
      · intro k hk
        rw [if_neg (by have := Finset.mem_range.mp hk; omega)]

/-- A function of the columns `0 … N-1`, continued by zero. -/
def ext {N : ℕ} (f : Fin N → EReal) (n : ℕ) : EReal := if h : n < N then f ⟨n, h⟩ else 0

theorem ext_of_lt {N : ℕ} (f : Fin N → EReal) {n : ℕ} (h : n < N) : ext f n = f ⟨n, h⟩ := dif_pos h

theorem sum_ext {N : ℕ} (f : Fin N → EReal) : ∑ n ∈ Finset.range N, ext f n = ∑ n : Fin N, f n := by
  rw [← Fin.sum_univ_eq_sum_range]
  exact Finset.sum_congr rfl fun n _ => ext_of_lt f n.isLt

end FfnMath

end
-- ==== Proof.Ffn.Pay.lean ====
/- The body's expressions at one index, over the extended reals. -/
module

public import proofs.«01_k».proof.Proof.Ffn.Open
public import proofs.«01_k».proof.Proof.Ffn.Math
public import Idealize.ShloMosaic.Lib.Pointwise

@[expose] public section

set_option maxRecDepth 16384

noncomputable section

namespace Cert.KernelIdeal.Ffn

open Cert.KernelIdeal Cert.KernelIdeal.Gen Idealize.ShloMosaic Idealize.ShloMosaic.TcCoe Idealize.SL.Sem
open FfnMath

theorem pay1_apply (v : FVec Ideal S1024x256 .bf16) (o : FVec Ideal S1024x2048 .f32) (wd : Vec Ideal S256x2048 .f32)
    (p : Fin 1024) (q : Fin 2048) :
    k0_pay1 v o wd (ix2 p q) = o (ix2 p q) + ∑ k : Fin 256, v (ix2 p k) * wd (ix2 k q) := by
  pointwise [k0_pay1]

theorem pay4_eq (o : FVec Ideal S1024x2048 .f32) : k0_pay4 o = o := by
  unfold k0_pay4
  simp only [shapeCast_self]

theorem pay2_apply (x : Vec Ideal S1024x2048 .f32) (w : Vec Ideal S1x2048 .f32) (p : Fin 1024) (d : Fin 2048) :
    k0_pay2 x w (ix2 p d) = normed (fun e => x (ix2 p e)) (fun e => w (ix2 0 e)) d := by
  unfold normed scale
  pointwise [k0_pay2]

/-- The columns a tile keeps: those no earlier tile has taken. -/
theorem keep_word : ∀ (j : Fin 22) (k : Fin 256),
    IntOp.cmpi CmpIPredicate.sge (BitVec.ofNat 32 k.val)
        (Scalar.subi (Scalar.muli (BitVec.ofNat 32 j.val) 256#32)
          (Scalar.minsi (Scalar.muli (BitVec.ofNat 32 j.val) 256#32) 5248#32))
      = BitVec.ofBool (decide (256 * j.val ≤ k.val + start 256 5248 j.val)) := by
  decide +kernel

theorem pay3_apply (i : grid0.Coords) (s : Vec Ideal S1024x2048 .bf16) (wg wu : Vec Ideal S2048x256 .f32) (p : Fin 1024) (k : Fin 256) :
    k0_pay3 i s wg wu (ix2 p k) = if 256 * (i 1).val ≤ k.val + start 256 5248 (i 1).val
      then hidUnit (fun d => s (ix2 p d)) (fun d => wg (ix2 d k)) (fun d => wu (ix2 d k)) else 0 := by
  have hk := keep_word (i 1) k
  unfold hidUnit gate
  pointwise [k0_pay3]
  rw [hk]
  by_cases h : 256 * (i 1).val ≤ k.val + start 256 5248 (i 1).val
  · rw [if_pos h, decide_eq_true h]; rfl
  · rw [if_neg h, decide_eq_false h]; rfl

end Cert.KernelIdeal.Ffn

end
-- ==== Proof.Ffn.Block.lean ====
/- What the grid points of the feed-forward call read: each window's block at an index, as the argument
   array at an index. The weights' windows are element-indexed: their blocks begin at the tile's first column. -/
module

public import proofs.«01_k».proof.Proof.Ffn.Open
public import proofs.«01_k».proof.Proof.Ffn.Math
public import Idealize.ShloMosaic.Lib.Pointwise

@[expose] public section

set_option maxRecDepth 16384

noncomputable section

namespace Cert.KernelIdeal.Ffn

open Cert.KernelIdeal Cert.KernelIdeal.Gen Idealize.ShloMosaic Idealize.ShloMosaic.TcCoe Idealize.SL.Sem
open FfnMath

theorem points : cfg0.N = 176 := N_0

/-- Where each window's block begins, over the whole grid. -/
theorem starts : ∀ t : Fin cfg0.N,
    (win0_0.index t (0 : Fin 2) = t.val / 22 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = start 256 5248 (t.val % 22))
    ∧ (win0_3.index t (0 : Fin 2) = 0 ∧ win0_3.index t (1 : Fin 2) = start 256 5248 (t.val % 22))
    ∧ (win0_4.index t (0 : Fin 2) = start 256 5248 (t.val % 22) ∧ win0_4.index t (1 : Fin 2) = 0)
    ∧ (grid0.coords t 1).val = t.val % 22 :=
  (by decide +kernel : ∀ t : Fin grid0.N, _)

theorem start_le (j : ℕ) : start 256 5248 j ≤ 5248 := Nat.min_le_right _ _

variable (m : (ℓ : Loc nD τ sig) → Buf (Elt Ideal) ℓ) (c : Dev nD)

/-- The argument arrays, by their indices. -/
def argX (r : Fin 8192) (d : Fin 2048) : EReal := (m ((c : Thread nD τ).loc main_arg0) : Vec Ideal S8192x2048 .f32) (ix2 r d)
def argN (d : Fin 2048) : EReal := (m ((c : Thread nD τ).loc main_arg1) : Vec Ideal S2048 .f32) (ix1 d)
def argG (d : Fin 2048) (f : Fin 5504) : EReal := (m ((c : Thread nD τ).loc main_arg2) : Vec Ideal S2048x5504 .f32) (ix2 d f)
def argU (d : Fin 2048) (f : Fin 5504) : EReal := (m ((c : Thread nD τ).loc main_arg3) : Vec Ideal S2048x5504 .f32) (ix2 d f)
def argD (f : Fin 5504) (q : Fin 2048) : EReal := (m ((c : Thread nD τ).loc main_arg4) : Vec Ideal S5504x2048 .f32) (ix2 f q)

theorem rowLt (t : Fin cfg0.N) (p : Fin 1024) : 1024 * (t.val / 22) + p.val < 8192 := by
  have := t.isLt; have := points; omega

theorem colLt (j : ℕ) (k : Fin 256) : start 256 5248 j + k.val < 5504 := by
  have := start_le j; omega

theorem blk_x (t : Fin cfg0.N) (p : Fin 1024) (d : Fin 2048) :
    (iblk m c 0 t : Vec Ideal S1024x2048 .f32) (ix2 p d) = argX m c ⟨1024 * (t.val / 22) + p.val, rowLt t p⟩ d := by
  have hi := (starts t).1
  unfold iblk argX
  rw [View.read_apply]
  show V m c main_arg0 _ = _
  rw [V_main_arg0]
  congr 1
  funext a
  apply Fin.ext
  match a with
  | ⟨0, _⟩ => show win0_0.index t 0 * 1024 + 1 * p.val = 1024 * (t.val / 22) + p.val; rw [hi.1]; omega
  | ⟨1, _⟩ => show win0_0.index t 1 * 2048 + 1 * d.val = d.val; rw [hi.2]; omega

theorem blk_g (t : Fin cfg0.N) (d : Fin 2048) (k : Fin 256) :
    (iblk m c 2 t : Vec Ideal S2048x256 .f32) (ix2 d k) = argG m c d ⟨start 256 5248 (t.val % 22) + k.val, colLt _ k⟩ := by
  have hi := (starts t).2.2.1
  unfold iblk argG
  rw [View.read_apply]
  show V m c main_arg2 _ = _
  rw [V_main_arg2]
  congr 1
  funext a
  apply Fin.ext
  match a with
  | ⟨0, _⟩ => show win0_2.index t 0 + 1 * d.val = d.val; rw [hi.1]; omega
  | ⟨1, _⟩ => show win0_2.index t 1 + 1 * k.val = start 256 5248 (t.val % 22) + k.val; rw [hi.2]; omega

theorem blk_u (t : Fin cfg0.N) (d : Fin 2048) (k : Fin 256) :
    (iblk m c 3 t : Vec Ideal S2048x256 .f32) (ix2 d k) = argU m c d ⟨start 256 5248 (t.val % 22) + k.val, colLt _ k⟩ := by
  have hi := (starts t).2.2.2.1
  unfold iblk argU
  rw [View.read_apply]
  show V m c main_arg3 _ = _
  rw [V_main_arg3]
  congr 1
  funext a
  apply Fin.ext
  match a with
  | ⟨0, _⟩ => show win0_3.index t 0 + 1 * d.val = d.val; rw [hi.1]; omega
  | ⟨1, _⟩ => show win0_3.index t 1 + 1 * k.val = start 256 5248 (t.val % 22) + k.val; rw [hi.2]; omega

theorem blk_d (t : Fin cfg0.N) (k : Fin 256) (q : Fin 2048) :
    (iblk m c 4 t : Vec Ideal S256x2048 .f32) (ix2 k q) = argD m c ⟨start 256 5248 (t.val % 22) + k.val, colLt _ k⟩ q := by
  have hi := (starts t).2.2.2.2.1
  unfold iblk argD
  rw [View.read_apply]
  show V m c main_arg4 _ = _
  rw [V_main_arg4]
  congr 1
  funext a
  apply Fin.ext
  match a with
  | ⟨0, _⟩ => show win0_4.index t 0 + 1 * k.val = start 256 5248 (t.val % 22) + k.val; rw [hi.1]; omega
  | ⟨1, _⟩ => show win0_4.index t 1 + 1 * q.val = q.val; rw [hi.2]; omega

/-- The norm's weights enter the region as one row. -/
theorem row_n (d : Fin 2048) : (V m c main_v0 : Vec Ideal S1x2048 .f32) (ix2 0 d) = argN m c d := by
  unfold argN
  show shapeCast S1x2048 (m ((c : Thread nD τ).loc main_arg1) : Vec Ideal S2048 .f32) _ (ix2 0 d) = _
  pointwise

theorem blk_n (t : Fin cfg0.N) (d : Fin 2048) :
    (iblk m c 1 t : Vec Ideal S1x2048 .f32) (ix2 0 d) = argN m c d := by
  have hi := (starts t).2.1
  rw [← row_n]
  unfold iblk
  rw [View.read_apply]
  show V m c main_v0 _ = _
  congr 1
  funext a
  apply Fin.ext
  match a with
  | ⟨0, _⟩ => show win0_1.index t 0 * 1 + 1 * 0 = 0; rw [hi.1]
  | ⟨1, _⟩ => show win0_1.index t 1 * 2048 + 1 * d.val = d.val; rw [hi.2]; omega

end Cert.KernelIdeal.Ffn

end
-- ==== Proof.Ffn.Fold.lean ====
/- What the scratch and the output block hold after each grid point, and the array the call ends with. -/
module

public import proofs.«01_k».proof.Proof.Ffn.Pay
public import proofs.«01_k».proof.Proof.Ffn.Block

@[expose] public section

set_option maxRecDepth 16384

noncomputable section

namespace Cert.KernelIdeal.Ffn

open Cert.KernelIdeal Cert.KernelIdeal.Gen Idealize.ShloMosaic Idealize.ShloMosaic.TcCoe Idealize.SL.Sem
open FfnMath

variable (m : (ℓ : Loc nD τ sig) → Buf (Elt Ideal) ℓ) (c : Dev nD)

/-- The normalised row of token `r`. -/
def rowH (r : Fin 8192) : Fin 2048 → EReal := normed (argX m c r) (argN m c)

/-- What hidden unit `f` adds to output `(r, q)`. -/
def term (r : Fin 8192) (q : Fin 2048) (f : Fin 5504) : EReal :=
  hidUnit (rowH m c r) (fun d => argG m c d f) (fun d => argU m c d f) * argD m c f q

/-- What tile `j` adds to output `(r, q)`. -/
def tile (r : Fin 8192) (q : Fin 2048) (j : ℕ) : EReal :=
  ∑ k : Fin 256, (if 256 * j ≤ k.val + start 256 5248 j then ext (term m c r q) (start 256 5248 j + k.val) else 0)

/-- One point's sum: over a scratch holding the normalised rows, the tile's product is `tile`. -/
theorem point_sum (t : Fin cfg0.N) (s : Vec Ideal S1024x2048 .bf16) (o : Vec Ideal S1024x2048 .f32)
    (hs : ∀ (p : Fin 1024) (d : Fin 2048), s (ix2 p d) = rowH m c ⟨1024 * (t.val / 22) + p.val, rowLt t p⟩ d)
    (p : Fin 1024) (q : Fin 2048) :
    k0_pay1 (k0_pay3 (grid0.coords t) s (iblk m c 2 t) (iblk m c 3 t)) (k0_pay4 o) (iblk m c 4 t) (ix2 p q)
      = o (ix2 p q) + tile m c ⟨1024 * (t.val / 22) + p.val, rowLt t p⟩ q (t.val % 22) := by
  rw [pay1_apply, pay4_eq]
  refine congrArg (o (ix2 p q) + ·) (Finset.sum_congr rfl fun k _ => ?_)
  rw [pay3_apply, (starts t).2.2.2.2.2]
  split
  · rw [ext_of_lt _ (colLt _ k), blk_d m c t k q]
    unfold term
    congr 2
    · exact funext fun d => hs p d
    · exact funext fun d => blk_g m c t d k
    · exact funext fun d => blk_u m c t d k
  · exact zero_mul _

theorem first_scratch (t : Fin cfg0.N) (p : Fin 1024) (d : Fin 2048) :
    k0_pay2 (iblk m c 0 t : Vec Ideal S1024x2048 .f32) (iblk m c 1 t : Vec Ideal S1x2048 .f32) (ix2 p d)
      = rowH m c ⟨1024 * (t.val / 22) + p.val, rowLt t p⟩ d := by
  rw [pay2_apply]
  unfold rowH
  congr 1
  · exact funext fun e => blk_x m c t p e
  · exact funext fun e => blk_n m c t e

/-- What is to hold after point `n` of the scratch and of the output block: the scratch holds the normalised rows
    of the point's row tile, the output block the input rows plus the tiles up to this one. -/
def Held (n : ℕ) (hn : n < cfg0.N) (u : Vec Ideal S1024x2048 .f32 × Vec Ideal S1024x2048 .bf16) : Prop :=
  (∀ (p : Fin 1024) (d : Fin 2048), u.2 (ix2 p d) = rowH m c ⟨1024 * (n / 22) + p.val, rowLt ⟨n, hn⟩ p⟩ d)
    ∧ ∀ (p : Fin 1024) (q : Fin 2048), u.1 (ix2 p q)
      = argX m c ⟨1024 * (n / 22) + p.val, rowLt ⟨n, hn⟩ p⟩ q
        + ∑ j ∈ Finset.range (n % 22 + 1), tile m c ⟨1024 * (n / 22) + p.val, rowLt ⟨n, hn⟩ p⟩ q j

theorem held_first (t : Fin cfg0.N) (h0 : t.val % 22 = 0) : Held m c t.val t.isLt (outsAt0 m c t.val t.isLt) := by
  rw [outsAt0_A m c t h0, scratch_first, out_first]
  refine ⟨first_scratch m c t, fun p q => ?_⟩
  dsimp only
  rw [point_sum m c t _ _ (first_scratch m c t), blk_x, h0]
  rw [zero_add, Finset.sum_range_one]

theorem held_later (t : Fin cfg0.N) (h0 : ¬t.val % 22 = 0) (hb : t.val - 1 < cfg0.N)
    (ih : Held m c (t.val - 1) hb (outsAt0 m c (t.val - 1) hb)) : Held m c t.val t.isLt (outsAt0 m c t.val t.isLt) := by
  obtain ⟨hs, ho⟩ := ih
  have hd : (t.val - 1) / 22 = t.val / 22 := by omega
  have hm : (t.val - 1) % 22 + 1 = t.val % 22 := by omega
  simp only [hd, hm] at hs ho
  rw [outsAt0_B m c t h0, scratch_later, out_later]
  refine ⟨hs, fun p q => ?_⟩
  dsimp only
  rw [point_sum m c t _ _ hs, ho, Finset.sum_range_succ, add_assoc]

theorem held : ∀ (n : ℕ) (hn : n < cfg0.N), Held m c n hn (outsAt0 m c n hn) := by
  intro n
  induction n with
  | zero => exact fun hn => held_first m c ⟨0, hn⟩ (Nat.zero_mod _)
  | succ n ih =>
    intro hn
    by_cases h0 : (n + 1) % 22 = 0
    · exact held_first m c ⟨n + 1, hn⟩ h0
    · exact held_later m c ⟨n + 1, hn⟩ h0 (Nat.lt_of_succ_lt hn) (ih _)

/-- The array the call ends with, at an index. -/
theorem result_apply (r : Fin 8192) (q : Fin 2048) :
    (Value.G5 m c : Vec Ideal S8192x2048 .f32) (ix2 r q) = argX m c r q + ∑ f : Fin 5504, term m c r q f := by
  have hN := points
  have hr := r.isLt
  have hq := q.isLt
  have hp : Value.pt5Of (ix2 r q) = 22 * (r.val / 1024) + 21 := by
    show 22 * (1 * (r.val / 1024 - 0) + 1 * (q.val / 2048 - 0)) + 21 = _
    omega
  have hlt : 22 * (r.val / 1024) + 21 < cfg0.N := by omega
  have hl : Value.loc5Of (ix2 r q) = ix2 ⟨r.val % 1024, Nat.mod_lt _ (by decide)⟩ q := by
    funext a; apply Fin.ext
    match a with
    | ⟨0, _⟩ => rfl
    | ⟨1, _⟩ => show q.val % 2048 = q.val; omega
  unfold Value.G5
  rw [dif_pos (by rw [hp]; exact hlt), ← Value.outsAt0_sweep m c _ (by rw [hp]; exact hlt), hl]
  have hh := (held m c _ (by rw [hp]; exact hlt : Value.pt5Of (ix2 r q) < cfg0.N)).2 ⟨r.val % 1024, Nat.mod_lt _ (by decide)⟩ q
  refine hh.trans ?_
  have hrow : (⟨1024 * (Value.pt5Of (ix2 r q) / 22) + r.val % 1024, by rw [hp]; omega⟩ : Fin 8192) = r :=
    Fin.ext (by show 1024 * (Value.pt5Of (ix2 r q) / 22) + r.val % 1024 = r.val; rw [hp]; omega)
  simp only [hrow]
  rw [show Value.pt5Of (ix2 r q) % 22 + 1 = 22 by rw [hp]; omega]
  refine congrArg (argX m c r q + ·) ?_
  unfold tile
  rw [tiles_sum 256 5248 _ 22 (by decide)]
  exact sum_ext _

end Cert.KernelIdeal.Ffn

end
-- ==== Proof.Ffn.Reference.lean ====
/- The reference's composed term at one index: the input plus one half of the down projection of the gated units. -/
module

public import proofs.«01_k».proof.Proof.Gen.ReferenceIdeal.Run
public import proofs.«01_k».proof.Proof.Ffn.Math
public import Idealize.ShloMosaic.Lib.Pointwise

@[expose] public section

set_option maxRecDepth 16384

noncomputable section

namespace Cert.ReferenceIdeal.Ffn

open Cert.ReferenceIdeal Cert.ReferenceIdeal.Gen Idealize.ShloMosaic Idealize.ShloMosaic.TcCoe Idealize.SL.Sem
open FfnMath

/-- The normalised rows, as the reference's operations compose them. -/
def rows (x : FVec Ideal S8192x2048 .f32) (w : FVec Ideal S2048 .f32) : FVec Ideal S8192x2048 .f32 :=
  mulf (mulf x (broadcastInDim S8192x2048 ![0, 1] bcast_S8192x1_S8192x2048_0_1 (Host.rsqrt (addf
      (Host.divf (broadcastInDim S8192x1 ![0] bcast_S8192_S8192x1_0
          (Host.reduceAdd (mulf x x) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 w))

/-- A projection of the normalised rows onto the hidden columns. -/
def proj (h : FVec Ideal S8192x2048 .f32) (wt : FVec Ideal S2048x5504 .f32) : FVec Ideal S8192x5504 .f32 :=
  Host.dotGeneral dot_S8192x2048_S2048x5504_S8192x5504_1_0_0_1_n_n none h wt

/-- The logistic function of the hidden columns, as it is expanded. -/
def logist (g : FVec Ideal S8192x5504 .f32) : FVec Ideal S8192x5504 .f32 :=
  Host.divf (broadcastInDim S8192x5504 ![] bcast_S_S8192x5504 (constant S_ .f32 0x3F800000#32))
    (addf (broadcastInDim S8192x5504 ![] bcast_S_S8192x5504 (constant S_ .f32 0x3F800000#32)) (Host.exp (Host.negf g)))

/-- The composed term of the reference's operations. -/
def composed (x : FVec Ideal S8192x2048 .f32) (w : FVec Ideal S2048 .f32) (wg wu : FVec Ideal S2048x5504 .f32)
    (wd : FVec Ideal S5504x2048 .f32) : FVec Ideal S8192x2048 .f32 :=
  addf x (mulf (broadcastInDim S8192x2048 ![] bcast_S_S8192x2048 (constant S_ .f32 0x3F000000#32))
    (Host.dotGeneral dot_S8192x5504_S5504x2048_S8192x2048_1_0_0_1_n_n none
      (mulf (mulf (proj (rows x w) wg) (logist (proj (rows x w) wg))) (proj (rows x w) wu)) wd))

theorem composed_apply (x : FVec Ideal S8192x2048 .f32) (w : FVec Ideal S2048 .f32) (wg wu : FVec Ideal S2048x5504 .f32)
    (wd : FVec Ideal S5504x2048 .f32) (r : Fin 8192) (q : Fin 2048) :
    composed x w wg wu wd (ix2 r q) = x (ix2 r q) + ∑ f : Fin 5504,
      hidUnit (normed (fun e => x (ix2 r e)) (fun e => w (ix1 e))) (fun d => wg (ix2 d f)) (fun d => wu (ix2 d f)) * wd (ix2 f q) := by
  unfold composed hidUnit
  simp only [gate_mul, ← half_sum]
  unfold normed scale
  pointwise [rows, proj, logist]

end Cert.ReferenceIdeal.Ffn

end
-- ==== Proof.Ffn.Equation.lean ====
/- The equation of the feed-forward claim: the reference's composed term over the kernel's arguments is the
   array the kernel ends with. -/
module

public import proofs.«01_k».proof.Proof.Ffn.Fold
public import proofs.«01_k».proof.Proof.Ffn.Reference

@[expose] public section

set_option maxRecDepth 16384

noncomputable section

namespace Cert.KernelIdeal.Ffn

open Cert.KernelIdeal Cert.KernelIdeal.Gen Idealize.ShloMosaic Idealize.ShloMosaic.TcCoe Idealize.SL.Sem

theorem equation (m : (ℓ : Loc nD τ sig) → Buf (Elt Ideal) ℓ) (c : Dev nD) :
    Cert.ReferenceIdeal.Ffn.composed (m ((c : Thread nD τ).loc main_arg0)) (m ((c : Thread nD τ).loc main_arg1))
      (m ((c : Thread nD τ).loc main_arg2)) (m ((c : Thread nD τ).loc main_arg3)) (m ((c : Thread nD τ).loc main_arg4))
      = Value.G5 m c := by
  funext i
  obtain ⟨r, q, rfl⟩ : ∃ (r : Fin 8192) (q : Fin 2048), i = ix2 r q := ⟨i 0, i 1, eq_ix2 i⟩
  rw [Cert.ReferenceIdeal.Ffn.composed_apply]
  exact (result_apply m c r q).symm

end Cert.KernelIdeal.Ffn

end
-- ==== Proof.Ffn2.Open.lean ====
/- What one grid point of the second feed-forward call leaves behind, as a composition of the body's own
   expressions: the scratch receives the normalised rows, the output block receives the tile's product
   added to what was there (the input rows at the first tile, the previous sum at the others). -/
module

public import proofs.«01_k».proof.Proof.Gen.Kernel2Ideal.Value
public import Idealize.ShloMosaic.Lib.Tactic

@[expose] public section

set_option maxRecDepth 16384

noncomputable section

namespace Cert.Kernel2Ideal.Ffn2

open Cert.Kernel2Ideal Cert.Kernel2Ideal.Gen Idealize.ShloMosaic Idealize.ShloMosaic.TcCoe Idealize.SL.Sem

variable {F : FTy → Type} [FloatOps F]

theorem off0 : (![0, 0] : Fin 2 → Nat) = fun _ => 0 := funext fun a => by fin_cases a <;> rfl

section
variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S1024x2048 .f32) (h7 : a7.IsWhole)
  (a8 : Memref sig .tc .vmem S1024x2048 .bf16) (h8 : a8.IsWhole)
  (x : Vec F S1024x2048 .f32) (w : Vec F S1x2048 .f32) (wg wu : Vec F S2048x512 .bf16) (wd : Vec F S512x2048 .bf16)

/-- The first tile fills the scratch with the normalised rows. -/
theorem scratch_first (hc : cond0_0 i) :
    sout0_A_0 c i a2 h2 a3 h3 a4 h4 a5 h5 a6 h6 a7 h7 a8 h8 hc x w wg wu wd = k0_pay2 x w := by
  unfold sout0_A_0
  rw [View.read_writes_eq_canon _ _ _ (scover0_A_0 c i a2 h2 a3 h3 a4 h4 a5 h5 a6 h6 a7 h7 a8 h8 hc x w wg wu wd)]
  unfold kernelRun0_A
  dsimp only
  sl_unfold_words
  rw [View.canon_unit_zero off0]
  simp only [View.readAt_eq_ld, h2.read_unread, h3.read_unread, View.ld_unit_zero (S := S1024x2048) off0,
    View.ld_unit_zero (S := S1x2048) off0]

/-- The first tile leaves the input rows plus the tile's product. -/
theorem out_first (hc : cond0_0 i) :
    out0_A_5 c i a2 h2 a3 h3 a4 h4 a5 h5 a6 h6 a7 h7 a8 h8 hc x w wg wu wd
      = k0_pay1 (k0_pay3 i (k0_pay2 x w) wg wu) (k0_pay4 x) wd := by
  unfold out0_A_5
  rw [View.read_writes_eq_canon _ _ _ (cover0_A_5 c i a2 h2 a3 h3 a4 h4 a5 h5 a6 h6 a7 h7 a8 h8 hc x w wg wu wd)]
  unfold kernelRun0_A
  dsimp only
  sl_unfold_words
  rw [View.canon_cons_unit_zero (S := S1024x2048) off0]
  simp only [View.readCov_unit_zero (S := S1024x2048) _ off0, View.readAt_eq_ld, h2.read_unread, h3.read_unread, h4.read_unread,
    h5.read_unread, h6.read_unread, View.ld_unit_zero (S := S1024x2048) off0, View.ld_unit_zero (S := S1x2048) off0,
    View.ld_unit_zero (S := S2048x512) off0, View.ld_unit_zero (S := S512x2048) off0]

/-- A later tile adds its product to what the output block holds. -/
theorem out_later (hc : ¬cond0_0 i) (o : Vec F S1024x2048 .f32) (s : Vec F S1024x2048 .bf16) :
    out0_B_5 c i a2 h2 a3 h3 a4 h4 a5 h5 a6 h6 a7 h7 a8 h8 hc x w wg wu wd o s
      = k0_pay1 (k0_pay3 i s wg wu) (k0_pay4 o) wd := by
  unfold out0_B_5
  rw [View.read_writes_eq_canon _ _ _ (cover0_B_5 c i a2 h2 a3 h3 a4 h4 a5 h5 a6 h6 a7 h7 a8 h8 hc x w wg wu wd o s)]
  unfold kernelRun0_B
  dsimp only
  sl_unfold_words
  rw [View.canon_unit_zero off0]
  simp only [View.readAt_eq_ld, h7.read_unread, h8.read_unread, h4.read_unread,
    h5.read_unread, h6.read_unread, View.ld_unit_zero (S := S1024x2048) off0,
    View.ld_unit_zero (S := S2048x512) off0, View.ld_unit_zero (S := S512x2048) off0]

/-- A later tile leaves the scratch as it was. -/
theorem scratch_later (hc : ¬cond0_0 i) (o : Vec F S1024x2048 .f32) (s : Vec F S1024x2048 .bf16) :
    sout0_B_0 c i a2 h2 a3 h3 a4 h4 a5 h5 a6 h6 a7 h7 a8 h8 hc x w wg wu wd o s = s := rfl
end

end Cert.Kernel2Ideal.Ffn2

end
-- ==== Proof.Ffn2.Pay.lean ====
/- The body's expressions at one index, over the extended reals. -/
module

public import proofs.«01_k».proof.Proof.Ffn2.Open
public import proofs.«01_k».proof.Proof.Ffn.Math
public import Idealize.ShloMosaic.Lib.Pointwise

@[expose] public section

set_option maxRecDepth 16384

noncomputable section

namespace Cert.Kernel2Ideal.Ffn2

open Cert.Kernel2Ideal Cert.Kernel2Ideal.Gen Idealize.ShloMosaic Idealize.ShloMosaic.TcCoe Idealize.SL.Sem
open FfnMath

theorem pay1_apply (v : FVec Ideal S1024x512 .bf16) (o : FVec Ideal S1024x2048 .f32) (wd : Vec Ideal S512x2048 .bf16)
    (p : Fin 1024) (q : Fin 2048) :
    k0_pay1 v o wd (ix2 p q) = o (ix2 p q) + ∑ k : Fin 512, v (ix2 p k) * wd (ix2 k q) := by
  pointwise [k0_pay1]

theorem pay4_eq (o : FVec Ideal S1024x2048 .f32) : k0_pay4 o = o := by
  unfold k0_pay4
  simp only [shapeCast_self]

theorem pay2_apply (x : Vec Ideal S1024x2048 .f32) (w : Vec Ideal S1x2048 .f32) (p : Fin 1024) (d : Fin 2048) :
    k0_pay2 x w (ix2 p d) = normed (fun e => x (ix2 p e)) (fun e => w (ix2 0 e)) d := by
  unfold normed scale
  pointwise [k0_pay2]

/-- The columns a tile keeps: those no earlier tile has taken. -/
theorem keep_word : ∀ (j : Fin 11) (k : Fin 512),
    IntOp.cmpi CmpIPredicate.sge (BitVec.ofNat 32 k.val)
        (Scalar.subi (Scalar.muli (BitVec.ofNat 32 j.val) 512#32)
          (Scalar.minsi (Scalar.muli (BitVec.ofNat 32 j.val) 512#32) 4992#32))
      = BitVec.ofBool (decide (512 * j.val ≤ k.val + start 512 4992 j.val)) := by
  decide +kernel

theorem pay3_apply (i : grid0.Coords) (s : Vec Ideal S1024x2048 .bf16) (wg wu : Vec Ideal S2048x512 .bf16) (p : Fin 1024) (k : Fin 512) :
    k0_pay3 i s wg wu (ix2 p k) = if 512 * (i 1).val ≤ k.val + start 512 4992 (i 1).val
      then hidUnit (fun d => s (ix2 p d)) (fun d => wg (ix2 d k)) (fun d => wu (ix2 d k)) else 0 := by
  have hk := keep_word (i 1) k
  unfold hidUnit gate
  pointwise [k0_pay3]
  rw [hk]
  by_cases h : 512 * (i 1).val ≤ k.val + start 512 4992 (i 1).val
  · rw [if_pos h, decide_eq_true h]; rfl
  · rw [if_neg h, decide_eq_false h]; rfl

end Cert.Kernel2Ideal.Ffn2

end
-- ==== Proof.Ffn2.Block.lean ====
/- What the grid points of the second feed-forward call read: each window's block at an index, as the argument
   array at an index. The weights' windows are element-indexed: their blocks begin at the tile's first column. -/
module

public import proofs.«01_k».proof.Proof.Ffn2.Open
public import proofs.«01_k».proof.Proof.Ffn.Math
public import Idealize.ShloMosaic.Lib.Pointwise

@[expose] public section

set_option maxRecDepth 16384

noncomputable section

namespace Cert.Kernel2Ideal.Ffn2

open Cert.Kernel2Ideal Cert.Kernel2Ideal.Gen Idealize.ShloMosaic Idealize.ShloMosaic.TcCoe Idealize.SL.Sem
open FfnMath

theorem points : cfg0.N = 88 := N_0

/-- Where each window's block begins, over the whole grid. -/
theorem starts : ∀ t : Fin cfg0.N,
    (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = start 512 4992 (t.val % 11))
    ∧ (win0_3.index t (0 : Fin 2) = 0 ∧ win0_3.index t (1 : Fin 2) = start 512 4992 (t.val % 11))
    ∧ (win0_4.index t (0 : Fin 2) = start 512 4992 (t.val % 11) ∧ win0_4.index t (1 : Fin 2) = 0)
    ∧ (grid0.coords t 1).val = t.val % 11 :=
  (by decide +kernel : ∀ t : Fin grid0.N, _)

theorem start_le (j : ℕ) : start 512 4992 j ≤ 4992 := Nat.min_le_right _ _

variable (m : (ℓ : Loc nD τ sig) → Buf (Elt Ideal) ℓ) (c : Dev nD)

/-- The argument arrays, by their indices. -/
def argX (r : Fin 8192) (d : Fin 2048) : EReal := (m ((c : Thread nD τ).loc main_arg0) : Vec Ideal S8192x2048 .f32) (ix2 r d)
def argN (d : Fin 2048) : EReal := (m ((c : Thread nD τ).loc main_arg1) : Vec Ideal S2048 .f32) (ix1 d)
def argG (d : Fin 2048) (f : Fin 5504) : EReal := (m ((c : Thread nD τ).loc main_arg2) : Vec Ideal S2048x5504 .f32) (ix2 d f)
def argU (d : Fin 2048) (f : Fin 5504) : EReal := (m ((c : Thread nD τ).loc main_arg3) : Vec Ideal S2048x5504 .f32) (ix2 d f)
def argD (f : Fin 5504) (q : Fin 2048) : EReal := (m ((c : Thread nD τ).loc main_arg4) : Vec Ideal S5504x2048 .f32) (ix2 f q)

/-- The casts of the weights keep their values. -/
theorem cast_g : (V m c main_v1 : Vec Ideal S2048x5504 .bf16) = m ((c : Thread nD τ).loc main_arg2) := rfl
theorem cast_u : (V m c main_v2 : Vec Ideal S2048x5504 .bf16) = m ((c : Thread nD τ).loc main_arg3) := rfl
theorem cast_d : (V m c main_v3 : Vec Ideal S5504x2048 .bf16) = m ((c : Thread nD τ).loc main_arg4) := rfl

theorem rowLt (t : Fin cfg0.N) (p : Fin 1024) : 1024 * (t.val / 11) + p.val < 8192 := by
  have := t.isLt; have := points; omega

theorem colLt (j : ℕ) (k : Fin 512) : start 512 4992 j + k.val < 5504 := by
  have := start_le j; omega

theorem blk_x (t : Fin cfg0.N) (p : Fin 1024) (d : Fin 2048) :
    (iblk m c 0 t : Vec Ideal S1024x2048 .f32) (ix2 p d) = argX m c ⟨1024 * (t.val / 11) + p.val, rowLt t p⟩ d := by
  have hi := (starts t).1
  unfold iblk argX
  rw [View.read_apply]
  show V m c main_arg0 _ = _
  rw [V_main_arg0]
  congr 1
  funext a
  apply Fin.ext
  match a with
  | ⟨0, _⟩ => show win0_0.index t 0 * 1024 + 1 * p.val = 1024 * (t.val / 11) + p.val; rw [hi.1]; omega
  | ⟨1, _⟩ => show win0_0.index t 1 * 2048 + 1 * d.val = d.val; rw [hi.2]; omega

theorem blk_g (t : Fin cfg0.N) (d : Fin 2048) (k : Fin 512) :
    (iblk m c 2 t : Vec Ideal S2048x512 .bf16) (ix2 d k) = argG m c d ⟨start 512 4992 (t.val % 11) + k.val, colLt _ k⟩ := by
  have hi := (starts t).2.2.1
  unfold iblk argG
  rw [View.read_apply]
  show V m c main_v1 _ = _
  rw [cast_g]
  congr 1
  funext a
  apply Fin.ext
  match a with
  | ⟨0, _⟩ => show win0_2.index t 0 + 1 * d.val = d.val; rw [hi.1]; omega
  | ⟨1, _⟩ => show win0_2.index t 1 + 1 * k.val = start 512 4992 (t.val % 11) + k.val; rw [hi.2]; omega

theorem blk_u (t : Fin cfg0.N) (d : Fin 2048) (k : Fin 512) :
    (iblk m c 3 t : Vec Ideal S2048x512 .bf16) (ix2 d k) = argU m c d ⟨start 512 4992 (t.val % 11) + k.val, colLt _ k⟩ := by
  have hi := (starts t).2.2.2.1
  unfold iblk argU
  rw [View.read_apply]
  show V m c main_v2 _ = _
  rw [cast_u]
  congr 1
  funext a
  apply Fin.ext
  match a with
  | ⟨0, _⟩ => show win0_3.index t 0 + 1 * d.val = d.val; rw [hi.1]; omega
  | ⟨1, _⟩ => show win0_3.index t 1 + 1 * k.val = start 512 4992 (t.val % 11) + k.val; rw [hi.2]; omega

theorem blk_d (t : Fin cfg0.N) (k : Fin 512) (q : Fin 2048) :
    (iblk m c 4 t : Vec Ideal S512x2048 .bf16) (ix2 k q) = argD m c ⟨start 512 4992 (t.val % 11) + k.val, colLt _ k⟩ q := by
  have hi := (starts t).2.2.2.2.1
  unfold iblk argD
  rw [View.read_apply]
  show V m c main_v3 _ = _
  rw [cast_d]
  congr 1
  funext a
  apply Fin.ext
  match a with
  | ⟨0, _⟩ => show win0_4.index t 0 + 1 * k.val = start 512 4992 (t.val % 11) + k.val; rw [hi.1]; omega
  | ⟨1, _⟩ => show win0_4.index t 1 + 1 * q.val = q.val; rw [hi.2]; omega

/-- The norm's weights enter the region as one row. -/
theorem row_n (d : Fin 2048) : (V m c main_v0 : Vec Ideal S1x2048 .f32) (ix2 0 d) = argN m c d := by
  unfold argN
  show shapeCast S1x2048 (m ((c : Thread nD τ).loc main_arg1) : Vec Ideal S2048 .f32) _ (ix2 0 d) = _
  pointwise

theorem blk_n (t : Fin cfg0.N) (d : Fin 2048) :
    (iblk m c 1 t : Vec Ideal S1x2048 .f32) (ix2 0 d) = argN m c d := by
  have hi := (starts t).2.1
  rw [← row_n]
  unfold iblk
  rw [View.read_apply]
  show V m c main_v0 _ = _
  congr 1
  funext a
  apply Fin.ext
  match a with
  | ⟨0, _⟩ => show win0_1.index t 0 * 1 + 1 * 0 = 0; rw [hi.1]
  | ⟨1, _⟩ => show win0_1.index t 1 * 2048 + 1 * d.val = d.val; rw [hi.2]; omega

end Cert.Kernel2Ideal.Ffn2

end
-- ==== Proof.Ffn2.Fold.lean ====
/- What the scratch and the output block hold after each grid point, and the array the call ends with. -/
module

public import proofs.«01_k».proof.Proof.Ffn2.Pay
public import proofs.«01_k».proof.Proof.Ffn2.Block

@[expose] public section

set_option maxRecDepth 16384

noncomputable section

namespace Cert.Kernel2Ideal.Ffn2

open Cert.Kernel2Ideal Cert.Kernel2Ideal.Gen Idealize.ShloMosaic Idealize.ShloMosaic.TcCoe Idealize.SL.Sem
open FfnMath

variable (m : (ℓ : Loc nD τ sig) → Buf (Elt Ideal) ℓ) (c : Dev nD)

/-- The normalised row of token `r`. -/
def rowH (r : Fin 8192) : Fin 2048 → EReal := normed (argX m c r) (argN m c)

/-- What hidden unit `f` adds to output `(r, q)`. -/
def term (r : Fin 8192) (q : Fin 2048) (f : Fin 5504) : EReal :=
  hidUnit (rowH m c r) (fun d => argG m c d f) (fun d => argU m c d f) * argD m c f q

/-- What tile `j` adds to output `(r, q)`. -/
def tile (r : Fin 8192) (q : Fin 2048) (j : ℕ) : EReal :=
  ∑ k : Fin 512, (if 512 * j ≤ k.val + start 512 4992 j then ext (term m c r q) (start 512 4992 j + k.val) else 0)

/-- One point's sum: over a scratch holding the normalised rows, the tile's product is `tile`. -/
theorem point_sum (t : Fin cfg0.N) (s : Vec Ideal S1024x2048 .bf16) (o : Vec Ideal S1024x2048 .f32)
    (hs : ∀ (p : Fin 1024) (d : Fin 2048), s (ix2 p d) = rowH m c ⟨1024 * (t.val / 11) + p.val, rowLt t p⟩ d)
    (p : Fin 1024) (q : Fin 2048) :
    k0_pay1 (k0_pay3 (grid0.coords t) s (iblk m c 2 t) (iblk m c 3 t)) (k0_pay4 o) (iblk m c 4 t) (ix2 p q)
      = o (ix2 p q) + tile m c ⟨1024 * (t.val / 11) + p.val, rowLt t p⟩ q (t.val % 11) := by
  rw [pay1_apply, pay4_eq]
  refine congrArg (o (ix2 p q) + ·) (Finset.sum_congr rfl fun k _ => ?_)
  rw [pay3_apply, (starts t).2.2.2.2.2]
  split
  · rw [ext_of_lt _ (colLt _ k), blk_d m c t k q]
    unfold term
    congr 2
    · exact funext fun d => hs p d
    · exact funext fun d => blk_g m c t d k
    · exact funext fun d => blk_u m c t d k
  · exact zero_mul _

theorem first_scratch (t : Fin cfg0.N) (p : Fin 1024) (d : Fin 2048) :
    k0_pay2 (iblk m c 0 t : Vec Ideal S1024x2048 .f32) (iblk m c 1 t : Vec Ideal S1x2048 .f32) (ix2 p d)
      = rowH m c ⟨1024 * (t.val / 11) + p.val, rowLt t p⟩ d := by
  rw [pay2_apply]
  unfold rowH
  congr 1
  · exact funext fun e => blk_x m c t p e
  · exact funext fun e => blk_n m c t e

/-- What is to hold after point `n` of the scratch and of the output block: the scratch holds the normalised rows
    of the point's row tile, the output block the input rows plus the tiles up to this one. -/
def Held (n : ℕ) (hn : n < cfg0.N) (u : Vec Ideal S1024x2048 .f32 × Vec Ideal S1024x2048 .bf16) : Prop :=
  (∀ (p : Fin 1024) (d : Fin 2048), u.2 (ix2 p d) = rowH m c ⟨1024 * (n / 11) + p.val, rowLt ⟨n, hn⟩ p⟩ d)
    ∧ ∀ (p : Fin 1024) (q : Fin 2048), u.1 (ix2 p q)
      = argX m c ⟨1024 * (n / 11) + p.val, rowLt ⟨n, hn⟩ p⟩ q
        + ∑ j ∈ Finset.range (n % 11 + 1), tile m c ⟨1024 * (n / 11) + p.val, rowLt ⟨n, hn⟩ p⟩ q j

theorem held_first (t : Fin cfg0.N) (h0 : t.val % 11 = 0) : Held m c t.val t.isLt (outsAt0 m c t.val t.isLt) := by
  rw [outsAt0_A m c t h0, scratch_first, out_first]
  refine ⟨first_scratch m c t, fun p q => ?_⟩
  dsimp only
  rw [point_sum m c t _ _ (first_scratch m c t), blk_x, h0]
  rw [zero_add, Finset.sum_range_one]

theorem held_later (t : Fin cfg0.N) (h0 : ¬t.val % 11 = 0) (hb : t.val - 1 < cfg0.N)
    (ih : Held m c (t.val - 1) hb (outsAt0 m c (t.val - 1) hb)) : Held m c t.val t.isLt (outsAt0 m c t.val t.isLt) := by
  obtain ⟨hs, ho⟩ := ih
  have hd : (t.val - 1) / 11 = t.val / 11 := by omega
  have hm : (t.val - 1) % 11 + 1 = t.val % 11 := by omega
  simp only [hd, hm] at hs ho
  rw [outsAt0_B m c t h0, scratch_later, out_later]
  refine ⟨hs, fun p q => ?_⟩
  dsimp only
  rw [point_sum m c t _ _ hs, ho, Finset.sum_range_succ, add_assoc]

theorem held : ∀ (n : ℕ) (hn : n < cfg0.N), Held m c n hn (outsAt0 m c n hn) := by
  intro n
  induction n with
  | zero => exact fun hn => held_first m c ⟨0, hn⟩ (Nat.zero_mod _)
  | succ n ih =>
    intro hn
    by_cases h0 : (n + 1) % 11 = 0
    · exact held_first m c ⟨n + 1, hn⟩ h0
    · exact held_later m c ⟨n + 1, hn⟩ h0 (Nat.lt_of_succ_lt hn) (ih _)

/-- The array the call ends with, at an index. -/
theorem result_apply (r : Fin 8192) (q : Fin 2048) :
    (Value.G5 m c : Vec Ideal S8192x2048 .f32) (ix2 r q) = argX m c r q + ∑ f : Fin 5504, term m c r q f := by
  have hN := points
  have hr := r.isLt
  have hq := q.isLt
  have hp : Value.pt5Of (ix2 r q) = 11 * (r.val / 1024) + 10 := by
    show 11 * (1 * (r.val / 1024 - 0) + 1 * (q.val / 2048 - 0)) + 10 = _
    omega
  have hlt : 11 * (r.val / 1024) + 10 < cfg0.N := by omega
  have hl : Value.loc5Of (ix2 r q) = ix2 ⟨r.val % 1024, Nat.mod_lt _ (by decide)⟩ q := by
    funext a; apply Fin.ext
    match a with
    | ⟨0, _⟩ => rfl
    | ⟨1, _⟩ => show q.val % 2048 = q.val; omega
  unfold Value.G5
  rw [dif_pos (by rw [hp]; exact hlt), ← Value.outsAt0_sweep m c _ (by rw [hp]; exact hlt), hl]
  have hh := (held m c _ (by rw [hp]; exact hlt : Value.pt5Of (ix2 r q) < cfg0.N)).2 ⟨r.val % 1024, Nat.mod_lt _ (by decide)⟩ q
  refine hh.trans ?_
  have hrow : (⟨1024 * (Value.pt5Of (ix2 r q) / 11) + r.val % 1024, by rw [hp]; omega⟩ : Fin 8192) = r :=
    Fin.ext (by show 1024 * (Value.pt5Of (ix2 r q) / 11) + r.val % 1024 = r.val; rw [hp]; omega)
  simp only [hrow]
  rw [show Value.pt5Of (ix2 r q) % 11 + 1 = 11 by rw [hp]; omega]
  refine congrArg (argX m c r q + ·) ?_
  unfold tile
  rw [tiles_sum 512 4992 _ 11 (by decide)]
  exact sum_ext _

end Cert.Kernel2Ideal.Ffn2

end
-- ==== Proof.Ffn2.Equation.lean ====
/- The equation of the feed-forward claim: the reference's composed term over the kernel's arguments is the
   array the kernel ends with. -/
module

public import proofs.«01_k».proof.Proof.Ffn2.Fold
public import proofs.«01_k».proof.Proof.Ffn.Reference

@[expose] public section

set_option maxRecDepth 16384

noncomputable section

namespace Cert.Kernel2Ideal.Ffn2

open Cert.Kernel2Ideal Cert.Kernel2Ideal.Gen Idealize.ShloMosaic Idealize.ShloMosaic.TcCoe Idealize.SL.Sem

theorem equation (m : (ℓ : Loc nD τ sig) → Buf (Elt Ideal) ℓ) (c : Dev nD) :
    Cert.ReferenceIdeal.Ffn.composed (m ((c : Thread nD τ).loc main_arg0)) (m ((c : Thread nD τ).loc main_arg1))
      (m ((c : Thread nD τ).loc main_arg2)) (m ((c : Thread nD τ).loc main_arg3)) (m ((c : Thread nD τ).loc main_arg4))
      = Value.G5 m c := by
  funext i
  obtain ⟨r, q, rfl⟩ : ∃ (r : Fin 8192) (q : Fin 2048), i = ix2 r q := ⟨i 0, i 1, eq_ix2 i⟩
  rw [Cert.ReferenceIdeal.Ffn.composed_apply]
  exact (result_apply m c r q).symm

end Cert.Kernel2Ideal.Ffn2

end
-- ==== Proof.Merge.Math.lean ====
/- The merge of the two mixers' outputs at one index, over the extended reals. -/
module

public import Idealize.ShloMosaic.Lib.Pointwise

@[expose] public section

noncomputable section

namespace MergeMath

open Idealize.ShloMosaic

/-- The logistic function of `z`. -/
def logist (z : EReal) : EReal := Ideal.div 1 (1 + Ideal.exp (-z))

/-- One merged unit: each mixer's projection under its gate. -/
def merged (zg za : EReal) (og oa wg wa : Fin 1024 → EReal) : EReal :=
  logist zg * (∑ k, og k * wg k) + logist za * (∑ k, oa k * wa k)

end MergeMath

end
-- ==== Proof.Merge.Pay.lean ====
/- The merge call: what the body leaves in the output block, at one index. -/
module

public import proofs.«01_k».proof.Proof.Gen.Kernel3Ideal.Value
public import proofs.«01_k».proof.Proof.Merge.Math
public import Idealize.ShloMosaic.Lib.Tactic
public import Idealize.ShloMosaic.Lib.Pointwise

@[expose] public section

set_option maxRecDepth 16384

noncomputable section

namespace Cert.Kernel3Ideal.Merge

open Cert.Kernel3Ideal Cert.Kernel3Ideal.Gen Idealize.ShloMosaic Idealize.ShloMosaic.TcCoe Idealize.SL.Sem MergeMath

theorem pay2_apply (og : Vec Ideal S512x1024 .bf16) (wg : Vec Ideal S1024x2048 .bf16) (oa : Vec Ideal S512x1024 .bf16)
    (wa : Vec Ideal S1024x2048 .bf16) (gg ga : Vec Ideal S512x2048 .bf16) (p : Fin 512) (d : Fin 2048) :
    k0_pay2 og wg oa wa gg ga (ix2 p d) = merged (gg (ix2 p d)) (ga (ix2 p d)) (fun k => og (ix2 p k)) (fun k => oa (ix2 p k))
      (fun k => wg (ix2 k d)) (fun k => wa (ix2 k d)) := by
  unfold merged logist
  pointwise [k0_pay2]
  simp only [sub_eq_add_neg, zero_add]

theorem pay1_apply (x : Vec Ideal S512x2048 .f32) (v : FVec Ideal S512x2048 .bf16) (wo : Vec Ideal S2048x2048 .bf16)
    (p : Fin 512) (q : Fin 2048) :
    k0_pay1 x v wo (ix2 p q) = x (ix2 p q) + ∑ k : Fin 2048, v (ix2 p k) * wo (ix2 k q) := by
  pointwise [k0_pay1]

end Cert.Kernel3Ideal.Merge

end
-- ==== Proof.Merge.Block.lean ====
/- The merge call: what its points read, at an index, as the argument arrays at an index. -/
module

public import proofs.«01_k».proof.Proof.Gen.Kernel3Ideal.Value
public import Idealize.ShloMosaic.Lib.Tactic
public import Idealize.ShloMosaic.Lib.Pointwise

@[expose] public section

set_option maxRecDepth 16384

noncomputable section

namespace Cert.Kernel3Ideal.Merge

open Cert.Kernel3Ideal Cert.Kernel3Ideal.Gen Idealize.ShloMosaic Idealize.ShloMosaic.TcCoe Idealize.SL.Sem

theorem points : cfg0.N = 16 := N_0

/-- Where each window's block begins, over the whole grid. -/
theorem starts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 2)
    ∧ (win0_4.index t (0 : Fin 2) = t.val ∧ win0_4.index t (1 : Fin 2) = 3)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (cfg0.win 8).flush t = true :=
  (by decide +kernel : ∀ t : Fin grid0.N, _)

theorem rowLt (t : Fin cfg0.N) (p : Fin 512) : 512 * t.val + p.val < 8192 := by
  have := t.isLt; have := points; omega

/-- The row of the arrays that row `p` of point `t`'s blocks is. -/
def row (t : Fin cfg0.N) (p : Fin 512) : Fin 8192 := ⟨512 * t.val + p.val, rowLt t p⟩

variable (m : (ℓ : Loc nD τ sig) → Buf (Elt Ideal) ℓ) (c : Dev nD)

abbrev aX : FVec Ideal S8192x2048 .f32 := m ((c : Thread nD τ).loc main_arg0)
abbrev aG : FVec Ideal S8192x1024 .f32 := m ((c : Thread nD τ).loc main_arg1)
abbrev aA : FVec Ideal S8192x1024 .f32 := m ((c : Thread nD τ).loc main_arg2)
abbrev aP : FVec Ideal S8192x11280 .f32 := m ((c : Thread nD τ).loc main_arg3)
abbrev aWg : FVec Ideal S1024x2048 .f32 := m ((c : Thread nD τ).loc main_arg4)
abbrev aWa : FVec Ideal S1024x2048 .f32 := m ((c : Thread nD τ).loc main_arg5)
abbrev aWo : FVec Ideal S2048x2048 .f32 := m ((c : Thread nD τ).loc main_arg6)

theorem cast_G : (V m c main_v5 : Vec Ideal S8192x1024 .bf16) = aG m c := rfl
theorem cast_A : (V m c main_v6 : Vec Ideal S8192x1024 .bf16) = aA m c := rfl
theorem cast_Wg : (V m c main_v7 : Vec Ideal S1024x2048 .bf16) = aWg m c := rfl
theorem cast_Wa : (V m c main_v8 : Vec Ideal S1024x2048 .bf16) = aWa m c := rfl
theorem cast_Wo : (V m c main_v9 : Vec Ideal S2048x2048 .bf16) = aWo m c := rfl

/-- The projections' columns, re-ordered for the call. -/
def reordered (P : FVec Ideal S8192x11280 .f32) : FVec Ideal S8192x11264 .bf16 :=
  truncf .bf16 (concatenate S8192x11264 1
    [⟨S8192x4096, extractStridedSlice S8192x4096 ![0, 0] P slices_S8192x11280_S8192x4096_0_0⟩,
     ⟨S8192x4096, extractStridedSlice S8192x4096 ![0, 7184] P slices_S8192x11280_S8192x4096_0_7184⟩,
     ⟨S8192x3072, extractStridedSlice S8192x3072 ![0, 4112] P slices_S8192x11280_S8192x3072_0_4112⟩]
    concatenates_S8192x4096_S8192x4096_S8192x3072_S8192x11264_d1) bitsLt_bf16_f32

theorem cast_P : (V m c main_v4 : Vec Ideal S8192x11264 .bf16) = reordered (aP m c) := rfl

theorem reordered_gate (P : FVec Ideal S8192x11280 .f32) (r : Fin 8192) (d : Fin 4096) :
    reordered P (ix2 r ⟨4096 + d.val, by omega⟩) = P (ix2 r ⟨7184 + d.val, by omega⟩) := by
  pointwise [reordered]

theorem blk_x (t : Fin cfg0.N) (p : Fin 512) (d : Fin 2048) :
    (iblk m c 0 t : Vec Ideal S512x2048 .f32) (ix2 p d) = aX m c (ix2 (row t p) d) := by
  have hi := starts t
  unfold iblk
  rw [View.read_apply]
  show V m c main_arg0 _ = _
  rw [V_main_arg0]
  congr 1
  funext a
  apply Fin.ext
  match a with
  | ⟨0, _⟩ => show win0_0.index t 0 * 512 + 1 * p.val = 512 * t.val + p.val; simp only [hi]; omega
  | ⟨1, _⟩ => show win0_0.index t 1 * 2048 + 1 * d.val = d.val; simp only [hi]; omega

theorem blk_og (t : Fin cfg0.N) (p : Fin 512) (d : Fin 1024) :
    (iblk m c 1 t : Vec Ideal S512x1024 .bf16) (ix2 p d) = aG m c (ix2 (row t p) d) := by
  have hi := starts t
  unfold iblk
  rw [View.read_apply]
  show V m c main_v5 _ = _
  rw [cast_G]
  congr 1
  funext a
  apply Fin.ext
  match a with
  | ⟨0, _⟩ => show win0_1.index t 0 * 512 + 1 * p.val = 512 * t.val + p.val; simp only [hi]; omega
  | ⟨1, _⟩ => show win0_1.index t 1 * 1024 + 1 * d.val = d.val; simp only [hi]; omega

theorem blk_oa (t : Fin cfg0.N) (p : Fin 512) (d : Fin 1024) :
    (iblk m c 2 t : Vec Ideal S512x1024 .bf16) (ix2 p d) = aA m c (ix2 (row t p) d) := by
  have hi := starts t
  unfold iblk
  rw [View.read_apply]
  show V m c main_v6 _ = _
  rw [cast_A]
  congr 1
  funext a
  apply Fin.ext
  match a with
  | ⟨0, _⟩ => show win0_2.index t 0 * 512 + 1 * p.val = 512 * t.val + p.val; simp only [hi]; omega
  | ⟨1, _⟩ => show win0_2.index t 1 * 1024 + 1 * d.val = d.val; simp only [hi]; omega

theorem blk_wg (t : Fin cfg0.N) (p : Fin 1024) (d : Fin 2048) :
    (iblk m c 5 t : Vec Ideal S1024x2048 .bf16) (ix2 p d) = aWg m c (ix2 p d) := by
  have hi := starts t
  unfold iblk
  rw [View.read_apply]
  show V m c main_v7 _ = _
  rw [cast_Wg]
  congr 1
  funext a
  apply Fin.ext
  match a with
  | ⟨0, _⟩ => show win0_5.index t 0 * 1024 + 1 * p.val = p.val; simp only [hi]; omega
  | ⟨1, _⟩ => show win0_5.index t 1 * 2048 + 1 * d.val = d.val; simp only [hi]; omega

theorem blk_wa (t : Fin cfg0.N) (p : Fin 1024) (d : Fin 2048) :
    (iblk m c 6 t : Vec Ideal S1024x2048 .bf16) (ix2 p d) = aWa m c (ix2 p d) := by
  have hi := starts t
  unfold iblk
  rw [View.read_apply]
  show V m c main_v8 _ = _
  rw [cast_Wa]
  congr 1
  funext a
  apply Fin.ext
  match a with
  | ⟨0, _⟩ => show win0_6.index t 0 * 1024 + 1 * p.val = p.val; simp only [hi]; omega
  | ⟨1, _⟩ => show win0_6.index t 1 * 2048 + 1 * d.val = d.val; simp only [hi]; omega

theorem blk_wo (t : Fin cfg0.N) (p : Fin 2048) (d : Fin 2048) :
    (iblk m c 7 t : Vec Ideal S2048x2048 .bf16) (ix2 p d) = aWo m c (ix2 p d) := by
  have hi := starts t
  unfold iblk
  rw [View.read_apply]
  show V m c main_v9 _ = _
  rw [cast_Wo]
  congr 1
  funext a
  apply Fin.ext
  match a with
  | ⟨0, _⟩ => show win0_7.index t 0 * 2048 + 1 * p.val = p.val; simp only [hi]; omega
  | ⟨1, _⟩ => show win0_7.index t 1 * 2048 + 1 * d.val = d.val; simp only [hi]; omega

theorem blk_gg (t : Fin cfg0.N) (p : Fin 512) (d : Fin 2048) :
    (X0_3 m c t : Vec Ideal S512x2048 .bf16) (ix2 p d) = aP m c (ix2 (row t p) ⟨7184 + d.val, by omega⟩) := by
  have hi := starts t
  have hj : ((cfg0.win 3).xinj (cfg0.grid.coords t) fun a => ⟨((ix2 p d : S512x2048.Idx) a).val,
      lt_of_lt_of_eq ((ix2 p d : S512x2048.Idx) a).isLt (xsize0_3 t a).symm⟩) = (ix2 p d : S512x2048.Idx) := rfl
  unfold X0_3
  rw [← hj, Pipeline.Window.fill_xinj]
  unfold iblk
  rw [View.read_apply]
  show V m c main_v4 _ = _
  rw [cast_P]
  refine Eq.trans (congrArg _ ?_) ((reordered_gate (aP m c) (row t p) ⟨0 + d.val, by omega⟩).trans ?_)
  · funext a
    apply Fin.ext
    match a with
    | ⟨0, _⟩ => show win0_3.index t 0 * 512 + 1 * p.val = 512 * t.val + p.val; simp only [hi]; omega
    | ⟨1, _⟩ => show win0_3.index t 1 * 2048 + 1 * d.val = 4096 + (0 + d.val); simp only [hi]; omega
  · exact congrArg (fun k => aP m c (ix2 (row t p) k)) (Fin.ext (by show 7184 + (0 + d.val) = 7184 + d.val; omega))

theorem blk_ga (t : Fin cfg0.N) (p : Fin 512) (d : Fin 2048) :
    (X0_4 m c t : Vec Ideal S512x2048 .bf16) (ix2 p d) = aP m c (ix2 (row t p) ⟨9232 + d.val, by omega⟩) := by
  have hi := starts t
  have hj : ((cfg0.win 4).xinj (cfg0.grid.coords t) fun a => ⟨((ix2 p d : S512x2048.Idx) a).val,
      lt_of_lt_of_eq ((ix2 p d : S512x2048.Idx) a).isLt (xsize0_4 t a).symm⟩) = (ix2 p d : S512x2048.Idx) := rfl
  unfold X0_4
  rw [← hj, Pipeline.Window.fill_xinj]
  unfold iblk
  rw [View.read_apply]
  show V m c main_v4 _ = _
  rw [cast_P]
  refine Eq.trans (congrArg _ ?_) ((reordered_gate (aP m c) (row t p) ⟨2048 + d.val, by omega⟩).trans ?_)
  · funext a
    apply Fin.ext
    match a with
    | ⟨0, _⟩ => show win0_4.index t 0 * 512 + 1 * p.val = 512 * t.val + p.val; simp only [hi]; omega
    | ⟨1, _⟩ => show win0_4.index t 1 * 2048 + 1 * d.val = 4096 + (2048 + d.val); simp only [hi]; omega
  · exact congrArg (fun k => aP m c (ix2 (row t p) k)) (Fin.ext (by show 7184 + (2048 + d.val) = 9232 + d.val; omega))

end Cert.Kernel3Ideal.Merge

end
-- ==== Proof.Merge.Reference.lean ====
/- The merge's reference at one index. -/
module

public import proofs.«01_k».proof.Proof.Gen.Reference3Ideal.Run
public import proofs.«01_k».proof.Proof.Merge.Math
public import Idealize.ShloMosaic.Lib.Pointwise

@[expose] public section

set_option maxRecDepth 16384

noncomputable section

namespace Cert.Reference3Ideal.Merge

open Cert.Reference3Ideal Cert.Reference3Ideal.Gen Idealize.ShloMosaic Idealize.ShloMosaic.TcCoe Idealize.SL.Sem MergeMath

/-- A gate: the logistic function as the host's operations spell it. -/
def gate (z : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf z)))

/-- The composed term of the reference's operations. -/
def composed (x : FVec Ideal S8192x2048 .f32) (og oa : FVec Ideal S8192x1024 .f32) (P : FVec Ideal S8192x11280 .f32)
    (wg wa : FVec Ideal S1024x2048 .f32) (wo : FVec Ideal S2048x2048 .f32) : FVec Ideal S8192x2048 .f32 :=
  addf x (Host.dotGeneral dot_S8192x2048_S2048x2048_S8192x2048_1_0_0_1_n_n none
    (addf (mulf (gate (extractStridedSlice S8192x2048 ![0, 7184] P slices_S8192x11280_S8192x2048_0_7184))
        (Host.dotGeneral dot_S8192x1024_S1024x2048_S8192x2048_1_0_0_1_n_n none og wg))
      (mulf (gate (extractStridedSlice S8192x2048 ![0, 9232] P slices_S8192x11280_S8192x2048_0_9232))
        (Host.dotGeneral dot_S8192x1024_S1024x2048_S8192x2048_1_0_0_1_n_n none oa wa))) wo)

theorem composed_apply (x : FVec Ideal S8192x2048 .f32) (og oa : FVec Ideal S8192x1024 .f32) (P : FVec Ideal S8192x11280 .f32)
    (wg wa : FVec Ideal S1024x2048 .f32) (wo : FVec Ideal S2048x2048 .f32) (r : Fin 8192) (q : Fin 2048) :
    composed x og oa P wg wa wo (ix2 r q) = x (ix2 r q) + ∑ d : Fin 2048,
      merged (P (ix2 r ⟨7184 + d.val, by omega⟩)) (P (ix2 r ⟨9232 + d.val, by omega⟩)) (fun k => og (ix2 r k)) (fun k => oa (ix2 r k))
        (fun k => wg (ix2 k d)) (fun k => wa (ix2 k d)) * wo (ix2 d q) := by
  unfold merged logist
  pointwise [composed, gate]

end Cert.Reference3Ideal.Merge

end
-- ==== Proof.Merge.Equation.lean ====
/- The equation of the merge's claim: the reference's composed term is the array the kernel ends with. -/
module

public import proofs.«01_k».proof.Proof.Merge.Pay
public import proofs.«01_k».proof.Proof.Merge.Block
public import proofs.«01_k».proof.Proof.Merge.Reference

@[expose] public section

set_option maxRecDepth 16384

noncomputable section

namespace Cert.Kernel3Ideal.Merge

open Cert.Kernel3Ideal Cert.Kernel3Ideal.Gen Idealize.ShloMosaic Idealize.ShloMosaic.TcCoe Idealize.SL.Sem MergeMath

theorem off0 : (![0, 0] : Fin 2 → Nat) = fun _ => 0 := funext fun a => by fin_cases a <;> rfl

section
variable {F : FTy → Type} [FloatOps F]

/-- What the body leaves in the output block, as its own expressions over the blocks it reads. -/
theorem out_eq (c : Dev nD) (i : grid0.Coords)
    (a1 : Memref sig .tc .vmem S512x2048 .f32) (h1 : a1.IsWhole) (a2 : Memref sig .tc .vmem S512x1024 .bf16) (h2 : a2.IsWhole)
    (a3 : Memref sig .tc .vmem S512x1024 .bf16) (h3 : a3.IsWhole) (a4 : Memref sig .tc .vmem S512x2048 .bf16) (h4 : a4.IsWhole)
    (a5 : Memref sig .tc .vmem S512x2048 .bf16) (h5 : a5.IsWhole) (a6 : Memref sig .tc .vmem S1024x2048 .bf16) (h6 : a6.IsWhole)
    (a7 : Memref sig .tc .vmem S1024x2048 .bf16) (h7 : a7.IsWhole) (a8 : Memref sig .tc .vmem S2048x2048 .bf16) (h8 : a8.IsWhole)
    (a9 : Memref sig .tc .vmem S512x2048 .f32) (h9 : a9.IsWhole)
    (x : Vec F S512x2048 .f32) (og oa : Vec F S512x1024 .bf16) (gg ga : Vec F S512x2048 .bf16) (wg wa : Vec F S1024x2048 .bf16)
    (wo : Vec F S2048x2048 .bf16) :
    out0_A_8 c i a1 h1 a2 h2 a3 h3 a4 h4 a5 h5 a6 h6 a7 h7 a8 h8 a9 h9 x og oa gg ga wg wa wo
      = k0_pay1 x (k0_pay2 og wg oa wa gg ga) wo := by
  unfold out0_A_8
  rw [View.read_writes_eq_canon _ _ _ (cover0_A_8 c i a1 h1 a2 h2 a3 h3 a4 h4 a5 h5 a6 h6 a7 h7 a8 h8 a9 h9 x og oa gg ga wg wa wo)]
  unfold kernelRun0_A
  dsimp only
  sl_unfold_words
  rw [View.canon_unit_zero off0]
  simp only [View.readAt_eq_ld, h1.read_unread, h2.read_unread, h3.read_unread, h4.read_unread, h5.read_unread, h6.read_unread,
    h7.read_unread, h8.read_unread, View.ld_unit_zero (S := S512x2048) off0, View.ld_unit_zero (S := S512x1024) off0,
    View.ld_unit_zero (S := S1024x2048) off0, View.ld_unit_zero (S := S2048x2048) off0]
end

variable (m : (ℓ : Loc nD τ sig) → Buf (Elt Ideal) ℓ) (c : Dev nD)

theorem flushed_apply (t : Fin cfg0.N) (p : Fin 512) (q : Fin 2048) :
    ((dats m 0 c).flushed 8 t : Vec Ideal S512x2048 .f32) (ix2 p q)
      = aX m c (ix2 (row t p) q) + ∑ d : Fin 2048,
        merged (aP m c (ix2 (row t p) ⟨7184 + d.val, by omega⟩)) (aP m c (ix2 (row t p) ⟨9232 + d.val, by omega⟩))
          (fun k => aG m c (ix2 (row t p) k)) (fun k => aA m c (ix2 (row t p) k))
          (fun k => aWg m c (ix2 k d)) (fun k => aWa m c (ix2 k d)) * aWo m c (ix2 d q) := by
  rw [Value.flushed8_A, out_eq]
  show k0_pay1 _ _ _ (ix2 p q) = _
  rw [pay1_apply, blk_x]
  refine congrArg (aX m c (ix2 (row t p) q) + ·) (Finset.sum_congr rfl fun d _ => ?_)
  rw [pay2_apply, blk_wo, blk_gg, blk_ga]
  congr 2
  · exact funext fun k => blk_og m c t p k
  · exact funext fun k => blk_oa m c t p k
  · exact funext fun k => blk_wg m c t k d
  · exact funext fun k => blk_wa m c t k d

theorem equation : Cert.Reference3Ideal.Merge.composed (aX m c) (aG m c) (aA m c) (aP m c) (aWg m c) (aWa m c) (aWo m c)
    = (dats m 0 c).arrAt 8 cfg0.N := by
  funext i
  obtain ⟨r, q, rfl⟩ : ∃ (r : Fin 8192) (q : Fin 2048), i = ix2 r q := ⟨i 0, i 1, eq_ix2 i⟩
  have hr := r.isLt
  have hN := points
  obtain ⟨t, ht⟩ : ∃ t : Fin cfg0.N, t.val = r.val / 512 := ⟨⟨r.val / 512, by omega⟩, rfl⟩
  have hs := starts t
  have hrow : row t ⟨r.val % 512, Nat.mod_lt _ (by decide)⟩ = r :=
    Fin.ext (by show 512 * t.val + r.val % 512 = r.val; omega)
  rw [Cert.Reference3Ideal.Merge.composed_apply]
  have hb := congrFun (Value.blocks8 m c t hs.2.2.2.2.2.2.2.2.2) (ix2 ⟨r.val % 512, Nat.mod_lt _ (by decide)⟩ q)
  rw [View.read_apply] at hb
  have he : (((cfg0.win 8).blk t).view.emb (ix2 ⟨r.val % 512, Nat.mod_lt _ (by decide)⟩ q) : S8192x2048.Idx) = ix2 r q := by
    funext a
    apply Fin.ext
    match a with
    | ⟨0, _⟩ => show win0_8.index t 0 * 512 + 1 * (r.val % 512) = r.val; simp only [hs]; omega
    | ⟨1, _⟩ => show win0_8.index t 1 * 2048 + 1 * q.val = q.val; simp only [hs]; omega
  refine Eq.trans ?_ ((congrArg ((dats m 0 c).arrAt 8 cfg0.N) he).symm.trans hb).symm
  rw [flushed_apply, hrow]

end Cert.Kernel3Ideal.Merge

end
-- ==== Proof.Regroup.Body.lean ====
/- What the regrouping's body does at one grid point, from any contents of the buffers it covers: it
   stores one group of rows as columns, and at the first point the sixteen small rows as well. -/
module

public import proofs.«01_k».proof.Proof.Gen.Kernel4Ideal.Frame
public import proofs.«01_k».proof.Proof.Gen.Kernel4Ideal.Skeleton
public import Idealize.ShloMosaic.Lib.Pipeline.Value
public import Idealize.ShloMosaic.Lib.Tactic

@[expose] public section

set_option maxRecDepth 16384

noncomputable section

namespace Cert.Kernel4Ideal.Regroup

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem off2 : (![0, 0] : Fin 2 → Nat) = fun _ => 0 := funext fun a => by fin_cases a <;> rfl

/-- A store through the whole buffer reads back as what was stored. -/
theorem read_full {S : Shape} {e : EltTy} (v : View sig .tc .vmem S e) (f : v.ty.Contents (Elt F)) {off : Fin S.rank → Nat}
    (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-- The body at the first point. -/
theorem run_first (c : Dev nD) (i : grid0.Coords) (a1 : Memref sig .tc .vmem S1024x2048 .f32) (h1 : a1.IsWhole) (a2 : Memref sig .tc .vmem S16x2048 .f32) (h2 : a2.IsWhole) (a3 : Memref sig .tc .vmem S2048x1024 .bf16) (h3 : a3.IsWhole) (a4 : Memref sig .tc .vmem S2048x128 .bf16) (h4 : a4.IsWhole) (hc : k0_cond1 i = 1#1)
    (x1 : Vec F S1024x2048 .f32) (x2 : Vec F S16x2048 .f32) (E : Set ℕ) (K : PUnit → sProp 𝕄) :
    iprop(owns (c : Thread nD τ) a1 fullShare x1 ∗ owns (c : Thread nD τ) a2 fullShare x2 ∗ (∃ d, owns (c : Thread nD τ) a3 fullShare d) ∗ (∃ d, owns (c : Thread nD τ) a4 fullShare d)
        ∗ (iprop(owns (c : Thread nD τ) a1 fullShare x1 ∗ owns (c : Thread nD τ) a2 fullShare x2 ∗ owns (c : Thread nD τ) a3 fullShare (k0_pay1 x1) ∗ owns (c : Thread nD τ) a4 fullShare (k0_pay2 x2)) -∗ K ⟨⟩))
      ⊢ wp frame (wpE (defs₀ (F := F)) Variants.none c none) E (cc0_regroup i a1 h1 a2 h2 a3 h3 a4 h4) K := by
    simp only [cc0_regroup_eq_skeleton]; unfold cc0_regroup_skel
    unfold owns
    iintro ⟨⟨%f1, %hf1, H1⟩, ⟨%f2, %hf2, H2⟩, ⟨%d3, %f3, -, H3⟩, ⟨%d4, %f4, -, H4⟩, Hk⟩
    obtain rfl := h1.eq_unread hf1; obtain rfl := h2.eq_unread hf2
    sl_exec (disch := first | sl_exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; swap; · iexact H3
      ipureintro; sl_unfold_words
      refine (read_full _ _ off2 _ _).trans ?_
      simp only [View.readAt_eq_ld, h1.read_unread, h2.read_unread, View.ld_unit_zero (S := S1024x2048) off2, View.ld_unit_zero (S := S16x2048) off2]
    iexists _; isplitr; swap; · iexact H4
    ipureintro; sl_unfold_words
    refine (read_full _ _ off2 _ _).trans ?_
    simp only [View.readAt_eq_ld, h1.read_unread, h2.read_unread, View.ld_unit_zero (S := S1024x2048) off2, View.ld_unit_zero (S := S16x2048) off2]

/-- The body at a later point. -/
theorem run_later (c : Dev nD) (i : grid0.Coords) (a1 : Memref sig .tc .vmem S1024x2048 .f32) (h1 : a1.IsWhole) (a2 : Memref sig .tc .vmem S16x2048 .f32) (h2 : a2.IsWhole) (a3 : Memref sig .tc .vmem S2048x1024 .bf16) (h3 : a3.IsWhole) (a4 : Memref sig .tc .vmem S2048x128 .bf16) (h4 : a4.IsWhole) (hc : ¬k0_cond1 i = 1#1)
    (x1 : Vec F S1024x2048 .f32) (E : Set ℕ) (K : PUnit → sProp 𝕄) :
    iprop(owns (c : Thread nD τ) a1 fullShare x1 ∗ (∃ d, owns (c : Thread nD τ) a3 fullShare d) ∗ (iprop(owns (c : Thread nD τ) a1 fullShare x1 ∗ owns (c : Thread nD τ) a3 fullShare (k0_pay1 x1)) -∗ K ⟨⟩))
      ⊢ wp frame (wpE (defs₀ (F := F)) Variants.none c none) E (cc0_regroup i a1 h1 a2 h2 a3 h3 a4 h4) K := by
    simp only [cc0_regroup_eq_skeleton]; unfold cc0_regroup_skel
    unfold owns
    iintro ⟨⟨%f1, %hf1, H1⟩, ⟨%d3, %f3, -, H3⟩, Hk⟩
    obtain rfl := h1.eq_unread hf1
    sl_exec (disch := first | sl_exact hc)
    sl_step
    iapply Hk
    isplitl [H1]
    · iexists _; isplitr; · ipureintro; exact h1.read_unread _
      iexact H1
    iexists _; isplitr; swap; · iexact H3
    ipureintro; sl_unfold_words
    refine (read_full _ _ off2 _ _).trans ?_
    simp only [View.readAt_eq_ld, h1.read_unread, View.ld_unit_zero (S := S1024x2048) off2, View.ld_unit_zero (S := S16x2048) off2]

end Cert.Kernel4Ideal.Regroup

end
-- ==== Proof.Regroup.Frame.lean ====
/- The regrouping as a whole: what each buffer holds after each grid point, in closed form; the body
   keeps to it at every point; so the run ends with the argument unchanged and each result array at
   what the last write to each of its blocks left there. -/
module

public import proofs.«01_k».proof.Proof.Regroup.Body
public import Idealize.ShloMosaic.Lib.Pipeline.TableIdle
public import Idealize.ShloMosaic.Lib.Claim

@[expose] public section

set_option maxRecDepth 16384

noncomputable section

namespace Cert.Kernel4Ideal.Regroup

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 11 := lt_of_lt_of_eq t.isLt (show cfg0.N = 11 from N_0)

/-- The small rows are stored at the first point only. -/
theorem first_iff : ∀ t : Fin cfg0.N, k0_cond1 (grid0.coords t) = 1#1 ↔ t.val = 0 :=
  (by decide +kernel : ∀ t : Fin grid0.N, _)

theorem idle_3 (t : Fin cfg0.N) : cfg0.idle 3 (cfg0.grid.coords t) = !(decide (t.val = 0)) := by
  show (!(k0_cond1 (grid0.coords t) == 1#1)) = _
  congr 1
  rw [Bool.eq_iff_iff]
  simp only [beq_iff_eq, decide_eq_true_eq]
  exact first_iff t

theorem flush_3 : ∀ t : Fin cfg0.N, (cfg0.win 3).flush t = decide (t.val = 10) :=
  (by decide +kernel : ∀ t : Fin grid0.N, _)

/-- The first point. -/
def origin : Fin cfg0.N := ⟨0, lt_of_lt_of_eq (by decide : 0 < 11) (show 11 = cfg0.N from N_0.symm)⟩

/-- The small columns, stored at the first point and kept. -/
def small (c : Dev nD) : Vec F S2048x128 .bf16 := k0_pay2 (iblk m c 1 origin)

theorem small_first (c : Dev nD) (t : Fin cfg0.N) (h : t.val = 0) : small m c = k0_pay2 (iblk m c 1 t) := by
  unfold small; rw [show origin = t from Fin.ext h.symm]

abbrev ms0 (t : Fin cfg0.N) : Memref sig .tc .vmem S1024x2048 .f32 := win0_0.stage (cfg0.slots t 0)
abbrev ms1 (t : Fin cfg0.N) : Memref sig .tc .vmem S16x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S2048x128 .bf16 := win0_3.stage (cfg0.slots t 3)

/-- What each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t)
    | ⟨3, _⟩ => small m c
    | ⟨_ + 4, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (iblk m c 0 t) := by dsimp only [dats]
theorem after_3 (c : Dev nD) (t : Fin cfg0.N) : (dats m 0 c).after 3 t = small m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The small columns' buffer is empty at the first point and after the last. -/
theorem fresh_3 (n : ℕ) (hn : n ≤ cfg0.N) : cfg0.fresh 3 n = decide (n % 11 = 0) :=
  cfg0.fresh_tab 3 (fun n => decide (n % 11 = 0)) rfl (fun t => by
    have ht := points t
    rw [flush_3, idle_3]
    rw [Bool.eq_iff_iff]
    simp only [decide_eq_true_eq, Bool.or_eq_true, Bool.and_eq_true, Bool.not_eq_true', decide_eq_false_iff_not]
    omega) n hn

/-- At a later point the small columns' buffer holds what the first point stored. -/
theorem before_3 (c : Dev nD) (t : Fin cfg0.N) (h : ¬t.val = 0) (d) :
    (dats m 0 c).before 3 t d = small m c := by
  have ht := points t
  rw [(dats m 0 c).before_out_traj 3 rfl (fun _ _ => rfl) (fun s hs hi hf => by
      rw [after_3, after_3]) t.val t rfl d, fresh_3 t.val (le_of_lt t.isLt),
    if_neg (by rw [decide_eq_true_eq]; omega), after_3]

/-- What the small columns' buffer is handed back as. -/
def smallLeft (c : Dev nD) (t : Fin cfg0.N) : sProp 𝕄 :=
  match cfg0.idle 3 (cfg0.grid.coords t) with
  | true => match (cfg0.win 3).flush t with
    | false => iprop(∃ d, owns (c : Thread nD τ) (ms3 t) fullShare ((dats m 0 c).before 3 t d))
    | true => owns (c : Thread nD τ) (ms3 t) fullShare ((dats m 0 c).after 3 t)
  | false => owns (c : Thread nD τ) (ms3 t) fullShare ((dats m 0 c).after 3 t)

theorem small_left (c : Dev nD) (t : Fin cfg0.N) : owns (c : Thread nD τ) (ms3 t) fullShare (small m c) ⊢ smallLeft m c t := by
  unfold smallLeft
  rw [idle_3, flush_3, after_3]
  by_cases h : t.val = 0
  · rw [decide_eq_true h]
    show owns (c : Thread nD τ) (ms3 t) fullShare (small m c) ⊢ owns (c : Thread nD τ) (ms3 t) fullShare (small m c)
    iintro H; iexact H
  · rw [decide_eq_false h]
    by_cases h' : t.val = 10
    · rw [decide_eq_true h']
      show owns (c : Thread nD τ) (ms3 t) fullShare (small m c) ⊢ owns (c : Thread nD τ) (ms3 t) fullShare (small m c)
      iintro H; iexact H
    · rw [decide_eq_false h']
      simp only [before_3 m c t h]
      show owns (c : Thread nD τ) (ms3 t) fullShare (small m c) ⊢ iprop(∃ d : (cfg0.win 3).block.Idx → Elt F (cfg0.win 3).elt, owns (c : Thread nD τ) (ms3 t) fullShare (small m c))
      iintro H
      iexists (small m c)
      iexact H

/-! ## The body at each point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ smallLeft m c t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl,
    show (dats m 0 c).Φ t.succ = (dats m 0 c).Φ t.castSucc from rfl, after_0, after_1, after_2]
  by_cases h0 : t.val = 0
  · iintro ⟨Hg, Ho, ⟨%d0, H0⟩, ⟨%d1, H1⟩, ⟨%d2, H2⟩, ⟨%d3, H3⟩⟩
    iapply (run_first c (grid0.coords t) _ _ _ _ _ _ _ _ ((first_iff t).mpr h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [Hg]; · iexact Hg
    isplitl [Ho]; · iexact Ho
    isplitl [H0]; · iexact H0
    isplitl [H1]; · iexact H1
    isplitl [H2]; · iexact H2
    iapply (small_left m c t); rw [small_first m c t h0]; iexact H3
  · simp only [before_3 m c t h0]
    iintro ⟨Hg, Ho, ⟨%d0, H0⟩, ⟨%d1, H1⟩, ⟨%d2, H2⟩, ⟨%d3, H3⟩⟩
    iapply (run_later c (grid0.coords t) _ _ _ _ _ _ _ _ (fun h => h0 ((first_iff t).mp h)) (iblk m c 0 t) Set.univ _)
    isplitl [H0]; · iexact H0
    isplitl [H2]; · iexists _; iexact H2
    iintro ⟨H0, H2⟩
    isplitl [Hg]; · iexact Hg
    isplitl [Ho]; · iexact Ho
    isplitl [H0]; · iexact H0
    isplitl [H1]; · iexact H1
    isplitl [H2]; · iexact H2
    iapply (small_left m c t); iexact H3

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the argument unchanged and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.Kernel4Ideal.Regroup

end
-- ==== Proof.Inproj.Math.lean ====
/- The projection's columns as the call lays them out. -/
module

public import proofs.«01_k».proof.Proof.Ffn.Math
public import Idealize.ShloMosaic.Lib.Pointwise

@[expose] public section

noncomputable section

namespace InprojMath

open Idealize.ShloMosaic

/-- The column of the weight that column `j` of the packed product is taken from. -/
def col (j : Fin 11264) : Fin 11280 :=
  if h : j.val < 4096 then ⟨j.val, by omega⟩
  else if h' : j.val < 8192 then ⟨3088 + j.val, by omega⟩ else ⟨j.val - 4080, by omega⟩

theorem col_lo (d : Fin 4096) : col ⟨d.val, by omega⟩ = ⟨d.val, by omega⟩ := by
  unfold col; exact dif_pos d.isLt

theorem col_mid (d : Fin 4096) : col ⟨4096 + d.val, by omega⟩ = ⟨7184 + d.val, by omega⟩ := by
  unfold col
  rw [dif_neg (by show ¬(4096 + d.val < 4096); omega), dif_pos (by show 4096 + d.val < 8192; omega)]
  exact Fin.ext (by show 3088 + (4096 + d.val) = 7184 + d.val; omega)

theorem col_hi (d : Fin 3072) : col ⟨8192 + d.val, by omega⟩ = ⟨4112 + d.val, by omega⟩ := by
  unfold col
  rw [dif_neg (by show ¬(8192 + d.val < 4096); omega), dif_neg (by show ¬(8192 + d.val < 8192); omega)]
  exact Fin.ext (by show 8192 + d.val - 4080 = 4112 + d.val; omega)

/-- A packed column lies in one of the three ranges. -/
theorem col_cases (j : Fin 11264) : (∃ d : Fin 4096, j = ⟨d.val, by omega⟩) ∨ (∃ d : Fin 4096, j = ⟨4096 + d.val, by omega⟩)
    ∨ (∃ d : Fin 3072, j = ⟨8192 + d.val, by omega⟩) := by
  have hj := j.isLt
  by_cases h : j.val < 4096
  · exact Or.inl ⟨⟨j.val, h⟩, rfl⟩
  · by_cases h' : j.val < 8192
    · exact Or.inr (Or.inl ⟨⟨j.val - 4096, by omega⟩, Fin.ext (by show j.val = 4096 + (j.val - 4096); omega)⟩)
    · exact Or.inr (Or.inr ⟨⟨j.val - 8192, by omega⟩, Fin.ext (by show j.val = 8192 + (j.val - 8192); omega)⟩)

/-- One column of the small product: one of the sixteen columns the weight has for it, and zero after those. -/
def tail (f : Fin 16 → EReal) (j : Fin 128) : EReal := if h : j.val < 16 then f ⟨j.val, h⟩ else 0

/-- The whole number zero, read as a float. -/
theorem zero_word : (FloatOps.sitofp FTy.f32 (0#32 : BitVec 32) : Ideal .f32) = (0 : EReal) := by
  show ((((0#32 : BitVec 32).toInt : ℝ)) : EReal) = 0
  simp

end InprojMath

end
-- ==== Proof.Regroup.Equation.lean ====
/- The equations of the regrouping's claim: each result of the reference is the array the call ends with. -/
module

public import proofs.«01_k».proof.Proof.Gen.Reference4Ideal.Run
public import proofs.«01_k».proof.Proof.Regroup.Frame
public import proofs.«01_k».proof.Proof.Inproj.Math
public import Idealize.ShloMosaic.Lib.Pipeline.ValueKit.Geometry

@[expose] public section

set_option maxRecDepth 16384

noncomputable section

namespace Cert.Reference4Ideal.Regroup

open Cert.Reference4Ideal Cert.Reference4Ideal.Gen Idealize.ShloMosaic Idealize.ShloMosaic.TcCoe Idealize.SL.Sem InprojMath

/-- The weight's columns in the packed order. -/
def wpacked (P : FVec Ideal S2048x11280 .f32) : FVec Ideal S2048x11264 .bf16 :=
  truncf .bf16 (concatenate S2048x11264 1
    [⟨S2048x4096, extractStridedSlice S2048x4096 ![0, 0] P slices_S2048x11280_S2048x4096_0_0⟩,
     ⟨S2048x4096, extractStridedSlice S2048x4096 ![0, 7184] P slices_S2048x11280_S2048x4096_0_7184⟩,
     ⟨S2048x3072, extractStridedSlice S2048x3072 ![0, 4112] P slices_S2048x11280_S2048x3072_0_4112⟩]
    concatenates_S2048x4096_S2048x4096_S2048x3072_S2048x11264_d1) bitsLt_bf16_f32

/-- The weight's small columns, filled up with zeros. -/
def wpadded (P : FVec Ideal S2048x11280 .f32) : FVec Ideal S2048x128 .bf16 :=
  truncf .bf16 (pad S2048x128 ![0, 0] ![0, 112] ![0, 0]
    (extractStridedSlice S2048x16 ![0, 4096] P slices_S2048x11280_S2048x16_0_4096)
    (sitofp .f32 (constantI S_ 32 0#32)) pads_S2048x16_S2048x128_000_01120 h_S_) bitsLt_bf16_f32

theorem wpacked_apply (P : FVec Ideal S2048x11280 .f32) (r : Fin 2048) (j : Fin 11264) :
    wpacked P (ix2 r j) = P (ix2 r (col j)) := by
  rcases col_cases j with ⟨d, rfl⟩ | ⟨d, rfl⟩ | ⟨d, rfl⟩
  · rw [col_lo]; pointwise [wpacked]
  · rw [col_mid]; pointwise [wpacked]
  · rw [col_hi]
    pointwise [wpacked]
    rw [dif_neg (by omega), dif_neg (by omega)]
    exact congrArg (fun k => P (ix2 r k)) (Fin.ext (by show 4112 + (8192 + d.val - 4096 - 4096) = 4112 + d.val; omega))

theorem wpadded_lo (P : FVec Ideal S2048x11280 .f32) (r : Fin 2048) (d : Fin 16) :
    wpadded P (ix2 r ⟨d.val, by omega⟩) = P (ix2 r ⟨4096 + d.val, by omega⟩) := by
  pointwise [wpadded]
theorem wpadded_hi (P : FVec Ideal S2048x11280 .f32) (r : Fin 2048) (d : Fin 112) :
    wpadded P (ix2 r ⟨16 + d.val, by omega⟩) = 0 := by
  pointwise [wpadded]
  exact zero_word

end Cert.Reference4Ideal.Regroup

namespace Cert.Kernel4Ideal.Regroup

open Cert.Kernel4Ideal Cert.Kernel4Ideal.Gen Idealize.ShloMosaic Idealize.ShloMosaic.TcCoe Idealize.SL.Sem InprojMath

theorem pay1_apply (x : Vec Ideal S1024x2048 .f32) (d : Fin 2048) (q : Fin 1024) : k0_pay1 x (ix2 d q) = x (ix2 q d) := by
  pointwise [k0_pay1]

theorem pay2_lo (x : Vec Ideal S16x2048 .f32) (d : Fin 2048) (q : Fin 16) :
    k0_pay2 x (ix2 d ⟨q.val, by omega⟩) = x (ix2 q d) := by
  pointwise [k0_pay2]
theorem pay2_hi (x : Vec Ideal S16x2048 .f32) (d : Fin 2048) (q : Fin 112) :
    k0_pay2 x (ix2 d ⟨16 + q.val, by omega⟩) = 0 := by
  pointwise [k0_pay2]

/-- Where each window's block begins; the first two windows' starts are element offsets. -/
theorem starts : ∀ t : Fin cfg0.N,
    (win0_0.index t (0 : Fin 2) = (if t.val < 4 then 1024 * t.val else if t.val < 8 then 3088 + 1024 * t.val else 1024 * t.val - 4080)
      ∧ win0_0.index t (1 : Fin 2) = 0)
    ∧ (win0_1.index t (0 : Fin 2) = 4096 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = 0) :=
  (by decide +kernel : ∀ t : Fin grid0.N, _)

/-- The packed column that column `q` of point `t`'s block is. -/
def lane (t : Fin cfg0.N) (q : Fin 1024) : Fin 11264 := ⟨1024 * t.val + q.val, by have := points t; omega⟩

/-- The row of the transposed weight that row `q` of point `t`'s block is. -/
theorem lane_start (t : Fin cfg0.N) (q : Fin 1024) :
    (col (lane t q)).val
      = (if t.val < 4 then 1024 * t.val else if t.val < 8 then 3088 + 1024 * t.val else 1024 * t.val - 4080) + q.val := by
  have hv : (lane t q).val = 1024 * t.val + q.val := rfl
  unfold col
  by_cases h : t.val < 4
  · rw [if_pos h, dif_pos (by rw [hv]; omega)]; exact hv
  · rw [if_neg h, dif_neg (by rw [hv]; omega)]
    by_cases h' : t.val < 8
    · rw [if_pos h', dif_pos (by rw [hv]; omega)]
      show 3088 + (lane t q).val = _
      rw [hv]; omega
    · rw [if_neg h', dif_neg (by rw [hv]; omega)]
      show (lane t q).val - 4080 = _
      rw [hv]; omega

variable (m : (ℓ : Loc nD τ sig) → Buf (Elt Ideal) ℓ) (c : Dev nD)

abbrev aW : FVec Ideal S2048x11280 .f32 := m ((c : Thread nD τ).loc main_arg0)

/-- The weight with its axes exchanged. -/
def turned (P : FVec Ideal S2048x11280 .f32) : FVec Ideal S11280x2048 .f32 :=
  transpose S11280x2048 [1, 0] P transposes_S2048x11280_S11280x2048_1_0

theorem turned_apply (P : FVec Ideal S2048x11280 .f32) (j : Fin 11280) (d : Fin 2048) : turned P (ix2 j d) = P (ix2 d j) := by
  pointwise [turned]

theorem host_T : (V m c main_v0 : Vec Ideal S11280x2048 .f32) = turned (aW m c) := rfl

theorem blk_main (t : Fin cfg0.N) (q : Fin 1024) (d : Fin 2048) :
    (iblk m c 0 t : Vec Ideal S1024x2048 .f32) (ix2 q d) = aW m c (ix2 d (col (lane t q))) := by
  have hi := starts t
  have hl := lane_start t q
  unfold iblk
  rw [View.read_apply]
  show V m c main_v0 _ = _
  rw [host_T]
  refine Eq.trans (congrArg _ ?_) (turned_apply (aW m c) (col (lane t q)) d)
  funext a
  apply Fin.ext
  match a with
  | ⟨0, _⟩ => show win0_0.index t 0 + 1 * q.val = (col (lane t q)).val; rw [hl, hi.1.1]; omega
  | ⟨1, _⟩ => show win0_0.index t 1 + 1 * d.val = d.val; rw [hi.1.2]; omega

theorem blk_ab (t : Fin cfg0.N) (q : Fin 16) (d : Fin 2048) :
    (iblk m c 1 t : Vec Ideal S16x2048 .f32) (ix2 q d) = aW m c (ix2 d ⟨4096 + q.val, by omega⟩) := by
  have hi := starts t
  unfold iblk
  rw [View.read_apply]
  show V m c main_v0 _ = _
  rw [host_T]
  refine Eq.trans (congrArg _ ?_) (turned_apply (aW m c) ⟨4096 + q.val, by omega⟩ d)
  funext a
  apply Fin.ext
  match a with
  | ⟨0, _⟩ => show win0_1.index t 0 + 1 * q.val = 4096 + q.val; rw [hi.2.1.1]; omega
  | ⟨1, _⟩ => show win0_1.index t 1 + 1 * d.val = d.val; rw [hi.2.1.2]; omega

theorem small_apply (d : Fin 2048) (j : Fin 128) :
    (small m c : Vec Ideal S2048x128 .bf16) (ix2 d j) = Cert.Reference4Ideal.Regroup.wpadded (aW m c) (ix2 d j) := by
  have hj := j.isLt
  unfold small
  by_cases h : j.val < 16
  · exact (pay2_lo _ d ⟨j.val, h⟩).trans ((blk_ab m c origin ⟨j.val, h⟩ d).trans
      (Cert.Reference4Ideal.Regroup.wpadded_lo (aW m c) d ⟨j.val, h⟩).symm)
  · have hk : j = ⟨16 + (j.val - 16), by omega⟩ := Fin.ext (by show j.val = 16 + (j.val - 16); omega)
    rw [hk]
    exact (pay2_hi _ d ⟨j.val - 16, by omega⟩).trans
      (Cert.Reference4Ideal.Regroup.wpadded_hi (aW m c) d ⟨j.val - 16, by omega⟩).symm

theorem equation_main : Cert.Reference4Ideal.Regroup.wpacked (aW m c) = (dats m 0 c).arrAt 2 cfg0.N := by
  refine ((dats m 0 c).arrAt_eq_of_covers 2 _ (by decide +kernel) fun t hf y => ?_).symm
  have hi := starts t
  obtain ⟨d, q, rfl⟩ : ∃ (d : Fin 2048) (q : Fin 1024), y = (ix2 d q : S2048x1024.Idx) := ⟨y 0, y 1, eq_ix2 y⟩
  refine (congrFun (after_2 m c t) (ix2 d q)).trans ((pay1_apply _ d q).trans ((blk_main m c t q d).trans
    ((Cert.Reference4Ideal.Regroup.wpacked_apply (aW m c) d (lane t q)).symm.trans (congrArg _ ?_))))
  funext a
  apply Fin.ext
  match a with
  | ⟨0, _⟩ => show d.val = win0_2.index t 0 * 2048 + 1 * d.val; rw [hi.2.2.1.1]; omega
  | ⟨1, _⟩ => show 1024 * t.val + q.val = win0_2.index t 1 * 1024 + 1 * q.val; rw [hi.2.2.1.2]; omega

theorem equation_ab : Cert.Reference4Ideal.Regroup.wpadded (aW m c) = (dats m 0 c).arrAt 3 cfg0.N := by
  refine ((dats m 0 c).arrAt_eq_of_covers 3 _ (by decide +kernel) fun t hf y => ?_).symm
  have hi := starts t
  obtain ⟨d, j, rfl⟩ : ∃ (d : Fin 2048) (j : Fin 128), y = (ix2 d j : S2048x128.Idx) := ⟨y 0, y 1, eq_ix2 y⟩
  refine (congrFun (after_3 m c t) (ix2 d j)).trans ((small_apply m c d j).trans (congrArg _ ?_))
  funext a
  apply Fin.ext
  match a with
  | ⟨0, _⟩ => show d.val = win0_3.index t 0 * 2048 + 1 * d.val; rw [hi.2.2.2.1]; omega
  | ⟨1, _⟩ => show j.val = win0_3.index t 1 * 128 + 1 * j.val; rw [hi.2.2.2.2]; omega

/-- Every run ends with each result at its array's last contents and the argument unchanged. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 2 cfg0.N
      ∧ r.2.mem ((c.tc : Thread nD τ).loc main_v1_1) = (dats m 0 c).arrAt 3 cfg0.N
      ∧ r.2.mem ((c.tc : Thread nD τ).loc main_arg0) = m ((c.tc : Thread nD τ).loc main_arg0)) :=
  (θ_run defs _ _).mono (fun _ h c => ⟨((h c).1 2), ((h c).1 3),
    ((h c).2 main_arg0 (Pipeline.mem_restRefs_of main_arg0 (by decide) (by decide))).trans (V_main_arg0 m c)⟩) (run_main m ρ)

end Cert.Kernel4Ideal.Regroup

end
-- ==== Proof.Inproj.Pay.lean ====
/- What the projection's body computes, at one index. -/
module

public import proofs.«01_k».proof.Proof.Gen.Kernel5Ideal.Skeleton
public import proofs.«01_k».proof.Proof.Inproj.Math

@[expose] public section

set_option maxRecDepth 16384

noncomputable section

namespace Cert.Kernel5Ideal.Inproj

open Cert.Kernel5Ideal Cert.Kernel5Ideal.Gen Idealize.ShloMosaic Idealize.ShloMosaic.TcCoe Idealize.SL.Sem FfnMath InprojMath

theorem pay3_apply (x : Vec Ideal S1024x2048 .f32) (w : Vec Ideal S1x2048 .f32) (p : Fin 1024) (d : Fin 2048) :
    k0_pay3 x w (ix2 p d) = normed (fun e => x (ix2 p e)) (fun e => w (ix2 0 e)) d := by
  unfold normed scale
  pointwise [k0_pay3]

theorem pay4_apply (x : Vec Ideal S1024x2048 .f32) (w : Vec Ideal S1x2048 .f32) (p : Fin 1024) (d : Fin 2048) :
    k0_pay4 x w (ix2 p d) = normed (fun e => x (ix2 p e)) (fun e => w (ix2 0 e)) d := by
  rw [← pay3_apply]
  pointwise [k0_pay4]

theorem pay5_apply (x : Vec Ideal S1024x2048 .f32) (w : Vec Ideal S1x2048 .f32) (wt : Vec Ideal S2048x128 .bf16) (p : Fin 1024)
    (q : Fin 128) : k0_pay5 x w wt (ix2 p q) = ∑ d : Fin 2048, normed (fun e => x (ix2 p e)) (fun e => w (ix2 0 e)) d * wt (ix2 d q) := by
  simp only [← pay3_apply]
  pointwise [k0_pay5]

theorem pay6_apply (h : Vec Ideal S1024x2048 .bf16) (wt : Vec Ideal S2048x1024 .bf16) (p : Fin 1024) (q : Fin 1024) :
    k0_pay6 h wt (ix2 p q) = ∑ d : Fin 2048, h (ix2 p d) * wt (ix2 d q) := by
  pointwise [k0_pay6]

theorem pay7_apply (v : Vec Ideal S1x16x2048 .f32) (p : Fin 16) (q : Fin 2048) : k0_pay7 v (ix2 p q) = v (ix3 0 p q) := by
  pointwise [k0_pay7]
theorem pay8_apply (v : Vec Ideal S1x16x2048 .f32) (p : Fin 16) (q : Fin 2048) : k0_pay8 v (ix2 p q) = v (ix3 0 p q) := by
  pointwise [k0_pay8]
theorem pay9_apply (v : Vec Ideal S1x32x2048 .f32) (p : Fin 32) (q : Fin 2048) : k0_pay9 v (ix2 p q) = v (ix3 0 p q) := by
  pointwise [k0_pay9]
theorem pay10_apply (v : Vec Ideal S1x32x5504 .f32) (p : Fin 32) (q : Fin 5504) : k0_pay10 v (ix2 p q) = v (ix3 0 p q) := by
  pointwise [k0_pay10]
theorem pay1_apply (v : Vec Ideal S1x32x5504 .f32) (p : Fin 32) (q : Fin 5504) : k0_pay1 v (ix2 p q) = v (ix3 0 p q) := by
  pointwise [k0_pay1]
theorem pay2_apply (v : Vec Ideal S1x64x2048 .f32) (p : Fin 64) (q : Fin 2048) : k0_pay2 v (ix2 p q) = v (ix3 0 p q) := by
  pointwise [k0_pay2]

end Cert.Kernel5Ideal.Inproj

end
-- ==== Proof.Inproj.Body.lean ====
/- What the projection's body does at one grid point, from any contents of the buffers it covers:
   at a row block's first point it stores the normalised rows in the scratch and the small product in
   its block, and at every point the large product's block and the rounded copies of six weight blocks. -/
module

public import proofs.«01_k».proof.Proof.Gen.Kernel5Ideal.Frame
public import proofs.«01_k».proof.Proof.Gen.Kernel5Ideal.Skeleton
public import Idealize.ShloMosaic.Lib.Pipeline.Value
public import Idealize.ShloMosaic.Lib.Tactic

@[expose] public section

set_option maxRecDepth 16384

noncomputable section

namespace Cert.Kernel5Ideal.Inproj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem off2 : (![0, 0] : Fin 2 → Nat) = fun _ => 0 := funext fun a => by fin_cases a <;> rfl
theorem off3 : (![0, 0, 0] : Fin 3 → Nat) = fun _ => 0 := funext fun a => by fin_cases a <;> rfl

/-- A store through the whole buffer reads back as what was stored. -/
theorem read_full {S : Shape} {e : EltTy} (v : View sig .tc .vmem S e) (f : v.ty.Contents (Elt F)) {off : Fin S.rank → Nat}
    (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

set_option maxHeartbeats 4000000 in
/-- The body at the first point of a row block. -/
theorem run_first (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S2048x128 .bf16) (h5 : a5.IsWhole) (a6 : Memref sig .tc .vmem S1x16x2048 .f32) (h6 : a6.IsWhole) (a7 : Memref sig .tc .vmem S1x16x2048 .f32) (h7 : a7.IsWhole) (a8 : Memref sig .tc .vmem S1x32x2048 .f32) (h8 : a8.IsWhole) (a9 : Memref sig .tc .vmem S1x32x5504 .f32) (h9 : a9.IsWhole) (a10 : Memref sig .tc .vmem S1x32x5504 .f32) (h10 : a10.IsWhole) (a11 : Memref sig .tc .vmem S1x64x2048 .f32) (h11 : a11.IsWhole) (a12 : Memref sig .tc .vmem S1024x1024 .bf16) (h12 : a12.IsWhole) (a13 : Memref sig .tc .vmem S1024x128 .f32) (h13 : a13.IsWhole) (a14 : Memref sig .tc .vmem S16x2048 .bf16) (h14 : a14.IsWhole) (a15 : Memref sig .tc .vmem S16x2048 .bf16) (h15 : a15.IsWhole) (a16 : Memref sig .tc .vmem S32x2048 .bf16) (h16 : a16.IsWhole) (a17 : Memref sig .tc .vmem S32x5504 .bf16) (h17 : a17.IsWhole) (a18 : Memref sig .tc .vmem S32x5504 .bf16) (h18 : a18.IsWhole) (a19 : Memref sig .tc .vmem S64x2048 .bf16) (h19 : a19.IsWhole) (a20 : Memref sig .tc .vmem S1024x2048 .bf16) (h20 : a20.IsWhole) (hc : k0_cond1 i = 1#1)
    (x2 : Vec F S1024x2048 .f32) (x3 : Vec F S1x2048 .f32) (x4 : Vec F S2048x1024 .bf16) (x5 : Vec F S2048x128 .bf16) (x6 : Vec F S1x16x2048 .f32) (x7 : Vec F S1x16x2048 .f32) (x8 : Vec F S1x32x2048 .f32) (x9 : Vec F S1x32x5504 .f32) (x10 : Vec F S1x32x5504 .f32) (x11 : Vec F S1x64x2048 .f32) (E : Set ℕ) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d)
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare (k0_pay6 (k0_pay4 x2 x3) x4) ∗ owns (c : Thread nD τ) a13 fullShare (k0_pay5 x2 x3 x5) ∗ owns (c : Thread nD τ) a14 fullShare (k0_pay7 x6) ∗ owns (c : Thread nD τ) a15 fullShare (k0_pay8 x7) ∗ owns (c : Thread nD τ) a16 fullShare (k0_pay9 x8) ∗ owns (c : Thread nD τ) a17 fullShare (k0_pay10 x9) ∗ owns (c : Thread nD τ) a18 fullShare (k0_pay1 x10) ∗ owns (c : Thread nD τ) a19 fullShare (k0_pay2 x11) ∗ owns (c : Thread nD τ) a20 fullShare (k0_pay4 x2 x3)) -∗ K ⟨⟩))
      ⊢ wp frame (wpE (defs₀ (F := F)) Variants.none c none) E (cc0_inproj i a2 h2 a3 h3 a4 h4 a5 h5 a6 h6 a7 h7 a8 h8 a9 h9 a10 h10 a11 h11 a12 h12 a13 h13 a14 h14 a15 h15 a16 h16 a17 h17 a18 h18 a19 h19 a20 h20) K := by
    simp only [cc0_inproj_eq_skeleton]; unfold cc0_inproj_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11
    sl_exec (disch := first | sl_exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; swap; · iexact H12
      ipureintro; sl_unfold_words
      refine (read_full _ _ off2 _ _).trans ?_
      simp only [View.readCov_unit_zero (S := S1024x2048) _ off2, View.readAt_eq_ld, h2.read_unread, h3.read_unread, h4.read_unread, h5.read_unread, h6.read_unread, h7.read_unread, h8.read_unread, h9.read_unread, h10.read_unread, h11.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H13]
    · iexists _; isplitr; swap; · iexact H13
      ipureintro; sl_unfold_words
      refine (read_full _ _ off2 _ _).trans ?_
      simp only [View.readCov_unit_zero (S := S1024x2048) _ off2, View.readAt_eq_ld, h2.read_unread, h3.read_unread, h4.read_unread, h5.read_unread, h6.read_unread, h7.read_unread, h8.read_unread, h9.read_unread, h10.read_unread, h11.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H14]
    · iexists _; isplitr; swap; · iexact H14
      ipureintro; sl_unfold_words
      refine (read_full _ _ off2 _ _).trans ?_
      simp only [View.readCov_unit_zero (S := S1024x2048) _ off2, View.readAt_eq_ld, h2.read_unread, h3.read_unread, h4.read_unread, h5.read_unread, h6.read_unread, h7.read_unread, h8.read_unread, h9.read_unread, h10.read_unread, h11.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H15]
    · iexists _; isplitr; swap; · iexact H15
      ipureintro; sl_unfold_words
      refine (read_full _ _ off2 _ _).trans ?_
      simp only [View.readCov_unit_zero (S := S1024x2048) _ off2, View.readAt_eq_ld, h2.read_unread, h3.read_unread, h4.read_unread, h5.read_unread, h6.read_unread, h7.read_unread, h8.read_unread, h9.read_unread, h10.read_unread, h11.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H16]
    · iexists _; isplitr; swap; · iexact H16
      ipureintro; sl_unfold_words
      refine (read_full _ _ off2 _ _).trans ?_
      simp only [View.readCov_unit_zero (S := S1024x2048) _ off2, View.readAt_eq_ld, h2.read_unread, h3.read_unread, h4.read_unread, h5.read_unread, h6.read_unread, h7.read_unread, h8.read_unread, h9.read_unread, h10.read_unread, h11.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H17]
    · iexists _; isplitr; swap; · iexact H17
      ipureintro; sl_unfold_words
      refine (read_full _ _ off2 _ _).trans ?_
      simp only [View.readCov_unit_zero (S := S1024x2048) _ off2, View.readAt_eq_ld, h2.read_unread, h3.read_unread, h4.read_unread, h5.read_unread, h6.read_unread, h7.read_unread, h8.read_unread, h9.read_unread, h10.read_unread, h11.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H18]
    · iexists _; isplitr; swap; · iexact H18
      ipureintro; sl_unfold_words
      refine (read_full _ _ off2 _ _).trans ?_
      simp only [View.readCov_unit_zero (S := S1024x2048) _ off2, View.readAt_eq_ld, h2.read_unread, h3.read_unread, h4.read_unread, h5.read_unread, h6.read_unread, h7.read_unread, h8.read_unread, h9.read_unread, h10.read_unread, h11.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H19]
    · iexists _; isplitr; swap; · iexact H19
      ipureintro; sl_unfold_words
      refine (read_full _ _ off2 _ _).trans ?_
      simp only [View.readCov_unit_zero (S := S1024x2048) _ off2, View.readAt_eq_ld, h2.read_unread, h3.read_unread, h4.read_unread, h5.read_unread, h6.read_unread, h7.read_unread, h8.read_unread, h9.read_unread, h10.read_unread, h11.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    iexists _; isplitr; swap; · iexact H20
    ipureintro; sl_unfold_words
    refine (read_full _ _ off2 _ _).trans ?_
    simp only [View.readCov_unit_zero (S := S1024x2048) _ off2, View.readAt_eq_ld, h2.read_unread, h3.read_unread, h4.read_unread, h5.read_unread, h6.read_unread, h7.read_unread, h8.read_unread, h9.read_unread, h10.read_unread, h11.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]

set_option maxHeartbeats 4000000 in
/-- The body at a later point of a row block: the scratch is read and kept. -/
theorem run_later (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S2048x128 .bf16) (h5 : a5.IsWhole) (a6 : Memref sig .tc .vmem S1x16x2048 .f32) (h6 : a6.IsWhole) (a7 : Memref sig .tc .vmem S1x16x2048 .f32) (h7 : a7.IsWhole) (a8 : Memref sig .tc .vmem S1x32x2048 .f32) (h8 : a8.IsWhole) (a9 : Memref sig .tc .vmem S1x32x5504 .f32) (h9 : a9.IsWhole) (a10 : Memref sig .tc .vmem S1x32x5504 .f32) (h10 : a10.IsWhole) (a11 : Memref sig .tc .vmem S1x64x2048 .f32) (h11 : a11.IsWhole) (a12 : Memref sig .tc .vmem S1024x1024 .bf16) (h12 : a12.IsWhole) (a13 : Memref sig .tc .vmem S1024x128 .f32) (h13 : a13.IsWhole) (a14 : Memref sig .tc .vmem S16x2048 .bf16) (h14 : a14.IsWhole) (a15 : Memref sig .tc .vmem S16x2048 .bf16) (h15 : a15.IsWhole) (a16 : Memref sig .tc .vmem S32x2048 .bf16) (h16 : a16.IsWhole) (a17 : Memref sig .tc .vmem S32x5504 .bf16) (h17 : a17.IsWhole) (a18 : Memref sig .tc .vmem S32x5504 .bf16) (h18 : a18.IsWhole) (a19 : Memref sig .tc .vmem S64x2048 .bf16) (h19 : a19.IsWhole) (a20 : Memref sig .tc .vmem S1024x2048 .bf16) (h20 : a20.IsWhole) (hc : ¬k0_cond1 i = 1#1)
    (x4 : Vec F S2048x1024 .bf16) (x6 : Vec F S1x16x2048 .f32) (x7 : Vec F S1x16x2048 .f32) (x8 : Vec F S1x32x2048 .f32) (x9 : Vec F S1x32x5504 .f32) (x10 : Vec F S1x32x5504 .f32) (x11 : Vec F S1x64x2048 .f32) (x20 : Vec F S1024x2048 .bf16) (E : Set ℕ) (K : PUnit → sProp 𝕄) :
    iprop(owns (c : Thread nD τ) a4 fullShare x4 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a20 fullShare x20 ∗ (∃ d, owns (c : Thread nD τ) a12 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d)
        ∗ (iprop(owns (c : Thread nD τ) a4 fullShare x4 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a20 fullShare x20 ∗ owns (c : Thread nD τ) a12 fullShare (k0_pay6 x20 x4) ∗ owns (c : Thread nD τ) a14 fullShare (k0_pay7 x6) ∗ owns (c : Thread nD τ) a15 fullShare (k0_pay8 x7) ∗ owns (c : Thread nD τ) a16 fullShare (k0_pay9 x8) ∗ owns (c : Thread nD τ) a17 fullShare (k0_pay10 x9) ∗ owns (c : Thread nD τ) a18 fullShare (k0_pay1 x10) ∗ owns (c : Thread nD τ) a19 fullShare (k0_pay2 x11)) -∗ K ⟨⟩))
      ⊢ wp frame (wpE (defs₀ (F := F)) Variants.none c none) E (cc0_inproj i a2 h2 a3 h3 a4 h4 a5 h5 a6 h6 a7 h7 a8 h8 a9 h9 a10 h10 a11 h11 a12 h12 a13 h13 a14 h14 a15 h15 a16 h16 a17 h17 a18 h18 a19 h19 a20 h20) K := by
    simp only [cc0_inproj_eq_skeleton]; unfold cc0_inproj_skel
    simp only [k0_part1_eq_skeleton]
    unfold owns
    iintro ⟨⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f20, %hf20, H20⟩, ⟨%d12, %f12, -, H12⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := h4.eq_unread hf4; obtain rfl := h6.eq_unread hf6; obtain rfl := h7.eq_unread hf7; obtain rfl := h8.eq_unread hf8; obtain rfl := h9.eq_unread hf9; obtain rfl := h10.eq_unread hf10; obtain rfl := h11.eq_unread hf11; obtain rfl := h20.eq_unread hf20
    sl_exec (disch := first | sl_exact hc)
    sl_step
    iapply Hk
    isplitl [H4]
    · iexists _; isplitr; · ipureintro; exact h4.read_unread _
      iexact H4
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H20]
    · iexists _; isplitr; · ipureintro; exact h20.read_unread _
      iexact H20
    isplitl [H12]
    · iexists _; isplitr; swap; · iexact H12
      ipureintro; sl_unfold_words
      refine (read_full _ _ off2 _ _).trans ?_
      simp only [View.readCov_unit_zero (S := S1024x2048) _ off2, View.readAt_eq_ld, h4.read_unread, h6.read_unread, h7.read_unread, h8.read_unread, h9.read_unread, h10.read_unread, h11.read_unread, h20.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H14]
    · iexists _; isplitr; swap; · iexact H14
      ipureintro; sl_unfold_words
      refine (read_full _ _ off2 _ _).trans ?_
      simp only [View.readCov_unit_zero (S := S1024x2048) _ off2, View.readAt_eq_ld, h4.read_unread, h6.read_unread, h7.read_unread, h8.read_unread, h9.read_unread, h10.read_unread, h11.read_unread, h20.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H15]
    · iexists _; isplitr; swap; · iexact H15
      ipureintro; sl_unfold_words
      refine (read_full _ _ off2 _ _).trans ?_
      simp only [View.readCov_unit_zero (S := S1024x2048) _ off2, View.readAt_eq_ld, h4.read_unread, h6.read_unread, h7.read_unread, h8.read_unread, h9.read_unread, h10.read_unread, h11.read_unread, h20.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H16]
    · iexists _; isplitr; swap; · iexact H16
      ipureintro; sl_unfold_words
      refine (read_full _ _ off2 _ _).trans ?_
      simp only [View.readCov_unit_zero (S := S1024x2048) _ off2, View.readAt_eq_ld, h4.read_unread, h6.read_unread, h7.read_unread, h8.read_unread, h9.read_unread, h10.read_unread, h11.read_unread, h20.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H17]
    · iexists _; isplitr; swap; · iexact H17
      ipureintro; sl_unfold_words
      refine (read_full _ _ off2 _ _).trans ?_
      simp only [View.readCov_unit_zero (S := S1024x2048) _ off2, View.readAt_eq_ld, h4.read_unread, h6.read_unread, h7.read_unread, h8.read_unread, h9.read_unread, h10.read_unread, h11.read_unread, h20.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    isplitl [H18]
    · iexists _; isplitr; swap; · iexact H18
      ipureintro; sl_unfold_words
      refine (read_full _ _ off2 _ _).trans ?_
      simp only [View.readCov_unit_zero (S := S1024x2048) _ off2, View.readAt_eq_ld, h4.read_unread, h6.read_unread, h7.read_unread, h8.read_unread, h9.read_unread, h10.read_unread, h11.read_unread, h20.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]
    iexists _; isplitr; swap; · iexact H19
    ipureintro; sl_unfold_words
    refine (read_full _ _ off2 _ _).trans ?_
    simp only [View.readCov_unit_zero (S := S1024x2048) _ off2, View.readAt_eq_ld, h4.read_unread, h6.read_unread, h7.read_unread, h8.read_unread, h9.read_unread, h10.read_unread, h11.read_unread, h20.read_unread, View.ld_unit_zero (S := S1024x2048) off2, View.ld_unit_zero (S := S1x2048) off2, View.ld_unit_zero (S := S2048x1024) off2, View.ld_unit_zero (S := S2048x128) off2, View.ld_unit_zero (S := S1x16x2048) off3, View.ld_unit_zero (S := S1x32x2048) off3, View.ld_unit_zero (S := S1x32x5504) off3, View.ld_unit_zero (S := S1x64x2048) off3]

end Cert.Kernel5Ideal.Inproj

end
-- ==== Proof.Inproj.Frame.lean ====
/- The projection as a whole: what each buffer holds after each grid point, in closed form; the body
   keeps to it at every point; so the run ends with the arguments unchanged and every result array at
   what the last write to each of its blocks left there. -/
module

public import proofs.«01_k».proof.Proof.Inproj.Body
public import Idealize.ShloMosaic.Lib.Pipeline.TableIdle
public import Idealize.ShloMosaic.Lib.Claim

@[expose] public section

set_option maxRecDepth 16384

noncomputable section

namespace Cert.Kernel5Ideal.Inproj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 88 := lt_of_lt_of_eq t.isLt (show cfg0.N = 88 from N_0)

/-- The point's row block is entered at the points divisible by eleven. -/
theorem first_iff : ∀ t : Fin cfg0.N, k0_cond1 (grid0.coords t) = 1#1 ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

theorem idle_11 (t : Fin cfg0.N) : cfg0.idle 11 (cfg0.grid.coords t) = !(decide (t.val % 11 = 0)) := by
  show (!(k0_cond1 (grid0.coords t) == 1#1)) = _
  congr 1
  rw [Bool.eq_iff_iff]
  simp only [beq_iff_eq, decide_eq_true_eq]
  exact first_iff t

theorem flush_11 (t : Fin cfg0.N) : (cfg0.win 11).flush t = decide (t.val % 11 = 10) := by
  rw [Bool.eq_iff_iff, decide_eq_true_eq]; exact flush0_11 t

/-- The first point of the row block `t` lies in. -/
def base (t : Fin cfg0.N) : Fin cfg0.N := ⟨t.val / 11 * 11, lt_of_le_of_lt (Nat.div_mul_le_self _ _) t.isLt⟩

theorem base_first (t : Fin cfg0.N) (h : t.val % 11 = 0) : base t = t := Fin.ext (by show t.val / 11 * 11 = t.val; omega)

theorem base_prev (t : Fin cfg0.N) (h : ¬t.val % 11 = 0) (h' : t.val - 1 < cfg0.N) : base ⟨t.val - 1, h'⟩ = base t :=
  Fin.ext (by show (t.val - 1) / 11 * 11 = t.val / 11 * 11; omega)

/-- The normalised rows of the row block `t` lies in. -/
def rows (c : Dev nD) (t : Fin cfg0.N) : Vec F S1024x2048 .bf16 := k0_pay4 (iblk m c 0 (base t)) (iblk m c 1 (base t))

/-- The small product of that row block. -/
def small (c : Dev nD) (t : Fin cfg0.N) : Vec F S1024x128 .f32 :=
  k0_pay5 (iblk m c 0 (base t)) (iblk m c 1 (base t)) (iblk m c 3 (base t))

theorem rows_first (c : Dev nD) (t : Fin cfg0.N) (h : t.val % 11 = 0) :
    rows m c t = k0_pay4 (iblk m c 0 t) (iblk m c 1 t) := by unfold rows; rw [base_first t h]
theorem small_first (c : Dev nD) (t : Fin cfg0.N) (h : t.val % 11 = 0) :
    small m c t = k0_pay5 (iblk m c 0 t) (iblk m c 1 t) (iblk m c 3 t) := by unfold small; rw [base_first t h]
theorem rows_prev (c : Dev nD) (t : Fin cfg0.N) (h : ¬t.val % 11 = 0) :
    rows m c ⟨t.val - 1, Nat.lt_of_le_of_lt (Nat.sub_le _ _) t.isLt⟩ = rows m c t := by
  unfold rows; rw [base_prev t h]
theorem small_prev (c : Dev nD) (t : Fin cfg0.N) (h : ¬t.val % 11 = 0) :
    small m c ⟨t.val - 1, Nat.lt_of_le_of_lt (Nat.sub_le _ _) t.isLt⟩ = small m c t := by
  unfold small; rw [base_prev t h]

/-! ## The buffers -/

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S2048x128 .bf16 := win0_3.stage (cfg0.slots t 3)
abbrev ms4 (t : Fin cfg0.N) : Memref sig .tc .vmem S1x16x2048 .f32 := win0_4.stage (cfg0.slots t 4)
abbrev ms5 (t : Fin cfg0.N) : Memref sig .tc .vmem S1x16x2048 .f32 := win0_5.stage (cfg0.slots t 5)
abbrev ms6 (t : Fin cfg0.N) : Memref sig .tc .vmem S1x32x2048 .f32 := win0_6.stage (cfg0.slots t 6)
abbrev ms7 (t : Fin cfg0.N) : Memref sig .tc .vmem S1x32x5504 .f32 := win0_7.stage (cfg0.slots t 7)
abbrev ms8 (t : Fin cfg0.N) : Memref sig .tc .vmem S1x32x5504 .f32 := win0_8.stage (cfg0.slots t 8)
abbrev ms9 (t : Fin cfg0.N) : Memref sig .tc .vmem S1x64x2048 .f32 := win0_9.stage (cfg0.slots t 9)
abbrev ms10 (t : Fin cfg0.N) : Memref sig .tc .vmem S1024x1024 .bf16 := win0_10.stage (cfg0.slots t 10)
abbrev ms11 (t : Fin cfg0.N) : Memref sig .tc .vmem S1024x128 .f32 := win0_11.stage (cfg0.slots t 11)
abbrev ms12 (t : Fin cfg0.N) : Memref sig .tc .vmem S16x2048 .bf16 := win0_12.stage (cfg0.slots t 12)
abbrev ms13 (t : Fin cfg0.N) : Memref sig .tc .vmem S16x2048 .bf16 := win0_13.stage (cfg0.slots t 13)
abbrev ms14 (t : Fin cfg0.N) : Memref sig .tc .vmem S32x2048 .bf16 := win0_14.stage (cfg0.slots t 14)
abbrev ms15 (t : Fin cfg0.N) : Memref sig .tc .vmem S32x5504 .bf16 := win0_15.stage (cfg0.slots t 15)
abbrev ms16 (t : Fin cfg0.N) : Memref sig .tc .vmem S32x5504 .bf16 := win0_16.stage (cfg0.slots t 16)
abbrev ms17 (t : Fin cfg0.N) : Memref sig .tc .vmem S64x2048 .bf16 := win0_17.stage (cfg0.slots t 17)
abbrev sc : Memref sig .tc .vmem S1024x2048 .bf16 := Memref.whole cc0_scratch0

theorem PhiA_eq (c : Dev nD) :
    (Pipeline.ΦA spec0 c : sProp 𝕄)
      = iprop(iprop((∃ d, owns (c : Thread nD τ) sc fullShare d)) ∗ (∃ r, prngReg c r)) := by
  unfold Pipeline.ΦA; rw [scopedRest0_eq]; simp only [sc, owns_whole]; try rfl

/-- Before each point: at the start the scratch holds anything, later the last point's normalised rows. -/
def PhiS (c : Dev nD) : (n : ℕ) → n ≤ cfg0.N → sProp 𝕄
  | 0, _ => Pipeline.ΦA spec0 c
  | n + 1, hn => iprop(iprop(owns (c : Thread nD τ) sc fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc fullShare (rows m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) sc fullShare (rows m c ⟨n - 1, by omega⟩)) ∗ (∃ r, prngReg c r)) := by
  cases n with
  | zero => exact absurd rfl hz
  | succ n => rfl

/-- What each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay6 (rows m c t) (iblk m c 2 t)
    | ⟨11, _⟩ => small m c t
    | ⟨12, _⟩ => k0_pay7 (iblk m c 4 t)
    | ⟨13, _⟩ => k0_pay8 (iblk m c 5 t)
    | ⟨14, _⟩ => k0_pay9 (iblk m c 6 t)
    | ⟨15, _⟩ => k0_pay10 (iblk m c 7 t)
    | ⟨16, _⟩ => k0_pay1 (iblk m c 8 t)
    | ⟨17, _⟩ => k0_pay2 (iblk m c 9 t)
    | ⟨_ + 18, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = k0_pay6 (rows m c t) (iblk m c 2 t) := by dsimp only [dats]
theorem after_11 (c : Dev nD) (t : Fin cfg0.N) : (dats m 0 c).after 11 t = small m c t := by dsimp only [dats]
theorem after_12 (c : Dev nD) (t : Fin cfg0.N) : (dats m 0 c).after 12 t = k0_pay7 (iblk m c 4 t) := by dsimp only [dats]
theorem after_13 (c : Dev nD) (t : Fin cfg0.N) : (dats m 0 c).after 13 t = k0_pay8 (iblk m c 5 t) := by dsimp only [dats]
theorem after_14 (c : Dev nD) (t : Fin cfg0.N) : (dats m 0 c).after 14 t = k0_pay9 (iblk m c 6 t) := by dsimp only [dats]
theorem after_15 (c : Dev nD) (t : Fin cfg0.N) : (dats m 0 c).after 15 t = k0_pay10 (iblk m c 7 t) := by dsimp only [dats]
theorem after_16 (c : Dev nD) (t : Fin cfg0.N) : (dats m 0 c).after 16 t = k0_pay1 (iblk m c 8 t) := by dsimp only [dats]
theorem after_17 (c : Dev nD) (t : Fin cfg0.N) : (dats m 0 c).after 17 t = k0_pay2 (iblk m c 9 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- The small product's buffer is empty exactly where a row block begins. -/
theorem fresh_11 (n : ℕ) (hn : n ≤ cfg0.N) : cfg0.fresh 11 n = decide (n % 11 = 0) :=
  cfg0.fresh_tab 11 (fun n => decide (n % 11 = 0)) rfl (fun t => by
    rw [flush_11, idle_11]
    rw [Bool.eq_iff_iff]
    simp only [decide_eq_true_eq, Bool.or_eq_true, Bool.and_eq_true, Bool.not_eq_true', decide_eq_false_iff_not]
    omega) n hn

/-- At a later point of a row block the small product's buffer holds what the first point stored. -/
theorem before_11 (c : Dev nD) (t : Fin cfg0.N) (h : ¬t.val % 11 = 0) (d) :
    (dats m 0 c).before 11 t d = small m c t := by
  rw [(dats m 0 c).before_out_traj 11 rfl (fun _ _ => rfl) (fun s hs hi hf => by
      rw [after_11, after_11]
      refine (small_prev m c s ?_).symm
      have := idle_11 s
      rw [hi] at this
      simpa using this) t.val t rfl d, fresh_11 t.val (le_of_lt t.isLt), if_neg (by simpa using h), after_11]
  exact small_prev m c t h

/-- What the small product's buffer is handed back as. -/
def smallLeft (c : Dev nD) (t : Fin cfg0.N) : sProp 𝕄 :=
  match cfg0.idle 11 (cfg0.grid.coords t) with
  | true => match (cfg0.win 11).flush t with
    | false => iprop(∃ d, owns (c : Thread nD τ) (ms11 t) fullShare ((dats m 0 c).before 11 t d))
    | true => owns (c : Thread nD τ) (ms11 t) fullShare ((dats m 0 c).after 11 t)
  | false => owns (c : Thread nD τ) (ms11 t) fullShare ((dats m 0 c).after 11 t)

theorem small_left (c : Dev nD) (t : Fin cfg0.N) : owns (c : Thread nD τ) (ms11 t) fullShare (small m c t) ⊢ smallLeft m c t := by
  unfold smallLeft
  rw [idle_11, flush_11, after_11]
  by_cases h : t.val % 11 = 0
  · rw [decide_eq_true h]
    show owns (c : Thread nD τ) (ms11 t) fullShare (small m c t) ⊢ owns (c : Thread nD τ) (ms11 t) fullShare (small m c t)
    iintro H; iexact H
  · rw [decide_eq_false h]
    by_cases h' : t.val % 11 = 10
    · rw [decide_eq_true h']
      show owns (c : Thread nD τ) (ms11 t) fullShare (small m c t) ⊢ owns (c : Thread nD τ) (ms11 t) fullShare (small m c t)
      iintro H; iexact H
    · rw [decide_eq_false h']
      simp only [before_11 m c t h]
      show owns (c : Thread nD τ) (ms11 t) fullShare (small m c t) ⊢ iprop(∃ d : (cfg0.win 11).block.Idx → Elt F (cfg0.win 11).elt, owns (c : Thread nD τ) (ms11 t) fullShare (small m c t))
      iintro H
      iexists (small m c t)
      iexact H

/-! ## The body at each point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ smallLeft m c t
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ owns (c : Thread nD τ) (ms17 t) fullShare ((dats m 0 c).after 17 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, after_10, after_12, after_13, after_14, after_15, after_16, after_17]
  rw [show (dats m 0 c).Φ t.succ = PhiS m c (t.val + 1) t.isLt from rfl, PhiS_succ]
  by_cases h0 : t.val % 11 = 0
  · by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (run_first c (grid0.coords t) _ _ _ _ _ _ _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) (iblk m c 9 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS]; · iexact HS
      iintro ⟨H0, H1, H2, H3, H4, H5, H6, H7, H8, H9, H10, H11, H12, H13, H14, H15, H16, H17, HS⟩
      isplitl [HS Hg]
      · isplitl [HS]
        · rw [rows_first m c t h0]; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · rw [rows_first m c t h0]; iexact H10
      isplitl [H11]; · iapply (small_left m c t); rw [small_first m c t h0]; iexact H11
      isplitl [H12]; · iexact H12
      isplitl [H13]; · iexact H13
      isplitl [H14]; · iexact H14
      isplitl [H15]; · iexact H15
      isplitl [H16]; · iexact H16
      iexact H17
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (run_first c (grid0.coords t) _ _ _ _ _ _ _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) (iblk m c 9 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS]; · iexists _; iexact HS
      iintro ⟨H0, H1, H2, H3, H4, H5, H6, H7, H8, H9, H10, H11, H12, H13, H14, H15, H16, H17, HS⟩
      isplitl [HS Hg]
      · isplitl [HS]
        · rw [rows_first m c t h0]; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · rw [rows_first m c t h0]; iexact H10
      isplitl [H11]; · iapply (small_left m c t); rw [small_first m c t h0]; iexact H11
      isplitl [H12]; · iexact H12
      isplitl [H13]; · iexact H13
      isplitl [H14]; · iexact H14
      isplitl [H15]; · iexact H15
      isplitl [H16]; · iexact H16
      iexact H17
  · have hz : t.val ≠ 0 := fun h => h0 (by omega)
    rw [PhiS_castSucc m c t, PhiS_pos m c _ _ hz, rows_prev m c t h0]
    simp only [before_11 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (run_later c (grid0.coords t) _ _ _ _ _ _ _ _ _ _ _ _ _ _ _ _ _ _ _ _ _ _ _ _ _ _ _ _ _ _ _ _ _ _ _ _ _ _ (fun h => h0 ((first_iff t).mp h)) (iblk m c 2 t) (iblk m c 4 t) (iblk m c 5 t) (iblk m c 6 t) (iblk m c 7 t) (iblk m c 8 t) (iblk m c 9 t) (rows m c t) Set.univ _)
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [HS]; · iexact HS
    isplitl [H10]; · iexists _; iexact H10
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iintro ⟨H2, H4, H5, H6, H7, H8, H9, HS, H10, H12, H13, H14, H15, H16, H17⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (small_left m c t); iexact H11
    isplitl [H12]; · iexact H12
    isplitl [H13]; · iexact H13
    isplitl [H14]; · iexact H14
    isplitl [H15]; · iexact H15
    isplitl [H16]; · iexact H16
    iexact H17

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by have : cfg0.N = 88 := N_0; omega), PhiA_eq]
  iintro ⟨HS, Hg⟩
  isplitl [HS]
  · iexists _; iexact HS
  iexact Hg

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the arguments unchanged and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Kernel5Ideal.Inproj

end
-- ==== Proof.Inproj.Block.lean ====
/- The blocks the projection's call reads, as elements of the argument arrays. -/
module

public import proofs.«01_k».proof.Proof.Inproj.Frame
public import proofs.«01_k».proof.Proof.Inproj.Math
public import Idealize.ShloMosaic.Lib.Pipeline.ValueKit.Geometry

@[expose] public section

set_option maxRecDepth 16384

noncomputable section

namespace Cert.Kernel5Ideal.Inproj

open Cert.Kernel5Ideal Cert.Kernel5Ideal.Gen Idealize.ShloMosaic Idealize.ShloMosaic.TcCoe Idealize.SL.Sem FfnMath InprojMath

/-- Where the blocks of the product's windows begin, over the whole grid. -/
theorem starts : ∀ t : Fin cfg0.N,
    (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = 0)
    ∧ (win0_10.index t (0 : Fin 2) = t.val / 11 ∧ win0_10.index t (1 : Fin 2) = t.val % 11)
    ∧ (win0_11.index t (0 : Fin 2) = t.val / 11 ∧ win0_11.index t (1 : Fin 2) = 0) :=
  (by decide +kernel : ∀ t : Fin grid0.N, _)

/-- Where the blocks of the weights that are only cast begin. -/
theorem castStarts : ∀ t : Fin cfg0.N,
    ((win0_4.index t (0 : Fin 3) = 0 ∧ win0_4.index t (1 : Fin 3) = win0_12.index t (0 : Fin 2) ∧ win0_4.index t (2 : Fin 3) = 0)
        ∧ win0_12.index t (0 : Fin 2) = min t.val 63 ∧ win0_12.index t (1 : Fin 2) = 0)
    ∧ ((win0_5.index t (0 : Fin 3) = 0 ∧ win0_5.index t (1 : Fin 3) = win0_13.index t (0 : Fin 2) ∧ win0_5.index t (2 : Fin 3) = 0)
        ∧ win0_13.index t (0 : Fin 2) = min t.val 63 ∧ win0_13.index t (1 : Fin 2) = 0)
    ∧ ((win0_6.index t (0 : Fin 3) = 0 ∧ win0_6.index t (1 : Fin 3) = win0_14.index t (0 : Fin 2) ∧ win0_6.index t (2 : Fin 3) = 0)
        ∧ win0_14.index t (0 : Fin 2) = min t.val 63 ∧ win0_14.index t (1 : Fin 2) = 0)
    ∧ ((win0_7.index t (0 : Fin 3) = 0 ∧ win0_7.index t (1 : Fin 3) = win0_15.index t (0 : Fin 2) ∧ win0_7.index t (2 : Fin 3) = 0)
        ∧ win0_15.index t (0 : Fin 2) = min t.val 63 ∧ win0_15.index t (1 : Fin 2) = 0)
    ∧ ((win0_8.index t (0 : Fin 3) = 0 ∧ win0_8.index t (1 : Fin 3) = win0_16.index t (0 : Fin 2) ∧ win0_8.index t (2 : Fin 3) = 0)
        ∧ win0_16.index t (0 : Fin 2) = min t.val 63 ∧ win0_16.index t (1 : Fin 2) = 0)
    ∧ ((win0_9.index t (0 : Fin 3) = 0 ∧ win0_9.index t (1 : Fin 3) = win0_17.index t (0 : Fin 2) ∧ win0_9.index t (2 : Fin 3) = 0)
        ∧ win0_17.index t (0 : Fin 2) = min t.val 85 ∧ win0_17.index t (1 : Fin 2) = 0) :=
  (by decide +kernel : ∀ t : Fin grid0.N, _)

theorem tLt (t : Fin cfg0.N) : t.val < 88 := points t

/-- The row of the arrays that row `p` of point `t`'s blocks is. -/
def row (t : Fin cfg0.N) (p : Fin 1024) : Fin 8192 := ⟨1024 * (t.val / 11) + p.val, by have := tLt t; omega⟩

/-- The packed column that column `q` of point `t`'s block is. -/
def lane (t : Fin cfg0.N) (q : Fin 1024) : Fin 11264 := ⟨1024 * (t.val % 11) + q.val, by have := tLt t; omega⟩

theorem row_base (t : Fin cfg0.N) (p : Fin 1024) : row (base t) p = row t p :=
  Fin.ext (by show 1024 * (t.val / 11 * 11 / 11) + p.val = 1024 * (t.val / 11) + p.val; omega)

variable (m : (ℓ : Loc nD τ sig) → Buf (Elt Ideal) ℓ) (c : Dev nD)

abbrev aX : FVec Ideal S8192x2048 .f32 := m ((c : Thread nD τ).loc main_arg0)
abbrev aN : FVec Ideal S2048 .f32 := m ((c : Thread nD τ).loc main_arg1)
abbrev aW : FVec Ideal S2048x11280 .f32 := m ((c : Thread nD τ).loc main_arg2)
abbrev aG : FVec Ideal S1024x2048 .f32 := m ((c : Thread nD τ).loc main_arg3)
abbrev aA : FVec Ideal S1024x2048 .f32 := m ((c : Thread nD τ).loc main_arg4)
abbrev aO : FVec Ideal S2048x2048 .f32 := m ((c : Thread nD τ).loc main_arg5)
abbrev aGate : FVec Ideal S2048x5504 .f32 := m ((c : Thread nD τ).loc main_arg6)
abbrev aUp : FVec Ideal S2048x5504 .f32 := m ((c : Thread nD τ).loc main_arg7)
abbrev aDown : FVec Ideal S5504x2048 .f32 := m ((c : Thread nD τ).loc main_arg8)

/-- The weight's columns, packed for the call. -/
def wpacked (P : FVec Ideal S2048x11280 .f32) : FVec Ideal S2048x11264 .bf16 :=
  truncf .bf16 (concatenate S2048x11264 1
    [⟨S2048x4096, extractStridedSlice S2048x4096 ![0, 0] P slices_S2048x11280_S2048x4096_0_0⟩,
     ⟨S2048x4096, extractStridedSlice S2048x4096 ![0, 7184] P slices_S2048x11280_S2048x4096_0_7184⟩,
     ⟨S2048x3072, extractStridedSlice S2048x3072 ![0, 4112] P slices_S2048x11280_S2048x3072_0_4112⟩]
    concatenates_S2048x4096_S2048x4096_S2048x3072_S2048x11264_d1) bitsLt_bf16_f32

/-- The weight's small columns, filled up with zeros. -/
def wpadded (P : FVec Ideal S2048x11280 .f32) : FVec Ideal S2048x128 .bf16 :=
  truncf .bf16 (pad S2048x128 ![0, 0] ![0, 112] ![0, 0]
    (extractStridedSlice S2048x16 ![0, 4096] P slices_S2048x11280_S2048x16_0_4096)
    (sitofp .f32 (constantI S_ 32 0#32)) pads_S2048x16_S2048x128_000_01120 h_S_) bitsLt_bf16_f32

/-- The normalising weight as a row. -/
def nrow (w : FVec Ideal S2048 .f32) : FVec Ideal S1x2048 .f32 := shapeCast S1x2048 w shapeCasts_S2048_S1x2048

theorem host_W : (V m c main_v4 : Vec Ideal S2048x11264 .bf16) = wpacked (aW m c) := rfl
theorem host_ab : (V m c main_v7 : Vec Ideal S2048x128 .bf16) = wpadded (aW m c) := rfl
theorem host_N : (V m c main_v14 : Vec Ideal S1x2048 .f32) = nrow (aN m c) := rfl

theorem nrow_apply (w : FVec Ideal S2048 .f32) (e : Fin 2048) : nrow w (ix2 0 e) = w (ix1 e) := by pointwise [nrow]

theorem wpacked_apply (P : FVec Ideal S2048x11280 .f32) (r : Fin 2048) (j : Fin 11264) :
    wpacked P (ix2 r j) = P (ix2 r (col j)) := by
  rcases col_cases j with ⟨d, rfl⟩ | ⟨d, rfl⟩ | ⟨d, rfl⟩
  · rw [col_lo]; pointwise [wpacked]
  · rw [col_mid]; pointwise [wpacked]
  · rw [col_hi]
    pointwise [wpacked]
    rw [dif_neg (by omega), dif_neg (by omega)]
    exact congrArg (fun k => P (ix2 r k)) (Fin.ext (by show 4112 + (8192 + d.val - 4096 - 4096) = 4112 + d.val; omega))

theorem wpadded_lo (P : FVec Ideal S2048x11280 .f32) (r : Fin 2048) (d : Fin 16) :
    wpadded P (ix2 r ⟨d.val, by omega⟩) = P (ix2 r ⟨4096 + d.val, by omega⟩) := by
  pointwise [wpadded]
theorem wpadded_hi (P : FVec Ideal S2048x11280 .f32) (r : Fin 2048) (d : Fin 112) :
    wpadded P (ix2 r ⟨16 + d.val, by omega⟩) = 0 := by
  pointwise [wpadded]
  exact zero_word

theorem wpadded_apply (P : FVec Ideal S2048x11280 .f32) (r : Fin 2048) (j : Fin 128) :
    wpadded P (ix2 r j) = tail (fun d => P (ix2 r ⟨4096 + d.val, by omega⟩)) j := by
  have hj := j.isLt
  unfold tail
  by_cases h : j.val < 16
  · rw [dif_pos h]
    exact wpadded_lo P r ⟨j.val, h⟩
  · rw [dif_neg h]
    have hk : j = ⟨16 + (j.val - 16), by omega⟩ := Fin.ext (by show j.val = 16 + (j.val - 16); omega)
    rw [hk]
    exact wpadded_hi P r ⟨j.val - 16, by omega⟩

theorem blk_x (t : Fin cfg0.N) (p : Fin 1024) (d : Fin 2048) :
    (iblk m c 0 t : Vec Ideal S1024x2048 .f32) (ix2 p d) = aX m c (ix2 (row t p) d) := by
  have hi := starts t
  unfold iblk
  rw [View.read_apply]
  show V m c main_arg0 _ = _
  rw [V_main_arg0]
  congr 1
  funext a
  apply Fin.ext
  match a with
  | ⟨0, _⟩ => show win0_0.index t 0 * 1024 + 1 * p.val = 1024 * (t.val / 11) + p.val; simp only [hi]; omega
  | ⟨1, _⟩ => show win0_0.index t 1 * 2048 + 1 * d.val = d.val; simp only [hi]; omega

theorem blk_n (t : Fin cfg0.N) (d : Fin 2048) :
    (iblk m c 1 t : Vec Ideal S1x2048 .f32) (ix2 0 d) = aN m c (ix1 d) := by
  have hi := starts t
  unfold iblk
  rw [View.read_apply]
  show V m c main_v14 _ = _
  rw [host_N]
  refine Eq.trans (congrArg _ ?_) (nrow_apply (aN m c) d)
  funext a
  apply Fin.ext
  match a with
  | ⟨0, _⟩ => show win0_1.index t 0 * 1 + 1 * 0 = 0; simp only [hi]
  | ⟨1, _⟩ => show win0_1.index t 1 * 2048 + 1 * d.val = d.val; simp only [hi]; omega

theorem blk_w (t : Fin cfg0.N) (d : Fin 2048) (q : Fin 1024) :
    (iblk m c 2 t : Vec Ideal S2048x1024 .bf16) (ix2 d q) = aW m c (ix2 d (col (lane t q))) := by
  have hi := starts t
  unfold iblk
  rw [View.read_apply]
  show V m c main_v4 _ = _
  rw [host_W]
  refine Eq.trans (congrArg _ ?_) (wpacked_apply (aW m c) d (lane t q))
  funext a
  apply Fin.ext
  match a with
  | ⟨0, _⟩ => show win0_2.index t 0 * 2048 + 1 * d.val = d.val; simp only [hi]; omega
  | ⟨1, _⟩ => show win0_2.index t 1 * 1024 + 1 * q.val = 1024 * (t.val % 11) + q.val; simp only [hi]; omega

theorem blk_ab (t : Fin cfg0.N) (d : Fin 2048) (q : Fin 128) :
    (iblk m c 3 t : Vec Ideal S2048x128 .bf16) (ix2 d q) = tail (fun k => aW m c (ix2 d ⟨4096 + k.val, by omega⟩)) q := by
  have hi := starts t
  unfold iblk
  rw [View.read_apply]
  show V m c main_v7 _ = _
  rw [host_ab]
  refine Eq.trans (congrArg _ ?_) (wpadded_apply (aW m c) d q)
  funext a
  apply Fin.ext
  match a with
  | ⟨0, _⟩ => show win0_3.index t 0 * 2048 + 1 * d.val = d.val; simp only [hi]; omega
  | ⟨1, _⟩ => show win0_3.index t 1 * 128 + 1 * q.val = q.val; simp only [hi]; omega

/-- A weight with a leading axis of one. -/
def lead3 (P : FVec Ideal S1024x2048 .f32) : FVec Ideal S1x1024x2048 .f32 :=
  broadcastInDim S1x1024x2048 ![1, 2] bcast_S1024x2048_S1x1024x2048_1_2 P

theorem lead3_apply (P : FVec Ideal S1024x2048 .f32) (r : Fin 1024) (q : Fin 2048) : lead3 P (ix3 0 r q) = P (ix2 r q) := by
  pointwise [lead3]

theorem host_3 : (V m c main_v8 : Vec Ideal S1x1024x2048 .f32) = lead3 (aG m c) := rfl

theorem blk_3 (t : Fin cfg0.N) (p : Fin 16) (q : Fin 2048) (r : Fin 1024) (hr : r.val = win0_12.index t (0 : Fin 2) * 16 + p.val) :
    (iblk m c 4 t : Vec Ideal S1x16x2048 .f32) (ix3 0 p q) = aG m c (ix2 r q) := by
  have hi := (castStarts t).1
  unfold iblk
  rw [View.read_apply]
  show V m c main_v8 _ = _
  rw [host_3]
  refine Eq.trans (congrArg _ ?_) (lead3_apply (aG m c) r q)
  funext a
  apply Fin.ext
  match a with
  | ⟨0, _⟩ => show win0_4.index t 0 * 1 + 1 * 0 = 0; rw [hi.1.1]
  | ⟨1, _⟩ => show win0_4.index t 1 * 16 + 1 * p.val = r.val; rw [hi.1.2.1, hr]; omega
  | ⟨2, _⟩ => show win0_4.index t 2 * 2048 + 1 * q.val = q.val; rw [hi.1.2.2]; omega

/-- A weight with a leading axis of one. -/
def lead4 (P : FVec Ideal S1024x2048 .f32) : FVec Ideal S1x1024x2048 .f32 :=
  broadcastInDim S1x1024x2048 ![1, 2] bcast_S1024x2048_S1x1024x2048_1_2 P

theorem lead4_apply (P : FVec Ideal S1024x2048 .f32) (r : Fin 1024) (q : Fin 2048) : lead4 P (ix3 0 r q) = P (ix2 r q) := by
  pointwise [lead4]

theorem host_4 : (V m c main_v9 : Vec Ideal S1x1024x2048 .f32) = lead4 (aA m c) := rfl

theorem blk_4 (t : Fin cfg0.N) (p : Fin 16) (q : Fin 2048) (r : Fin 1024) (hr : r.val = win0_13.index t (0 : Fin 2) * 16 + p.val) :
    (iblk m c 5 t : Vec Ideal S1x16x2048 .f32) (ix3 0 p q) = aA m c (ix2 r q) := by
  have hi := (castStarts t).2.1
  unfold iblk
  rw [View.read_apply]
  show V m c main_v9 _ = _
  rw [host_4]
  refine Eq.trans (congrArg _ ?_) (lead4_apply (aA m c) r q)
  funext a
  apply Fin.ext
  match a with
  | ⟨0, _⟩ => show win0_5.index t 0 * 1 + 1 * 0 = 0; rw [hi.1.1]
  | ⟨1, _⟩ => show win0_5.index t 1 * 16 + 1 * p.val = r.val; rw [hi.1.2.1, hr]; omega
  | ⟨2, _⟩ => show win0_5.index t 2 * 2048 + 1 * q.val = q.val; rw [hi.1.2.2]; omega

/-- A weight with a leading axis of one. -/
def lead5 (P : FVec Ideal S2048x2048 .f32) : FVec Ideal S1x2048x2048 .f32 :=
  broadcastInDim S1x2048x2048 ![1, 2] bcast_S2048x2048_S1x2048x2048_1_2 P

theorem lead5_apply (P : FVec Ideal S2048x2048 .f32) (r : Fin 2048) (q : Fin 2048) : lead5 P (ix3 0 r q) = P (ix2 r q) := by
  pointwise [lead5]

theorem host_5 : (V m c main_v10 : Vec Ideal S1x2048x2048 .f32) = lead5 (aO m c) := rfl

theorem blk_5 (t : Fin cfg0.N) (p : Fin 32) (q : Fin 2048) (r : Fin 2048) (hr : r.val = win0_14.index t (0 : Fin 2) * 32 + p.val) :
    (iblk m c 6 t : Vec Ideal S1x32x2048 .f32) (ix3 0 p q) = aO m c (ix2 r q) := by
  have hi := (castStarts t).2.2.1
  unfold iblk
  rw [View.read_apply]
  show V m c main_v10 _ = _
  rw [host_5]
  refine Eq.trans (congrArg _ ?_) (lead5_apply (aO m c) r q)
  funext a
  apply Fin.ext
  match a with
  | ⟨0, _⟩ => show win0_6.index t 0 * 1 + 1 * 0 = 0; rw [hi.1.1]
  | ⟨1, _⟩ => show win0_6.index t 1 * 32 + 1 * p.val = r.val; rw [hi.1.2.1, hr]; omega
  | ⟨2, _⟩ => show win0_6.index t 2 * 2048 + 1 * q.val = q.val; rw [hi.1.2.2]; omega

/-- A weight with a leading axis of one. -/
def lead6 (P : FVec Ideal S2048x5504 .f32) : FVec Ideal S1x2048x5504 .f32 :=
  broadcastInDim S1x2048x5504 ![1, 2] bcast_S2048x5504_S1x2048x5504_1_2 P

theorem lead6_apply (P : FVec Ideal S2048x5504 .f32) (r : Fin 2048) (q : Fin 5504) : lead6 P (ix3 0 r q) = P (ix2 r q) := by
  pointwise [lead6]

theorem host_6 : (V m c main_v11 : Vec Ideal S1x2048x5504 .f32) = lead6 (aGate m c) := rfl

theorem blk_6 (t : Fin cfg0.N) (p : Fin 32) (q : Fin 5504) (r : Fin 2048) (hr : r.val = win0_15.index t (0 : Fin 2) * 32 + p.val) :
    (iblk m c 7 t : Vec Ideal S1x32x5504 .f32) (ix3 0 p q) = aGate m c (ix2 r q) := by
  have hi := (castStarts t).2.2.2.1
  unfold iblk
  rw [View.read_apply]
  show V m c main_v11 _ = _
  rw [host_6]
  refine Eq.trans (congrArg _ ?_) (lead6_apply (aGate m c) r q)
  funext a
  apply Fin.ext
  match a with
  | ⟨0, _⟩ => show win0_7.index t 0 * 1 + 1 * 0 = 0; rw [hi.1.1]
  | ⟨1, _⟩ => show win0_7.index t 1 * 32 + 1 * p.val = r.val; rw [hi.1.2.1, hr]; omega
  | ⟨2, _⟩ => show win0_7.index t 2 * 5504 + 1 * q.val = q.val; rw [hi.1.2.2]; omega

/-- A weight with a leading axis of one. -/
def lead7 (P : FVec Ideal S2048x5504 .f32) : FVec Ideal S1x2048x5504 .f32 :=
  broadcastInDim S1x2048x5504 ![1, 2] bcast_S2048x5504_S1x2048x5504_1_2 P

theorem lead7_apply (P : FVec Ideal S2048x5504 .f32) (r : Fin 2048) (q : Fin 5504) : lead7 P (ix3 0 r q) = P (ix2 r q) := by
  pointwise [lead7]

theorem host_7 : (V m c main_v12 : Vec Ideal S1x2048x5504 .f32) = lead7 (aUp m c) := rfl

theorem blk_7 (t : Fin cfg0.N) (p : Fin 32) (q : Fin 5504) (r : Fin 2048) (hr : r.val = win0_16.index t (0 : Fin 2) * 32 + p.val) :
    (iblk m c 8 t : Vec Ideal S1x32x5504 .f32) (ix3 0 p q) = aUp m c (ix2 r q) := by
  have hi := (castStarts t).2.2.2.2.1
  unfold iblk
  rw [View.read_apply]
  show V m c main_v12 _ = _
  rw [host_7]
  refine Eq.trans (congrArg _ ?_) (lead7_apply (aUp m c) r q)
  funext a
  apply Fin.ext
  match a with
  | ⟨0, _⟩ => show win0_8.index t 0 * 1 + 1 * 0 = 0; rw [hi.1.1]
  | ⟨1, _⟩ => show win0_8.index t 1 * 32 + 1 * p.val = r.val; rw [hi.1.2.1, hr]; omega
  | ⟨2, _⟩ => show win0_8.index t 2 * 5504 + 1 * q.val = q.val; rw [hi.1.2.2]; omega

/-- A weight with a leading axis of one. -/
def lead8 (P : FVec Ideal S5504x2048 .f32) : FVec Ideal S1x5504x2048 .f32 :=
  broadcastInDim S1x5504x2048 ![1, 2] bcast_S5504x2048_S1x5504x2048_1_2 P

theorem lead8_apply (P : FVec Ideal S5504x2048 .f32) (r : Fin 5504) (q : Fin 2048) : lead8 P (ix3 0 r q) = P (ix2 r q) := by
  pointwise [lead8]

theorem host_8 : (V m c main_v13 : Vec Ideal S1x5504x2048 .f32) = lead8 (aDown m c) := rfl

theorem blk_8 (t : Fin cfg0.N) (p : Fin 64) (q : Fin 2048) (r : Fin 5504) (hr : r.val = win0_17.index t (0 : Fin 2) * 64 + p.val) :
    (iblk m c 9 t : Vec Ideal S1x64x2048 .f32) (ix3 0 p q) = aDown m c (ix2 r q) := by
  have hi := (castStarts t).2.2.2.2.2
  unfold iblk
  rw [View.read_apply]
  show V m c main_v13 _ = _
  rw [host_8]
  refine Eq.trans (congrArg _ ?_) (lead8_apply (aDown m c) r q)
  funext a
  apply Fin.ext
  match a with
  | ⟨0, _⟩ => show win0_9.index t 0 * 1 + 1 * 0 = 0; rw [hi.1.1]
  | ⟨1, _⟩ => show win0_9.index t 1 * 64 + 1 * p.val = r.val; rw [hi.1.2.1, hr]; omega
  | ⟨2, _⟩ => show win0_9.index t 2 * 2048 + 1 * q.val = q.val; rw [hi.1.2.2]; omega

end Cert.Kernel5Ideal.Inproj

end
-- ==== Proof.Inproj.Reference.lean ====
/- The projection's reference at one index. -/
module

public import proofs.«01_k».proof.Proof.Gen.Reference5Ideal.Run
public import proofs.«01_k».proof.Proof.Inproj.Math

@[expose] public section

set_option maxRecDepth 16384

noncomputable section

namespace Cert.Reference5Ideal.Inproj

open Cert.Reference5Ideal Cert.Reference5Ideal.Gen Idealize.ShloMosaic Idealize.ShloMosaic.TcCoe Idealize.SL.Sem FfnMath InprojMath

/-- The normalised rows, as the reference's operations compose them. -/
def rows (x : FVec Ideal S8192x2048 .f32) (w : FVec Ideal S2048 .f32) : FVec Ideal S8192x2048 .f32 :=
  mulf (mulf x (broadcastInDim S8192x2048 ![0, 1] bcast_S8192x1_S8192x2048_0_1 (Host.rsqrt (addf
      (Host.divf (broadcastInDim S8192x1 ![0] bcast_S8192_S8192x1_0
          (Host.reduceAdd (mulf x x) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 w))

/-- The product of the normalised rows with the weight. -/
def projected (x : FVec Ideal S8192x2048 .f32) (w : FVec Ideal S2048 .f32) (wt : FVec Ideal S2048x11280 .f32) :
    FVec Ideal S8192x11280 .f32 :=
  Host.dotGeneral dot_S8192x2048_S2048x11280_S8192x11280_1_0_0_1_n_n none (rows x w) wt

/-- The product's columns in the call's order. -/
def packed (P : FVec Ideal S8192x11280 .f32) : FVec Ideal S8192x11264 .bf16 :=
  truncf .bf16 (concatenate S8192x11264 1
    [⟨S8192x4096, extractStridedSlice S8192x4096 ![0, 0] P slices_S8192x11280_S8192x4096_0_0⟩,
     ⟨S8192x4096, extractStridedSlice S8192x4096 ![0, 7184] P slices_S8192x11280_S8192x4096_0_7184⟩,
     ⟨S8192x3072, extractStridedSlice S8192x3072 ![0, 4112] P slices_S8192x11280_S8192x3072_0_4112⟩]
    concatenates_S8192x4096_S8192x4096_S8192x3072_S8192x11264_d1) bitsLt_bf16_f32

/-- The sixteen small columns, filled up with zeros. -/
def padded (P : FVec Ideal S8192x11280 .f32) : FVec Ideal S8192x128 .f32 :=
  pad S8192x128 ![0, 0] ![0, 112] ![0, 0] (extractStridedSlice S8192x16 ![0, 4096] P slices_S8192x11280_S8192x16_0_4096)
    (sitofp .f32 (constantI S_ 32 0#32)) pads_S8192x16_S8192x128_000_01120 h_S_

theorem projected_apply (x : FVec Ideal S8192x2048 .f32) (w : FVec Ideal S2048 .f32) (wt : FVec Ideal S2048x11280 .f32)
    (r : Fin 8192) (q : Fin 11280) :
    projected x w wt (ix2 r q) = ∑ d : Fin 2048, normed (fun e => x (ix2 r e)) (fun e => w (ix1 e)) d * wt (ix2 d q) := by
  unfold normed scale
  pointwise [projected, rows]

theorem packed_lo (P : FVec Ideal S8192x11280 .f32) (r : Fin 8192) (d : Fin 4096) :
    packed P (ix2 r ⟨d.val, by omega⟩) = P (ix2 r ⟨d.val, by omega⟩) := by
  pointwise [packed]
theorem packed_mid (P : FVec Ideal S8192x11280 .f32) (r : Fin 8192) (d : Fin 4096) :
    packed P (ix2 r ⟨4096 + d.val, by omega⟩) = P (ix2 r ⟨7184 + d.val, by omega⟩) := by
  pointwise [packed]
theorem packed_hi (P : FVec Ideal S8192x11280 .f32) (r : Fin 8192) (d : Fin 3072) :
    packed P (ix2 r ⟨8192 + d.val, by omega⟩) = P (ix2 r ⟨4112 + d.val, by omega⟩) := by
  pointwise [packed]
  rw [dif_neg (by omega), dif_neg (by omega)]
  exact congrArg (fun k => P (ix2 r k)) (Fin.ext (by show 4112 + (8192 + d.val - 4096 - 4096) = 4112 + d.val; omega))

theorem packed_apply (P : FVec Ideal S8192x11280 .f32) (r : Fin 8192) (j : Fin 11264) :
    packed P (ix2 r j) = P (ix2 r (col j)) := by
  rcases col_cases j with ⟨d, rfl⟩ | ⟨d, rfl⟩ | ⟨d, rfl⟩
  · rw [packed_lo, col_lo]
  · rw [packed_mid, col_mid]
  · rw [packed_hi, col_hi]

theorem padded_lo (P : FVec Ideal S8192x11280 .f32) (r : Fin 8192) (d : Fin 16) :
    padded P (ix2 r ⟨d.val, by omega⟩) = P (ix2 r ⟨4096 + d.val, by omega⟩) := by
  pointwise [padded]
theorem padded_hi (P : FVec Ideal S8192x11280 .f32) (r : Fin 8192) (d : Fin 112) :
    padded P (ix2 r ⟨16 + d.val, by omega⟩) = 0 := by
  pointwise [padded]
  exact zero_word

theorem padded_apply (P : FVec Ideal S8192x11280 .f32) (r : Fin 8192) (j : Fin 128) :
    padded P (ix2 r j) = tail (fun d => P (ix2 r ⟨4096 + d.val, by omega⟩)) j := by
  have hj := j.isLt
  unfold tail
  by_cases h : j.val < 16
  · rw [dif_pos h]
    exact padded_lo P r ⟨j.val, h⟩
  · rw [dif_neg h]
    have hk : j = ⟨16 + (j.val - 16), by omega⟩ := Fin.ext (by show j.val = 16 + (j.val - 16); omega)
    rw [hk]
    exact padded_hi P r ⟨j.val - 16, by omega⟩

end Cert.Reference5Ideal.Inproj

end
-- ==== Proof.Inproj.Equation.lean ====
/- The equations of the projection's claim: each result of the reference is the array the call ends with. -/
module

public import proofs.«01_k».proof.Proof.Inproj.Pay
public import proofs.«01_k».proof.Proof.Inproj.Block
public import proofs.«01_k».proof.Proof.Inproj.Reference

@[expose] public section

set_option maxRecDepth 16384

noncomputable section

namespace Cert.Kernel5Ideal.Inproj

open Cert.Kernel5Ideal Cert.Kernel5Ideal.Gen Idealize.ShloMosaic Idealize.ShloMosaic.TcCoe Idealize.SL.Sem FfnMath InprojMath

variable (m : (ℓ : Loc nD τ sig) → Buf (Elt Ideal) ℓ) (c : Dev nD)

/-- The product at one packed column. -/
theorem product_apply (t : Fin cfg0.N) (p q : Fin 1024) :
    (k0_pay6 (rows m c t) (iblk m c 2 t) : Vec Ideal S1024x1024 .bf16) (ix2 p q)
      = Cert.Reference5Ideal.Inproj.packed (Cert.Reference5Ideal.Inproj.projected (aX m c) (aN m c) (aW m c)) (ix2 (row t p) (lane t q)) := by
  rw [Cert.Reference5Ideal.Inproj.packed_apply, Cert.Reference5Ideal.Inproj.projected_apply, pay6_apply]
  refine Finset.sum_congr rfl fun d _ => ?_
  unfold rows
  rw [pay4_apply, blk_w]
  simp only [blk_x, blk_n, row_base]

theorem tail_sum (h : Fin 2048 → EReal) (f : Fin 2048 → Fin 16 → EReal) (q : Fin 128) :
    ∑ d, h d * tail (f d) q = tail (fun k => ∑ d, h d * f d k) q := by
  unfold tail
  by_cases hq : q.val < 16
  · simp only [dif_pos hq]
  · simp only [dif_neg hq, mul_zero, Finset.sum_const_zero]

/-- The small product at one column. -/
theorem small_apply (t : Fin cfg0.N) (p : Fin 1024) (q : Fin 128) :
    (small m c t : Vec Ideal S1024x128 .f32) (ix2 p q)
      = Cert.Reference5Ideal.Inproj.padded (Cert.Reference5Ideal.Inproj.projected (aX m c) (aN m c) (aW m c)) (ix2 (row t p) q) := by
  rw [Cert.Reference5Ideal.Inproj.padded_apply]
  simp only [Cert.Reference5Ideal.Inproj.projected_apply]
  rw [← tail_sum]
  unfold small
  rw [pay5_apply]
  refine Finset.sum_congr rfl fun d _ => ?_
  rw [blk_ab]
  simp only [blk_x, blk_n, row_base]

theorem equation_p : Cert.Reference5Ideal.Inproj.packed (Cert.Reference5Ideal.Inproj.projected (aX m c) (aN m c) (aW m c))
    = (dats m 0 c).arrAt 10 cfg0.N := by
  refine ((dats m 0 c).arrAt_eq_of_covers 10 _ (by decide +kernel) fun t hf y => ?_).symm
  have hi := starts t
  obtain ⟨p, q, rfl⟩ : ∃ (p : Fin 1024) (q : Fin 1024), y = (ix2 p q : S1024x1024.Idx) := ⟨y 0, y 1, eq_ix2 y⟩
  refine (congrFun (after_10 m c t) (ix2 p q)).trans ((product_apply m c t p q).trans (congrArg _ ?_))
  funext a
  apply Fin.ext
  match a with
  | ⟨0, _⟩ => show 1024 * (t.val / 11) + p.val = win0_10.index t 0 * 1024 + 1 * p.val; simp only [hi]; omega
  | ⟨1, _⟩ => show 1024 * (t.val % 11) + q.val = win0_10.index t 1 * 1024 + 1 * q.val; simp only [hi]; omega

theorem equation_ab : Cert.Reference5Ideal.Inproj.padded (Cert.Reference5Ideal.Inproj.projected (aX m c) (aN m c) (aW m c))
    = (dats m 0 c).arrAt 11 cfg0.N := by
  refine ((dats m 0 c).arrAt_eq_of_covers 11 _ (by decide +kernel) fun t hf y => ?_).symm
  have hi := starts t
  obtain ⟨p, q, rfl⟩ : ∃ (p : Fin 1024) (q : Fin 128), y = (ix2 p q : S1024x128.Idx) := ⟨y 0, y 1, eq_ix2 y⟩
  refine (congrFun (after_11 m c t) (ix2 p q)).trans ((small_apply m c t p q).trans (congrArg _ ?_))
  funext a
  apply Fin.ext
  match a with
  | ⟨0, _⟩ => show 1024 * (t.val / 11) + p.val = win0_11.index t 0 * 1024 + 1 * p.val; simp only [hi]; omega
  | ⟨1, _⟩ => show q.val = win0_11.index t 1 * 128 + 1 * q.val; simp only [hi]; omega

theorem equation_3 : (truncf .bf16 (aG m c) bitsLt_bf16_f32 : FVec Ideal S1024x2048 .bf16) = (dats m 0 c).arrAt 12 cfg0.N := by
  refine ((dats m 0 c).arrAt_eq_of_covers 12 _ (by decide +kernel) fun t hf y => ?_).symm
  have hi := (castStarts t).1
  obtain ⟨p, q, rfl⟩ : ∃ (p : Fin 16) (q : Fin 2048), y = (ix2 p q : S16x2048.Idx) := ⟨y 0, y 1, eq_ix2 y⟩
  refine (congrFun (after_12 m c t) (ix2 p q)).trans ((pay7_apply _ p q).trans ((blk_3 m c t p q
    ⟨win0_12.index t (0 : Fin 2) * 16 + p.val, by rw [hi.2.1]; omega⟩ rfl).trans (congrArg (aG m c) ?_)))
  funext a
  apply Fin.ext
  match a with
  | ⟨0, _⟩ => show win0_12.index t 0 * 16 + p.val = win0_12.index t 0 * 16 + 1 * p.val; omega
  | ⟨1, _⟩ => show q.val = win0_12.index t 1 * 2048 + 1 * q.val; rw [hi.2.2]; omega

theorem equation_4 : (truncf .bf16 (aA m c) bitsLt_bf16_f32 : FVec Ideal S1024x2048 .bf16) = (dats m 0 c).arrAt 13 cfg0.N := by
  refine ((dats m 0 c).arrAt_eq_of_covers 13 _ (by decide +kernel) fun t hf y => ?_).symm
  have hi := (castStarts t).2.1
  obtain ⟨p, q, rfl⟩ : ∃ (p : Fin 16) (q : Fin 2048), y = (ix2 p q : S16x2048.Idx) := ⟨y 0, y 1, eq_ix2 y⟩
  refine (congrFun (after_13 m c t) (ix2 p q)).trans ((pay8_apply _ p q).trans ((blk_4 m c t p q
    ⟨win0_13.index t (0 : Fin 2) * 16 + p.val, by rw [hi.2.1]; omega⟩ rfl).trans (congrArg (aA m c) ?_)))
  funext a
  apply Fin.ext
  match a with
  | ⟨0, _⟩ => show win0_13.index t 0 * 16 + p.val = win0_13.index t 0 * 16 + 1 * p.val; omega
  | ⟨1, _⟩ => show q.val = win0_13.index t 1 * 2048 + 1 * q.val; rw [hi.2.2]; omega

theorem equation_5 : (truncf .bf16 (aO m c) bitsLt_bf16_f32 : FVec Ideal S2048x2048 .bf16) = (dats m 0 c).arrAt 14 cfg0.N := by
  refine ((dats m 0 c).arrAt_eq_of_covers 14 _ (by decide +kernel) fun t hf y => ?_).symm
  have hi := (castStarts t).2.2.1
  obtain ⟨p, q, rfl⟩ : ∃ (p : Fin 32) (q : Fin 2048), y = (ix2 p q : S32x2048.Idx) := ⟨y 0, y 1, eq_ix2 y⟩
  refine (congrFun (after_14 m c t) (ix2 p q)).trans ((pay9_apply _ p q).trans ((blk_5 m c t p q
    ⟨win0_14.index t (0 : Fin 2) * 32 + p.val, by rw [hi.2.1]; omega⟩ rfl).trans (congrArg (aO m c) ?_)))
  funext a
  apply Fin.ext
  match a with
  | ⟨0, _⟩ => show win0_14.index t 0 * 32 + p.val = win0_14.index t 0 * 32 + 1 * p.val; omega
  | ⟨1, _⟩ => show q.val = win0_14.index t 1 * 2048 + 1 * q.val; rw [hi.2.2]; omega

theorem equation_6 : (truncf .bf16 (aGate m c) bitsLt_bf16_f32 : FVec Ideal S2048x5504 .bf16) = (dats m 0 c).arrAt 15 cfg0.N := by
  refine ((dats m 0 c).arrAt_eq_of_covers 15 _ (by decide +kernel) fun t hf y => ?_).symm
  have hi := (castStarts t).2.2.2.1
  obtain ⟨p, q, rfl⟩ : ∃ (p : Fin 32) (q : Fin 5504), y = (ix2 p q : S32x5504.Idx) := ⟨y 0, y 1, eq_ix2 y⟩
  refine (congrFun (after_15 m c t) (ix2 p q)).trans ((pay10_apply _ p q).trans ((blk_6 m c t p q
    ⟨win0_15.index t (0 : Fin 2) * 32 + p.val, by rw [hi.2.1]; omega⟩ rfl).trans (congrArg (aGate m c) ?_)))
  funext a
  apply Fin.ext
  match a with
  | ⟨0, _⟩ => show win0_15.index t 0 * 32 + p.val = win0_15.index t 0 * 32 + 1 * p.val; omega
  | ⟨1, _⟩ => show q.val = win0_15.index t 1 * 5504 + 1 * q.val; rw [hi.2.2]; omega

theorem equation_7 : (truncf .bf16 (aUp m c) bitsLt_bf16_f32 : FVec Ideal S2048x5504 .bf16) = (dats m 0 c).arrAt 16 cfg0.N := by
  refine ((dats m 0 c).arrAt_eq_of_covers 16 _ (by decide +kernel) fun t hf y => ?_).symm
  have hi := (castStarts t).2.2.2.2.1
  obtain ⟨p, q, rfl⟩ : ∃ (p : Fin 32) (q : Fin 5504), y = (ix2 p q : S32x5504.Idx) := ⟨y 0, y 1, eq_ix2 y⟩
  refine (congrFun (after_16 m c t) (ix2 p q)).trans ((pay1_apply _ p q).trans ((blk_7 m c t p q
    ⟨win0_16.index t (0 : Fin 2) * 32 + p.val, by rw [hi.2.1]; omega⟩ rfl).trans (congrArg (aUp m c) ?_)))
  funext a
  apply Fin.ext
  match a with
  | ⟨0, _⟩ => show win0_16.index t 0 * 32 + p.val = win0_16.index t 0 * 32 + 1 * p.val; omega
  | ⟨1, _⟩ => show q.val = win0_16.index t 1 * 5504 + 1 * q.val; rw [hi.2.2]; omega

theorem equation_8 : (truncf .bf16 (aDown m c) bitsLt_bf16_f32 : FVec Ideal S5504x2048 .bf16) = (dats m 0 c).arrAt 17 cfg0.N := by
  refine ((dats m 0 c).arrAt_eq_of_covers 17 _ (by decide +kernel) fun t hf y => ?_).symm
  have hi := (castStarts t).2.2.2.2.2
  obtain ⟨p, q, rfl⟩ : ∃ (p : Fin 64) (q : Fin 2048), y = (ix2 p q : S64x2048.Idx) := ⟨y 0, y 1, eq_ix2 y⟩
  refine (congrFun (after_17 m c t) (ix2 p q)).trans ((pay2_apply _ p q).trans ((blk_8 m c t p q
    ⟨win0_17.index t (0 : Fin 2) * 64 + p.val, by rw [hi.2.1]; omega⟩ rfl).trans (congrArg (aDown m c) ?_)))
  funext a
  apply Fin.ext
  match a with
  | ⟨0, _⟩ => show win0_17.index t 0 * 64 + p.val = win0_17.index t 0 * 64 + 1 * p.val; omega
  | ⟨1, _⟩ => show q.val = win0_17.index t 1 * 2048 + 1 * q.val; rw [hi.2.2]; omega

/-- Every run ends with each result at its array's last contents and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v15_0) = (dats m 0 c).arrAt 10 cfg0.N
      ∧ r.2.mem ((c.tc : Thread nD τ).loc main_v15_1) = (dats m 0 c).arrAt 11 cfg0.N
      ∧ r.2.mem ((c.tc : Thread nD τ).loc main_v15_2) = (dats m 0 c).arrAt 12 cfg0.N
      ∧ r.2.mem ((c.tc : Thread nD τ).loc main_v15_3) = (dats m 0 c).arrAt 13 cfg0.N
      ∧ r.2.mem ((c.tc : Thread nD τ).loc main_v15_4) = (dats m 0 c).arrAt 14 cfg0.N
      ∧ r.2.mem ((c.tc : Thread nD τ).loc main_v15_5) = (dats m 0 c).arrAt 15 cfg0.N
      ∧ r.2.mem ((c.tc : Thread nD τ).loc main_v15_6) = (dats m 0 c).arrAt 16 cfg0.N
      ∧ r.2.mem ((c.tc : Thread nD τ).loc main_v15_7) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 10),
      ((h c).1 11),
      ((h c).1 12),
      ((h c).1 13),
      ((h c).1 14),
      ((h c).1 15),
      ((h c).1 16),
      ((h c).1 17),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.Kernel5Ideal.Inproj

end
-- ==== Proof.Att.Open.lean ====
/- What one grid point of the attention leaves behind, as a composition of the body's own expressions. -/
module

public import proofs.«01_k».proof.Proof.Gen.Kernel6Ideal.Value
public import Idealize.ShloMosaic.Lib.Tactic
public import Idealize.ShloMosaic.Lib.Pipeline.ReadBack

@[expose] public section

set_option maxRecDepth 16384

noncomputable section

namespace Cert.Kernel6Ideal.Att

open Cert.Kernel6Ideal Cert.Kernel6Ideal.Gen Idealize.ShloMosaic Idealize.ShloMosaic.TcCoe Idealize.SL.Sem

variable {F : FTy → Type} [FloatOps F] [Named F]

theorem off0 : (![0, 0] : Fin 2 → Nat) = fun _ => 0 := funext fun a => by fin_cases a <;> rfl
theorem off3 : (![0, 0, 0] : Fin 3 → Nat) = fun _ => 0 := funext fun a => by fin_cases a <;> rfl

/-- The key (or value) rows of window block `w`: 256 rows from the block's start, the first 256 where it lies before the sequence. -/
def blk (i : grid0.Coords) (w : Fin 10) (x : Vec F S8192x128 .bf16) : Vec F S256x128 .bf16 :=
  View.ld x (Rect.unit (s := S8192x128) (k0_off1 i (BitVec.ofNat 32 w.val)) S256x128.size (k0_off1_inb i w))

/-- Whether window block `w` lies within the sequence. -/
def within (i : grid0.Coords) (w : Fin 10) : BitVec 1 :=
  Scalar.cmpi .sge (Scalar.addi (Scalar.subi (Scalar.muli (BitVec.ofNat 32 (i 1).val) 8#32) 2#32) (BitVec.ofNat 32 w.val)) 0#32

theorem qrows_inb (u : Fin 8) (a : Fin 2) : (![256 * u.val, 0] : Fin 2 → Nat) a + S256x128.size a ≤ S2048x128.size a := by
  have := u.isLt
  match a with
  | ⟨0, _⟩ => show 256 * u.val + 256 ≤ 2048; omega
  | ⟨1, _⟩ => show 0 + 128 ≤ 128; omega

/-- The query rows of part `u`. -/
def qrows (u : Fin 8) (x : Vec F S2048x128 .bf16) : Vec F S256x128 .bf16 :=
  View.ld x (Rect.unit (s := S2048x128) ![256 * u.val, 0] S256x128.size (qrows_inb u))

/-- The biased scores of 256 queries against three window blocks. -/
def scores (q k0 k1 k2 : FVec F S256x128 .bf16) (o0 o1 o2 : BitVec 1) (s : Vec F S256x768 .f32) : FVec F S256x768 .f32 :=
  concatenate S256x768 1
    [⟨S256x256, k0_pay46 k0 o0 q (View.ld s (Rect.unit (s := S256x768) ![0, 0] S256x256.size inb_S256x768_S256x256_0_0))⟩,
     ⟨S256x256, k0_pay46 k1 o1 q (View.ld s (Rect.unit (s := S256x768) ![0, 256] S256x256.size inb_S256x768_S256x256_0_256))⟩,
     ⟨S256x256, k0_pay46 k2 o2 q (View.ld s (Rect.unit (s := S256x768) ![0, 512] S256x256.size inb_S256x768_S256x256_0_512))⟩]
    concatenates_S256x256_S256x256_S256x256_S256x768_d1

/-- The attention of 256 queries over three window blocks. -/
def sub (q k0 k1 k2 v0 v1 v2 : FVec F S256x128 .bf16) (o0 o1 o2 : BitVec 1) (s : Vec F S256x768 .f32) : FVec F S256x128 .bf16 :=
  k0_pay73 v0 v1 v2 (k0_pay64 (scores q k0 k1 k2 o0 o1 o2 s))

section
variable (i : grid0.Coords) (xq : Vec F S2048x128 .bf16) (xk xv : Vec F S8192x128 .bf16) (wq wk : Vec F S1x128 .f32) (s : Vec F S256x768 .f32)

/-- Part `u` of a grid point: its 256 queries over window blocks `u`, `u + 1`, `u + 2`. -/
def part (u : Fin 8) : FVec F S256x128 .bf16 :=
  sub (k0_pay36 wq (qrows u xq))
    (k0_pay11 wk (blk i ⟨u.val, by omega⟩ xk)) (k0_pay11 wk (blk i ⟨u.val + 1, by omega⟩ xk)) (k0_pay11 wk (blk i ⟨u.val + 2, by omega⟩ xk))
    (k0_pay12 (blk i ⟨u.val, by omega⟩ xv)) (k0_pay12 (blk i ⟨u.val + 1, by omega⟩ xv)) (k0_pay12 (blk i ⟨u.val + 2, by omega⟩ xv))
    (within i ⟨u.val, by omega⟩) (within i ⟨u.val + 1, by omega⟩) (within i ⟨u.val + 2, by omega⟩) s

/-- A grid point's block: the eight parts, one after the other. -/
def whole : FVec F S2048x128 .bf16 :=
  concatenate S2048x128 0
    [⟨S256x128, part i xq xk xv wq wk s 0⟩, ⟨S256x128, part i xq xk xv wq wk s 1⟩, ⟨S256x128, part i xq xk xv wq wk s 2⟩,
     ⟨S256x128, part i xq xk xv wq wk s 3⟩, ⟨S256x128, part i xq xk xv wq wk s 4⟩, ⟨S256x128, part i xq xk xv wq wk s 5⟩,
     ⟨S256x128, part i xq xk xv wq wk s 6⟩, ⟨S256x128, part i xq xk xv wq wk s 7⟩]
    concatenates_S256x128_S256x128_S256x128_S256x128_S256x128_S256x128_S256x128_S256x128_S2048x128_d0
end

/-- The scratch a head's first point fills. -/
def rolled (xb : Vec F S1x1x1024 .f32) : FVec F S256x1024 .f32 :=
  k0_pay5 (iota .tc S256x1024 32 [0] iota_S256x1024_d0_w32) (k0_pay2 xb) (k0_pay3 xb) k0_pay4

def masked (xb : Vec F S1x1x1024 .f32) : FVec F S256x768 .f32 :=
  k0_pay8 (rolled xb) (iota .tc S256x768 32 [0] iota_S256x768_d0_w32) 64#32 k0_pay6 k0_pay7 (Scalar.extui (Scalar.cmpi .sgt 64#32 0#32))

section
variable (c : Dev nD) (i : grid0.Coords)
  (a2 : Memref sig .tc .vmem S2048x128 .bf16) (h2 : a2.IsWhole) (a3 : Memref sig .tc .vmem S8192x128 .bf16) (h3 : a3.IsWhole)
  (a4 : Memref sig .tc .vmem S8192x128 .bf16) (h4 : a4.IsWhole) (a5 : Memref sig .tc .vmem S1x1x1024 .f32) (h5 : a5.IsWhole)
  (a6 : Memref sig .tc .vmem S1x128 .f32) (h6 : a6.IsWhole) (a7 : Memref sig .tc .vmem S1x128 .f32) (h7 : a7.IsWhole)
  (a8 : Memref sig .tc .vmem S2048x128 .bf16) (h8 : a8.IsWhole) (a9 : Memref sig .tc .vmem S256x768 .f32) (h9 : a9.IsWhole)
  (xq : Vec F S2048x128 .bf16) (xk xv : Vec F S8192x128 .bf16) (xb : Vec F S1x1x1024 .f32) (wq wk : Vec F S1x128 .f32)

/-- A later point of a head reads the scratch as it finds it. -/
theorem out_later (hc : ¬cond0_0 i) (s : Vec F S256x768 .f32) :
    out0_B_6 c i a2 h2 a3 h3 a4 h4 a5 h5 a6 h6 a7 h7 a8 h8 a9 h9 hc xq xk xv xb wq wk s = whole i xq xk xv wq wk s := by
  unfold out0_B_6
  rw [View.read_writes_eq_canon _ _ _ (cover0_B_6 c i a2 h2 a3 h3 a4 h4 a5 h5 a6 h6 a7 h7 a8 h8 a9 h9 hc xq xk xv xb wq wk s)]
  unfold kernelRun0_B
  dsimp only
  sl_unfold_words
  rw [View.canon_unit_zero off0]
  simp only [View.readAt_eq_ld, h2.read_unread, h3.read_unread, h4.read_unread,
    h5.read_unread, h6.read_unread, h7.read_unread, h9.read_unread, View.ld_unit_zero (S := S1x128) off0]
  rfl

/-- A head's first point fills the scratch with the masked bias … -/
theorem scratch_first (hc : cond0_0 i) :
    sout0_A_0 c i a2 h2 a3 h3 a4 h4 a5 h5 a6 h6 a7 h7 a8 h8 a9 h9 hc xq xk xv xb wq wk = k0_pay9 (masked xb) := by
  unfold sout0_A_0
  rw [View.read_writes_eq_canon _ _ _ (scover0_A_0 c i a2 h2 a3 h3 a4 h4 a5 h5 a6 h6 a7 h7 a8 h8 a9 h9 hc xq xk xv xb wq wk)]
  unfold kernelRun0_A
  dsimp only
  sl_unfold_words
  rw [View.canon_unit_zero off0]
  simp only [View.readAt_eq_ld, h5.read_unread, View.ld_unit_zero (S := S1x1x1024) off3]
  rfl

/-- … and reads it back. -/
theorem out_first (hc : cond0_0 i) :
    out0_A_6 c i a2 h2 a3 h3 a4 h4 a5 h5 a6 h6 a7 h7 a8 h8 a9 h9 hc xq xk xv xb wq wk = whole i xq xk xv wq wk (k0_pay9 (masked xb)) := by
  unfold out0_A_6
  rw [View.read_writes_eq_canon _ _ _ (cover0_A_6 c i a2 h2 a3 h3 a4 h4 a5 h5 a6 h6 a7 h7 a8 h8 a9 h9 hc xq xk xv xb wq wk)]
  unfold kernelRun0_A
  dsimp only
  sl_unfold_words
  rw [View.canon_unit_zero off0]
  simp only [View.readAt_eq_ld, h2.read_unread, h3.read_unread, h4.read_unread,
    h5.read_unread, h6.read_unread, h7.read_unread, View.ld_unit_zero (S := S1x128) off0, View.ld_unit_zero (S := S1x1x1024) off3,
    View.readCov_fill (s := S256x768) _ _ _ _ _ (congrFun off0)]
  rfl

/-- A later point leaves the scratch as it was. -/
theorem scratch_later (hc : ¬cond0_0 i) (s : Vec F S256x768 .f32) :
    sout0_B_0 c i a2 h2 a3 h3 a4 h4 a5 h5 a6 h6 a7 h7 a8 h8 a9 h9 hc xq xk xv xb wq wk s = s := rfl
end

end Cert.Kernel6Ideal.Att

end
-- ==== Proof.Att.Math.lean ====
/- The mathematics of the banded attention over the extended reals. -/
module

public import proofs.«01_k».proof.Proof.Ffn.Math
public import Idealize.ShloMosaic.Lib.Pointwise
public import Idealize.ShloMosaic.Lib.IdealHost

@[expose] public section

noncomputable section

namespace AttMath

open Idealize.ShloMosaic

/-- The factor of the scores, as its float word reads. -/
abbrev sc : EReal := Ideal.ofBits .f32 0x3DB504F3#32

/-- A row's normalising factor. -/
def rscale (x : Fin 128 → EReal) : EReal :=
  Ideal.rsqrt (Ideal.div (∑ e : Fin 128, x e * x e) (Ideal.ofBits .f32 0x43000000#32) + Ideal.ofBits .f32 0x358637BD#32)

/-- A normalised row. -/
def nrm (x w : Fin 128 → EReal) (d : Fin 128) : EReal := x d * rscale x * w d

/-- A finite value. -/
def Fin' (x : EReal) : Prop := ∃ r : ℝ, x = (r : EReal)

theorem fin_add {x y : EReal} (hx : Fin' x) (hy : Fin' y) : Fin' (x + y) := by
  obtain ⟨a, rfl⟩ := hx; obtain ⟨b, rfl⟩ := hy; exact ⟨a + b, (EReal.coe_add a b).symm⟩

theorem fin_mul {x y : EReal} (hx : Fin' x) (hy : Fin' y) : Fin' (x * y) := by
  obtain ⟨a, rfl⟩ := hx; obtain ⟨b, rfl⟩ := hy; exact ⟨a * b, (EReal.coe_mul a b).symm⟩

theorem fin_sum {ι : Type} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact fin_add (h a) ih

theorem sc_eq : ∃ r : ℝ, 0 < r ∧ sc = (r : EReal) := by
  refine ⟨11863283 * (2 ^ 27)⁻¹, by positivity, ?_⟩
  simp [sc, Ideal.ofBits, Ideal.ieee]

theorem c128_eq : Ideal.ofBits .f32 0x43000000#32 = ((128 : ℝ) : EReal) := by
  simp [Ideal.ofBits, Ideal.ieee]
  rw [← EReal.coe_mul]
  norm_num

theorem eps_eq : ∃ r : ℝ, 0 < r ∧ Ideal.ofBits .f32 0x358637BD#32 = (r : EReal) := by
  refine ⟨8796093 * (2 ^ 43)⁻¹, by positivity, ?_⟩
  simp [Ideal.ofBits, Ideal.ieee]

/-! ## The window of a part -/

/-- The key row under window column `J` of the part `B` of 256 queries: the window starts two blocks before the part's own
    block; a block before the sequence reads the first. -/
def rowOf (B : Fin 32) (J : Fin 768) : Fin 8192 := ⟨256 * (B.val + J.val / 256 - 2) + J.val % 256, by omega⟩

/-- A query's score against window column `J`: `⊥` before the sequence. -/
def tk (B : Fin 32) (nq : Fin 128 → EReal) (nk : Fin 8192 → Fin 128 → EReal) (bm : Fin 768 → EReal) (J : Fin 768) : EReal :=
  if 2 ≤ B.val + J.val / 256 then (∑ e, nq e * sc * nk (rowOf B J) e) + bm J else ⊥

/-- The weighted mean of the values under scores `t`, as the quotient of two sums. -/
def outk (B : Fin 32) (t : Fin 768 → EReal) (v : Fin 8192 → EReal) : EReal :=
  Ideal.div (∑ J, Ideal.exp (t J - Finset.univ.sup t) * v (rowOf B J)) (∑ J, Ideal.exp (t J - Finset.univ.sup t))

/-- A sum over the window is the sum over its three blocks. -/
theorem sum_window (f : Fin 768 → EReal) :
    ∑ J, f J = (∑ j : Fin 256, f ⟨j.val, by omega⟩) + (∑ j : Fin 256, f ⟨256 + j.val, by omega⟩) + ∑ j : Fin 256, f ⟨512 + j.val, by omega⟩ := by
  rw [show ∑ J, f J = ∑ J : Fin (256 + 256 + 256), f J from rfl, Fin.sum_univ_add, Fin.sum_univ_add]
  rfl

end AttMath

end
-- ==== Proof.Att.Pay.lean ====
/- The body's expressions at one index, over the extended reals. -/
module

public import proofs.«01_k».proof.Proof.Att.Open
public import proofs.«01_k».proof.Proof.Att.Math
public import Idealize.ShloMosaic.Lib.Pointwise

@[expose] public section

set_option maxRecDepth 16384

noncomputable section

namespace Cert.Kernel6Ideal.Att

open Cert.Kernel6Ideal Cert.Kernel6Ideal.Gen Idealize.ShloMosaic Idealize.ShloMosaic.TcCoe Idealize.SL.Sem
open AttMath

theorem pay11_apply (w : Vec Ideal S1x128 .f32) (x : Vec Ideal S256x128 .bf16) (p : Fin 256) (d : Fin 128) :
    k0_pay11 w x (ix2 p d) = nrm (fun e => x (ix2 p e)) (fun e => w (ix2 0 e)) d := by
  unfold nrm rscale
  pointwise [k0_pay11, k0_pay10]

theorem pay36_apply (w : Vec Ideal S1x128 .f32) (x : Vec Ideal S256x128 .bf16) (p : Fin 256) (d : Fin 128) :
    k0_pay36 w x (ix2 p d) = nrm (fun e => x (ix2 p e)) (fun e => w (ix2 0 e)) d * sc := by
  unfold nrm rscale
  pointwise [k0_pay36, k0_pay35]

theorem mask_bot : (Named.named κ "mask" 0xF149F2CA#32 : Ideal .f32) = (⊥ : EReal) := rfl

theorem pay46_apply (k q : FVec Ideal S256x128 .bf16) (o : BitVec 1) (b : Vec Ideal S256x256 .f32) (p j : Fin 256) :
    k0_pay46 k o q b (ix2 p j) = if o = 1#1 then (∑ e : Fin 128, q (ix2 p e) * k (ix2 j e)) + b (ix2 p j) else ⊥ := by
  pointwise [k0_pay46]
  rw [mask_bot]
  rfl

theorem pay64_apply (s : FVec Ideal S256x768 .f32) (p : Fin 256) (J : Fin 768) :
    k0_pay64 s (ix2 p J) = Ideal.exp (s (ix2 p J) - Finset.univ.sup fun K => s (ix2 p K)) := by
  pointwise [k0_pay64]
  rw [show Ideal.ofBits FTy.f32 0xFF800000#32 = (⊥ : EReal) by simp [Ideal.ofBits, Ideal.ieee]]
  rfl

theorem one_bf16 : Ideal.ofBits .bf16 0x3F80#16 = (1 : EReal) := by
  simp [Ideal.ofBits, Ideal.ieee]
  rw [← EReal.coe_mul]
  norm_num

set_option maxHeartbeats 1600000 in
theorem pay73_apply (v0 v1 v2 : FVec Ideal S256x128 .bf16) (e : FVec Ideal S256x768 .bf16) (p : Fin 256) (d : Fin 128) :
    k0_pay73 v0 v1 v2 e (ix2 p d)
      = Ideal.div
          ((∑ j : Fin 256, e (ix2 p ⟨j.val, by omega⟩) * v0 (ix2 j d)) + (∑ j : Fin 256, e (ix2 p ⟨256 + j.val, by omega⟩) * v1 (ix2 j d))
            + ∑ j : Fin 256, e (ix2 p ⟨512 + j.val, by omega⟩) * v2 (ix2 j d))
          ((∑ j : Fin 256, e (ix2 p ⟨j.val, by omega⟩)) + (∑ j : Fin 256, e (ix2 p ⟨256 + j.val, by omega⟩))
            + ∑ j : Fin 256, e (ix2 p ⟨512 + j.val, by omega⟩)) := by
  pointwise [k0_pay73, k0_pay72]

/-! ## The bias -/

/-- One conditional rotation: the rows whose index has bit `t` set turn right by `n`. -/
def turn (n t : BitVec 32) (x : FVec Ideal S256x1024 .f32) : FVec Ideal S256x1024 .f32 :=
  select (cmpi .eq (andi (shrsi (iota .tc S256x1024 32 [0] iota_S256x1024_d0_w32) (broadcast S256x1024 t)) (broadcast S256x1024 1#32))
    (broadcast S256x1024 1#32)) (dynamicRotate 1 n none x rotates_S256x1024_d1) x

/-- The unrotated rows. -/
def spread (b : Vec Ideal S1x1x1024 .f32) : FVec Ideal S256x1024 .f32 :=
  broadcastTo S256x1024 (shapeCast S1x1024 (shapeCast S1x1024 b shapeCasts_S1x1x1024_S1x1024) shapeCasts_S1x1024_S1x1024) broadcasts_S1x1024_S256x1024

theorem rolled_eq (b : Vec Ideal S1x1x1024 .f32) :
    rolled b = turn 128#32 7#32 (turn 64#32 6#32 (turn 32#32 5#32 (turn 16#32 4#32 (turn 8#32 3#32 (turn 4#32 2#32
      (turn 2#32 1#32 (turn 1#32 0#32 (spread b)))))))) := rfl

theorem spread_apply (b : Vec Ideal S1x1x1024 .f32) (p : Fin 256) (J : Fin 1024) : spread b (ix2 p J) = b (ix3 0 0 J) := by
  unfold spread
  pointwise

theorem bit_word : ∀ t : Fin 8, ∀ p : Fin 256,
    IntOp.cmpi .eq (IntOp.andi (IntOp.shrsi .vector (BitVec.ofNat 32 p.val) (BitVec.ofNat 32 t.val)) 1#32) 1#32 = if p.val / 2 ^ t.val % 2 = 1 then 1#1 else 0#1 := by
  decide +kernel

theorem turn_apply (n : BitVec 32) (t : Fin 8) (x : FVec Ideal S256x1024 .f32) (p : Fin 256) (J : Fin 1024) :
    turn n (BitVec.ofNat 32 t.val) x (ix2 p J)
      = if p.val / 2 ^ t.val % 2 = 1 then x (ix2 p ⟨(J.val + 1024 - n.toNat % 1024) % 1024, Nat.mod_lt _ (by decide)⟩) else x (ix2 p J) := by
  unfold turn
  pointwise
  rw [bit_word t p]
  by_cases h : p.val / 2 ^ t.val % 2 = 1
  · rw [if_pos h, if_pos h]; rfl
  · rw [if_neg h, if_neg h]; rfl

/-- Turning by the bits of the row index one after the other turns by the row index. -/
theorem turn_turned (n : BitVec 32) (t : Fin 8) (k k' : ℕ) (hk : k = t.val) (hk' : k' = t.val + 1) (hn : n.toNat = 2 ^ t.val)
    (f : Fin 1024 → EReal) (x : FVec Ideal S256x1024 .f32)
    (h : ∀ (p : Fin 256) (J : Fin 1024), x (ix2 p J) = f ⟨(J.val + 1024 - p.val % 2 ^ k) % 1024, Nat.mod_lt _ (by decide)⟩)
    (p : Fin 256) (J : Fin 1024) :
    turn n (BitVec.ofNat 32 t.val) x (ix2 p J) = f ⟨(J.val + 1024 - p.val % 2 ^ k') % 1024, Nat.mod_lt _ (by decide)⟩ := by
  subst hk hk'
  rw [turn_apply, h, h]
  have hp : 2 ^ t.val ≤ 128 := (Nat.pow_le_pow_right (by decide) (show t.val ≤ 7 by omega)).trans (by decide)
  have hr : p.val % 2 ^ t.val < 2 ^ t.val := Nat.mod_lt _ (by positivity)
  have hs := Nat.mod_pow_succ (x := p.val) (b := 2) (k := t.val)
  have hj := J.isLt
  split
  · rename_i hb
    rw [hb] at hs
    congr 1
    apply Fin.ext
    show ((J.val + 1024 - n.toNat % 1024) % 1024 + 1024 - p.val % 2 ^ t.val) % 1024 = (J.val + 1024 - p.val % 2 ^ (t.val + 1)) % 1024
    rw [hs, hn]
    generalize 2 ^ t.val = a at *
    generalize p.val % a = r at *
    omega
  · rename_i hb
    rw [show p.val / 2 ^ t.val % 2 = 0 by omega] at hs
    congr 1
    apply Fin.ext
    show (J.val + 1024 - p.val % 2 ^ t.val) % 1024 = (J.val + 1024 - p.val % 2 ^ (t.val + 1)) % 1024
    rw [hs, Nat.mul_zero]; rfl

theorem rolled_apply (b : Vec Ideal S1x1x1024 .f32) (p : Fin 256) (J : Fin 1024) :
    rolled b (ix2 p J) = b (ix3 0 0 ⟨(J.val + 1024 - p.val) % 1024, Nat.mod_lt _ (by decide)⟩) := by
  let f : Fin 1024 → EReal := fun J => b (ix3 0 0 J)
  have h0 : ∀ (p : Fin 256) (J : Fin 1024), spread b (ix2 p J)
      = f ⟨(J.val + 1024 - p.val % 2 ^ 0) % 1024, Nat.mod_lt _ (by decide)⟩ := by
    intro p J
    rw [spread_apply]
    show b (ix3 0 0 J) = b (ix3 0 0 _)
    congr 2
    apply Fin.ext
    show J.val = (J.val + 1024 - p.val % 1) % 1024
    have := J.isLt
    omega
  have h1 := turn_turned 1#32 0 0 1 rfl rfl rfl f _ h0
  have h2 := turn_turned 2#32 1 1 2 rfl rfl rfl f _ h1
  have h3 := turn_turned 4#32 2 2 3 rfl rfl rfl f _ h2
  have h4 := turn_turned 8#32 3 3 4 rfl rfl rfl f _ h3
  have h5 := turn_turned 16#32 4 4 5 rfl rfl rfl f _ h4
  have h6 := turn_turned 32#32 5 5 6 rfl rfl rfl f _ h5
  have h7 := turn_turned 64#32 6 6 7 rfl rfl rfl f _ h6
  have h8 := turn_turned 128#32 7 7 8 rfl rfl rfl f _ h7 p J
  rw [rolled_eq]
  refine h8.trans ?_
  show b (ix3 0 0 _) = b (ix3 0 0 _)
  congr 2
  apply Fin.ext
  show (J.val + 1024 - p.val % 256) % 1024 = (J.val + 1024 - p.val) % 1024
  rw [Nat.mod_eq_of_lt p.isLt]

/-- The floor quotient by 64, as the body spells it. -/
theorem floor_word : ∀ n : Fin 768,
    Scalar.select (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
  decide +kernel

theorem band_word : ∀ a b : Fin 12,
    IntOp.andi (IntOp.cmpi CmpIPredicate.sge (IntOp.subi (BitVec.ofNat 32 a.val) (BitVec.ofNat 32 b.val)) 0#32)
      (IntOp.cmpi CmpIPredicate.sle (IntOp.subi (BitVec.ofNat 32 a.val) (BitVec.ofNat 32 b.val)) 8#32)
      = if b.val ≤ a.val ∧ a.val ≤ b.val + 8 then 1#1 else 0#1 := by
  decide +kernel

theorem masked_apply (b : Vec Ideal S1x1x1024 .f32) (p : Fin 256) (J : Fin 768) :
    masked b (ix2 p J) = if p.val / 64 ≤ J.val / 64 ∧ J.val / 64 ≤ p.val / 64 + 8 then rolled b (ix2 p ⟨J.val, by omega⟩) else ⊥ := by
  unfold masked
  pointwise [k0_pay8, k0_pay7, k0_pay6]
  rw [mask_bot, floor_word J, show BitVec.ofNat 32 p.val = BitVec.ofNat 32 (⟨p.val, by omega⟩ : Fin 768).val from rfl,
    floor_word ⟨p.val, by omega⟩, band_word ⟨J.val / 64, by omega⟩ ⟨p.val / 64, by omega⟩]
  by_cases h : p.val / 64 ≤ J.val / 64 ∧ J.val / 64 ≤ p.val / 64 + 8
  · rw [if_pos h, if_pos h]; rfl
  · rw [if_neg h, if_neg h]; rfl

/-! ## The rows -/

theorem within_word : ∀ b : Fin 4, ∀ w : Fin 10,
    Scalar.cmpi .sge (Scalar.addi (Scalar.subi (Scalar.muli (BitVec.ofNat 32 b.val) 8#32) 2#32) (BitVec.ofNat 32 w.val)) 0#32
      = if 2 ≤ 8 * b.val + w.val then 1#1 else 0#1 := by
  decide +kernel

theorem qrows_apply (u : Fin 8) (x : Vec Ideal S2048x128 .bf16) (p : Fin 256) (d : Fin 128) :
    qrows u x (ix2 p d) = x (ix2 ⟨256 * u.val + p.val, by omega⟩ d) := by
  unfold qrows
  pointwise

theorem start_word : ∀ b : Fin 4, ∀ w : Fin 10, (Scalar.muli (Scalar.maxsi (Scalar.addi (Scalar.subi (Scalar.muli (BitVec.ofNat 32 b.val) 8#32) 2#32) (BitVec.ofNat 32 w.val)) 0#32) 256#32).toNat = 256 * (8 * b.val + w.val - 2) := by
  decide +kernel

theorem blk_apply (i : grid0.Coords) (w : Fin 10) (x : Vec Ideal S8192x128 .bf16) (j : Fin 256) (d : Fin 128) :
    blk i w x (ix2 j d) = x (ix2 ⟨256 * (8 * (i 1).val + w.val - 2) + j.val, by have : (i 1).val < 4 := (i 1).isLt; omega⟩ d) := by
  unfold blk
  pointwise [k0_off1]
  congr 2
  apply Fin.ext
  exact congrArg (· + j.val) (start_word ⟨(i 1).val, (i 1).isLt⟩ w)

theorem ld_apply (s : Vec Ideal S256x768 .f32) (n : ℕ) (h) (p j : Fin 256) (hn : n + 256 ≤ 768) :
    (View.ld s (Rect.unit (s := S256x768) ![0, n] S256x256.size h) : Vec Ideal S256x256 .f32) (ix2 p j) = s (ix2 p ⟨n + j.val, by omega⟩) := by
  pointwise

theorem whole_apply (i : grid0.Coords) (xq : Vec Ideal S2048x128 .bf16) (xk xv : Vec Ideal S8192x128 .bf16) (wq wk : Vec Ideal S1x128 .f32) (s : Vec Ideal S256x768 .f32)
    (u : Fin 8) (p : Fin 256) (d : Fin 128) :
    whole i xq xk xv wq wk s (ix2 ⟨256 * u.val + p.val, by omega⟩ d) = part i xq xk xv wq wk s u (ix2 p d) := by
  have hp := p.isLt
  unfold whole
  pointwise
  fin_cases u <;> dsimp only
  · rw [dif_pos (by omega)]; congr 2; apply Fin.ext; show _ = p.val; dsimp only; omega
  all_goals (repeat rw [dif_neg (by omega)])
  all_goals (try rw [dif_pos (by omega)])
  all_goals (congr 2; apply Fin.ext; show _ = p.val; dsimp only; omega)

theorem within_apply (i : grid0.Coords) (w : Fin 10) : within i w = if 2 ≤ 8 * (i 1).val + w.val then 1#1 else 0#1 :=
  within_word ⟨(i 1).val, (i 1).isLt⟩ w

theorem pay12_apply (x : Vec Ideal S256x128 .bf16) (j : Fin 256) (d : Fin 128) : k0_pay12 x (ix2 j d) = x (ix2 j d) := by
  pointwise [k0_pay12]

section
variable (i : grid0.Coords) (xq : Vec Ideal S2048x128 .bf16) (xk xv : Vec Ideal S8192x128 .bf16) (wq wk : Vec Ideal S1x128 .f32)
  (s : Vec Ideal S256x768 .f32) (u : Fin 8) (p : Fin 256)

/-- The number of the part among the sequence's 32. -/
def partNo : Fin 32 := ⟨8 * (i 1).val + u.val, by have : (i 1).val < 4 := (i 1).isLt; omega⟩

/-- The scores of part `u`'s query `p`. -/
def ts : Fin 768 → EReal :=
  tk (partNo i u) (nrm (fun e => xq (ix2 ⟨256 * u.val + p.val, by omega⟩ e)) (fun e => wq (ix2 0 e)))
    (fun k => nrm (fun e => xk (ix2 k e)) (fun e => wk (ix2 0 e))) (fun J => s (ix2 p J))

theorem score_apply (g : Fin 3) (n : ℕ) (h) (hn : n = 256 * g.val) (j : Fin 256) :
    k0_pay46 (k0_pay11 wk (blk i ⟨u.val + g.val, by omega⟩ xk)) (within i ⟨u.val + g.val, by omega⟩) (k0_pay36 wq (qrows u xq))
      (View.ld s (Rect.unit (s := S256x768) ![0, n] S256x256.size h)) (ix2 p j)
      = ts i xq xk wq wk s u p ⟨n + j.val, by omega⟩ := by
  subst hn
  have hi : (i 1).val < 4 := (i 1).isLt
  rw [pay46_apply, within_apply, ld_apply _ _ _ _ _ (by omega)]
  simp only [pay36_apply, pay11_apply, qrows_apply, blk_apply]
  unfold ts tk
  have e1 : (256 * g.val + j.val) / 256 = g.val := by omega
  have e2 : (256 * g.val + j.val) % 256 = j.val := by omega
  have hrow : rowOf (partNo i u) ⟨256 * g.val + j.val, by omega⟩ = ⟨256 * (8 * (i 1).val + (u.val + g.val) - 2) + j.val, by omega⟩ := by
    apply Fin.ext
    show 256 * ((8 * (i 1).val + u.val) + (256 * g.val + j.val) / 256 - 2) + (256 * g.val + j.val) % 256 = _
    rw [e1, e2, Nat.add_assoc]
  rw [hrow]
  show (if (if 2 ≤ 8 * (i 1).val + (u.val + g.val) then 1#1 else 0#1) = 1#1 then _ else _)
    = if 2 ≤ (8 * (i 1).val + u.val) + (256 * g.val + j.val) / 256 then _ else _
  rw [e1, Nat.add_assoc]
  by_cases h2 : 2 ≤ 8 * (i 1).val + (u.val + g.val)
  · rw [if_pos h2, if_pos rfl, if_pos h2]
  · rw [if_neg h2, if_neg (by decide), if_neg h2]

theorem scores_apply (J : Fin 768) :
    scores (k0_pay36 wq (qrows u xq)) (k0_pay11 wk (blk i ⟨u.val, by omega⟩ xk)) (k0_pay11 wk (blk i ⟨u.val + 1, by omega⟩ xk))
      (k0_pay11 wk (blk i ⟨u.val + 2, by omega⟩ xk)) (within i ⟨u.val, by omega⟩) (within i ⟨u.val + 1, by omega⟩)
      (within i ⟨u.val + 2, by omega⟩) s (ix2 p J) = ts i xq xk wq wk s u p J := by
  have hJ := J.isLt
  unfold scores
  pointwise
  split
  · rename_i h
    exact (score_apply i xq xk wq wk s u p 0 0 _ rfl ⟨J.val, h⟩).trans (congrArg _ (Fin.ext (Nat.zero_add _)))
  · split
    · rename_i h1 h
      exact (score_apply i xq xk wq wk s u p 1 256 _ rfl ⟨J.val - 256, h⟩).trans (congrArg _ (Fin.ext (by show 256 + (J.val - 256) = J.val; omega)))
    · rename_i h1 h
      exact (score_apply i xq xk wq wk s u p 2 512 _ rfl ⟨J.val - 256 - 256, by omega⟩).trans
        (congrArg _ (Fin.ext (by show 512 + (J.val - 256 - 256) = J.val; omega)))

/-- A part's block at one entry. -/
theorem part_apply (d : Fin 128) :
    part i xq xk xv wq wk s u (ix2 p d) = outk (partNo i u) (ts i xq xk wq wk s u p) (fun k => xv (ix2 k d)) := by
  have hi : (i 1).val < 4 := (i 1).isLt
  unfold part sub outk
  rw [pay73_apply, sum_window, sum_window]
  simp only [pay64_apply, scores_apply, pay12_apply, blk_apply]
  have hrow : ∀ (g : Fin 3) (j : Fin 256) (n : ℕ) (hn : n = 256 * g.val + j.val),
      (⟨256 * (8 * (i 1).val + (u.val + g.val) - 2) + j.val, by omega⟩ : Fin 8192) = rowOf (partNo i u) ⟨n, by omega⟩ := by
    intro g j n hn
    apply Fin.ext
    show _ = 256 * ((8 * (i 1).val + u.val) + n / 256 - 2) + n % 256
    rw [show n / 256 = g.val by omega, show n % 256 = j.val by omega, Nat.add_assoc]
  refine congrArg₂ Ideal.div (congrArg₂ (· + ·) (congrArg₂ (· + ·) ?_ ?_) ?_) rfl
  · exact Finset.sum_congr rfl fun j _ => congrArg (fun r => _ * xv (ix2 r d)) (hrow 0 j _ (Nat.zero_add _).symm)
  · exact Finset.sum_congr rfl fun j _ => congrArg (fun r => _ * xv (ix2 r d)) (hrow 1 j _ rfl)
  · exact Finset.sum_congr rfl fun j _ => congrArg (fun r => _ * xv (ix2 r d)) (hrow 2 j _ rfl)
end

end Cert.Kernel6Ideal.Att

end
-- ==== Proof.Att.Block.lean ====
/- What the grid points of the attention read: each window's block at an index, as the argument arrays at an index. -/
module

public import proofs.«01_k».proof.Proof.Att.Open
public import proofs.«01_k».proof.Proof.Att.Math
public import proofs.«01_k».proof.Proof.Inproj.Math
public import Idealize.ShloMosaic.Lib.Pointwise

@[expose] public section

set_option maxRecDepth 16384

noncomputable section

namespace Cert.Kernel6Ideal.Att

open Cert.Kernel6Ideal Cert.Kernel6Ideal.Gen Idealize.ShloMosaic Idealize.ShloMosaic.TcCoe Idealize.SL.Sem
open AttMath

theorem points : cfg0.N = 32 := N_0

/-- Where each window's block begins, over the whole grid. -/
theorem starts : ∀ t : Fin cfg0.N,
    (win0_0.index t (0 : Fin 2) = t.val % 4 ∧ win0_0.index t (1 : Fin 2) = 64 + t.val / 4)
    ∧ (win0_1.index t (0 : Fin 2) = 0 ∧ win0_1.index t (1 : Fin 2) = 72 + t.val / 4)
    ∧ (win0_2.index t (0 : Fin 2) = 0 ∧ win0_2.index t (1 : Fin 2) = 80 + t.val / 4)
    ∧ (win0_3.index t (0 : Fin 3) = t.val / 4 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (grid0.coords t 1).val = t.val % 4 :=
  (by decide +kernel : ∀ t : Fin grid0.N, _)

variable (m : (ℓ : Loc nD τ sig) → Buf (Elt Ideal) ℓ) (c : Dev nD)

/-- The argument arrays, by their indices. -/
def argP (r : Fin 8192) (n : Fin 11280) : EReal := (m ((c : Thread nD τ).loc main_arg0) : Vec Ideal S8192x11280 .f32) (ix2 r n)
def argQ (d : Fin 128) : EReal := (m ((c : Thread nD τ).loc main_arg1) : Vec Ideal S128 .f32) (ix1 d)
def argK (d : Fin 128) : EReal := (m ((c : Thread nD τ).loc main_arg2) : Vec Ideal S128 .f32) (ix1 d)
def argB (h : Fin 8) (n : Fin 320) : EReal := (m ((c : Thread nD τ).loc main_arg3) : Vec Ideal S8x320 .f32) (ix2 h n)

/-- The projected columns as they are packed for the call. -/
def packed (x : Vec Ideal S8192x11280 .f32) : Vec Ideal S8192x11264 .bf16 :=
  truncf (F := Ideal) .bf16 (concatenate S8192x11264 1
    [⟨S8192x4096, extractStridedSlice S8192x4096 ![0, 0] x slices_S8192x11280_S8192x4096_0_0⟩,
     ⟨S8192x4096, extractStridedSlice S8192x4096 ![0, 7184] x slices_S8192x11280_S8192x4096_0_7184⟩,
     ⟨S8192x3072, extractStridedSlice S8192x3072 ![0, 4112] x slices_S8192x11280_S8192x3072_0_4112⟩]
    concatenates_S8192x4096_S8192x4096_S8192x3072_S8192x11264_d1) bitsLt_bf16_f32

/-- The bias rows as they are laid out for the call. -/
def laid (x : Vec Ideal S8x320 .f32) : Vec Ideal S8x1x1024 .f32 :=
  broadcastInDim S8x1x1024 ![0, 2] bcast_S8x1024_S8x1x1024_0_2 (concatenate S8x1024 1
    [⟨S8x256, broadcastInDim S8x256 ![0, 1] bcast_S8x1_S8x256_0_1 (extractStridedSlice S8x1 ![0, 319] x slices_S8x320_S8x1_0_319)⟩,
     ⟨S8x320, Host.reverse [1] x⟩,
     ⟨S8x192, broadcastInDim S8x192 ![0, 1] bcast_S8x1_S8x192_0_1 (extractStridedSlice S8x1 ![0, 0] x slices_S8x320_S8x1_0_0)⟩,
     ⟨S8x256, broadcastInDim S8x256 ![0, 1] bcast_S8x1_S8x256_0_1 (extractStridedSlice S8x1 ![0, 319] x slices_S8x320_S8x1_0_319)⟩]
    concatenates_S8x256_S8x320_S8x192_S8x256_S8x1024_d1)

theorem host_P : (V m c main_v4 : Vec Ideal S8192x11264 .bf16) = packed (m ((c : Thread nD τ).loc main_arg0)) := rfl
theorem host_B : (V m c main_v13 : Vec Ideal S8x1x1024 .f32) = laid (m ((c : Thread nD τ).loc main_arg3)) := rfl

/-- The queries', keys' and values' columns. -/
theorem packed_apply (r : Fin 8192) (d : Fin 3072) :
    packed (m ((c : Thread nD τ).loc main_arg0)) (ix2 r ⟨8192 + d.val, by omega⟩) = argP m c r ⟨4112 + d.val, by omega⟩ := by
  unfold packed argP
  pointwise
  rw [dif_neg (by omega), dif_neg (by omega)]
  refine congrArg (fun j : Fin 11280 => (m ((c : Thread nD τ).loc main_arg0) : Vec Ideal S8192x11280 .f32) (ix2 r j)) (Fin.ext ?_)
  show 4112 + (8192 + d.val - 4096 - 4096) = 4112 + d.val
  omega

/-- The table's entry the laid-out row has at column `n`. -/
def slot (n : Fin 1024) : Fin 320 :=
  if h0 : n.val < 256 then 319 else if h : n.val < 576 then ⟨575 - n.val, by omega⟩ else if n.val < 768 then 0 else 319

theorem laid_apply (h : Fin 8) (n : Fin 1024) : laid (m ((c : Thread nD τ).loc main_arg3)) (ix3 h 0 n) = argB m c h (slot n) := by
  have hn := n.isLt
  unfold laid argB slot
  pointwise
  by_cases h0 : n.val < 256
  · rw [dif_pos h0, dif_pos h0]
  · rw [dif_neg h0, dif_neg h0]
    by_cases h1 : n.val < 576
    · rw [dif_pos (show n.val - 256 < 320 by omega), dif_pos h1]
      refine congrArg (fun j : Fin 320 => (m ((c : Thread nD τ).loc main_arg3) : Vec Ideal S8x320 .f32) (ix2 h j)) (Fin.ext ?_)
      show 320 - (n.val - 256 + 1) = 575 - n.val
      omega
    · rw [dif_neg (show ¬(n.val - 256 < 320) by omega), dif_neg h1]
      by_cases h2 : n.val < 768
      · rw [dif_pos (show n.val - 256 - 320 < 192 by omega), if_pos h2]
      · rw [dif_neg (show ¬(n.val - 256 - 320 < 192) by omega), if_neg h2]

theorem hd_lt (t : Fin cfg0.N) : t.val / 4 < 8 := by have := t.isLt; have := points; omega

/-- The head of a grid point. -/
abbrev hd (t : Fin cfg0.N) : Fin 8 := ⟨t.val / 4, hd_lt t⟩

/-- Entry `e` of head `h` among the queries, keys and values. -/
def cq (h : Fin 8) (e : Fin 128) : Fin 11280 := ⟨4112 + (128 * h.val + e.val), by omega⟩
def ck (h : Fin 8) (e : Fin 128) : Fin 11280 := ⟨4112 + (1024 + 128 * h.val + e.val), by omega⟩
def cv (h : Fin 8) (e : Fin 128) : Fin 11280 := ⟨4112 + (2048 + 128 * h.val + e.val), by omega⟩

theorem blk_q (t : Fin cfg0.N) (p : Fin 2048) (e : Fin 128) :
    (iblk m c 0 t : Vec Ideal S2048x128 .bf16) (ix2 p e) = argP m c ⟨2048 * (t.val % 4) + p.val, by omega⟩ (cq (hd t) e) := by
  have hi := (starts t).1
  have hh := hd_lt t
  refine Eq.trans ?_ (packed_apply m c ⟨2048 * (t.val % 4) + p.val, by omega⟩ ⟨128 * (t.val / 4) + e.val, by omega⟩)
  unfold iblk
  rw [View.read_apply]
  show V m c main_v4 _ = _
  rw [host_P]
  congr 1
  funext a
  apply Fin.ext
  match a with
  | ⟨0, _⟩ => show win0_0.index t 0 * 2048 + 1 * p.val = 2048 * (t.val % 4) + p.val; rw [hi.1]; omega
  | ⟨1, _⟩ => show win0_0.index t 1 * 128 + 1 * e.val = 8192 + (128 * (t.val / 4) + e.val); rw [hi.2]; omega

theorem blk_k (t : Fin cfg0.N) (k : Fin 8192) (e : Fin 128) :
    (iblk m c 1 t : Vec Ideal S8192x128 .bf16) (ix2 k e) = argP m c k (ck (hd t) e) := by
  have hi := (starts t).2.1
  have hh := hd_lt t
  refine Eq.trans ?_ (packed_apply m c k ⟨1024 + 128 * (t.val / 4) + e.val, by omega⟩)
  unfold iblk
  rw [View.read_apply]
  show V m c main_v4 _ = _
  rw [host_P]
  congr 1
  funext a
  apply Fin.ext
  match a with
  | ⟨0, _⟩ => show win0_1.index t 0 * 8192 + 1 * k.val = k.val; rw [hi.1]; omega
  | ⟨1, _⟩ => show win0_1.index t 1 * 128 + 1 * e.val = 8192 + (1024 + 128 * (t.val / 4) + e.val); rw [hi.2]; omega

theorem blk_v (t : Fin cfg0.N) (k : Fin 8192) (e : Fin 128) :
    (iblk m c 2 t : Vec Ideal S8192x128 .bf16) (ix2 k e) = argP m c k (cv (hd t) e) := by
  have hi := (starts t).2.2.1
  have hh := hd_lt t
  refine Eq.trans ?_ (packed_apply m c k ⟨2048 + 128 * (t.val / 4) + e.val, by omega⟩)
  unfold iblk
  rw [View.read_apply]
  show V m c main_v4 _ = _
  rw [host_P]
  congr 1
  funext a
  apply Fin.ext
  match a with
  | ⟨0, _⟩ => show win0_2.index t 0 * 8192 + 1 * k.val = k.val; rw [hi.1]; omega
  | ⟨1, _⟩ => show win0_2.index t 1 * 128 + 1 * e.val = 8192 + (2048 + 128 * (t.val / 4) + e.val); rw [hi.2]; omega

theorem blk_b (t : Fin cfg0.N) (n : Fin 1024) :
    (iblk m c 3 t : Vec Ideal S1x1x1024 .f32) (ix3 0 0 n) = argB m c (hd t) (slot n) := by
  have hi := (starts t).2.2.2.1
  refine Eq.trans ?_ (laid_apply m c (hd t) n)
  unfold iblk
  rw [View.read_apply]
  show V m c main_v13 _ = _
  rw [host_B]
  congr 1
  funext a
  apply Fin.ext
  match a with
  | ⟨0, _⟩ => show win0_3.index t 0 * 1 + 1 * 0 = t.val / 4; rw [hi.1]; omega
  | ⟨1, _⟩ => show win0_3.index t 1 * 1 + 1 * 0 = 0; rw [hi.2.1]
  | ⟨2, _⟩ => show win0_3.index t 2 * 1024 + 1 * n.val = n.val; rw [hi.2.2]; omega

/-- The norms' weights enter the call as one row each. -/
theorem row_q (d : Fin 128) : (V m c main_v14 : Vec Ideal S1x128 .f32) (ix2 0 d) = argQ m c d := by
  unfold argQ
  show shapeCast S1x128 (m ((c : Thread nD τ).loc main_arg1) : Vec Ideal S128 .f32) _ (ix2 0 d) = _
  pointwise

theorem row_k (d : Fin 128) : (V m c main_v15 : Vec Ideal S1x128 .f32) (ix2 0 d) = argK m c d := by
  unfold argK
  show shapeCast S1x128 (m ((c : Thread nD τ).loc main_arg2) : Vec Ideal S128 .f32) _ (ix2 0 d) = _
  pointwise

theorem blk_wq (t : Fin cfg0.N) (d : Fin 128) : (iblk m c 4 t : Vec Ideal S1x128 .f32) (ix2 0 d) = argQ m c d := by
  have hi := (starts t).2.2.2.2.1
  rw [← row_q]
  unfold iblk
  rw [View.read_apply]
  show V m c main_v14 _ = _
  congr 1
  funext a
  apply Fin.ext
  match a with
  | ⟨0, _⟩ => show win0_4.index t 0 * 1 + 1 * 0 = 0; rw [hi.1]
  | ⟨1, _⟩ => show win0_4.index t 1 * 128 + 1 * d.val = d.val; rw [hi.2]; omega

theorem blk_wk (t : Fin cfg0.N) (d : Fin 128) : (iblk m c 5 t : Vec Ideal S1x128 .f32) (ix2 0 d) = argK m c d := by
  have hi := (starts t).2.2.2.2.2.1
  rw [← row_k]
  unfold iblk
  rw [View.read_apply]
  show V m c main_v15 _ = _
  congr 1
  funext a
  apply Fin.ext
  match a with
  | ⟨0, _⟩ => show win0_5.index t 0 * 1 + 1 * 0 = 0; rw [hi.1]
  | ⟨1, _⟩ => show win0_5.index t 1 * 128 + 1 * d.val = d.val; rw [hi.2]; omega

end Cert.Kernel6Ideal.Att

end
-- ==== Proof.Att.Fold.lean ====
/- What the scratch and the output block hold after each grid point, and the array the call ends with. -/
module

public import proofs.«01_k».proof.Proof.Att.Pay
public import proofs.«01_k».proof.Proof.Att.Block

@[expose] public section

set_option maxRecDepth 16384

noncomputable section

namespace Cert.Kernel6Ideal.Att

open Cert.Kernel6Ideal Cert.Kernel6Ideal.Gen Idealize.ShloMosaic Idealize.ShloMosaic.TcCoe Idealize.SL.Sem
open AttMath

variable (m : (ℓ : Loc nD τ sig) → Buf (Elt Ideal) ℓ) (c : Dev nD)

/-- The bias of a part's query `p` at window column `J`: `⊥` outside the band. -/
def bandBias (h : Fin 8) (p : Fin 256) (J : Fin 768) : EReal :=
  if p.val / 64 ≤ J.val / 64 ∧ J.val / 64 ≤ p.val / 64 + 8 then argB m c h (slot ⟨(J.val + 1024 - p.val) % 1024, Nat.mod_lt _ (by decide)⟩) else ⊥

/-- The output of head `h` at query `p` of part `B`, entry `d`. -/
def outAt (h : Fin 8) (B : Fin 32) (p : Fin 256) (d : Fin 128) : EReal :=
  outk B (tk B (nrm (fun e => argP m c ⟨256 * B.val + p.val, by omega⟩ (cq h e)) (argQ m c)) (fun k => nrm (fun e => argP m c k (ck h e)) (argK m c))
    (bandBias m c h p)) (fun k => argP m c k (cv h d))

theorem first_scratch (t : Fin cfg0.N) (p : Fin 256) (J : Fin 768) :
    k0_pay9 (masked (iblk m c 3 t : Vec Ideal S1x1x1024 .f32)) (ix2 p J) = bandBias m c (hd t) p J := by
  have h9 : k0_pay9 (masked (iblk m c 3 t : Vec Ideal S1x1x1024 .f32)) (ix2 p J) = masked (iblk m c 3 t : Vec Ideal S1x1x1024 .f32) (ix2 p J) := by
    pointwise [k0_pay9]
  rw [h9, masked_apply, rolled_apply, blk_b]
  rfl

theorem outk_congr (B : Fin 32) {x x' w w' z z' : Fin 128 → EReal} {y y' : Fin 8192 → Fin 128 → EReal} {b b' : Fin 768 → EReal} {v v' : Fin 8192 → EReal}
    (hx : ∀ e, x e = x' e) (hw : ∀ e, w e = w' e) (hy : ∀ k e, y k e = y' k e) (hz : ∀ e, z e = z' e) (hb : ∀ J, b J = b' J) (hv : ∀ k, v k = v' k) :
    outk B (tk B (nrm x w) (fun k => nrm (y k) z) b) v = outk B (tk B (nrm x' w') (fun k => nrm (y' k) z') b') v' := by
  obtain rfl := funext hx
  obtain rfl := funext hw
  obtain rfl := funext fun k => funext (hy k)
  obtain rfl := funext hz
  obtain rfl := funext hb
  obtain rfl := funext hv
  rfl

/-- The block of a point over a scratch holding the head's masked bias. -/
theorem point (t : Fin cfg0.N) (s : Vec Ideal S256x768 .f32) (hs : ∀ (p : Fin 256) (J : Fin 768), s (ix2 p J) = bandBias m c (hd t) p J)
    (p : Fin 2048) (d : Fin 128) :
    whole (grid0.coords t) (iblk m c 0 t : Vec Ideal S2048x128 .bf16) (iblk m c 1 t : Vec Ideal S8192x128 .bf16) (iblk m c 2 t : Vec Ideal S8192x128 .bf16)
      (iblk m c 4 t : Vec Ideal S1x128 .f32) (iblk m c 5 t : Vec Ideal S1x128 .f32) s (ix2 p d)
      = outAt m c (hd t) ⟨8 * (t.val % 4) + p.val / 256, by omega⟩ ⟨p.val % 256, by omega⟩ d := by
  have hi := (starts t).2.2.2.2.2.2
  have hB : partNo (grid0.coords t) ⟨p.val / 256, by omega⟩ = ⟨8 * (t.val % 4) + p.val / 256, by omega⟩ := by
    apply Fin.ext
    show 8 * (grid0.coords t 1).val + p.val / 256 = _
    rw [hi]
  have hp : p = ⟨256 * (⟨p.val / 256, by omega⟩ : Fin 8).val + (⟨p.val % 256, by omega⟩ : Fin 256).val, by
      show 256 * (p.val / 256) + p.val % 256 < 2048; omega⟩ := by
    apply Fin.ext
    show p.val = 256 * (p.val / 256) + p.val % 256
    omega
  have hr : (⟨2048 * (t.val % 4) + p.val, by omega⟩ : Fin 8192) = ⟨256 * (8 * (t.val % 4) + p.val / 256) + p.val % 256, by omega⟩ := by
    apply Fin.ext
    show 2048 * (t.val % 4) + p.val = 256 * (8 * (t.val % 4) + p.val / 256) + p.val % 256
    omega
  refine (congrArg (fun p => whole _ _ _ _ _ _ s (ix2 p d)) hp).trans ?_
  rw [whole_apply, part_apply, hB]
  unfold ts outAt
  rw [hB]
  exact outk_congr _ (fun e => by rw [← hp, blk_q, hr]) (fun e => blk_wq m c t e) (fun k e => blk_k m c t k e) (fun e => blk_wk m c t e)
    (fun J => hs _ J) (fun k => blk_v m c t k d)

/-- What is to hold after point `n` of the output block and of the scratch. -/
def Held (n : ℕ) (hn : n < cfg0.N) (u : Vec Ideal S2048x128 .bf16 × Vec Ideal S256x768 .f32) : Prop :=
  (∀ (p : Fin 256) (J : Fin 768), u.2 (ix2 p J) = bandBias m c (hd ⟨n, hn⟩) p J)
    ∧ ∀ (p : Fin 2048) (d : Fin 128), u.1 (ix2 p d)
      = outAt m c (hd ⟨n, hn⟩) ⟨8 * (n % 4) + p.val / 256, by omega⟩ ⟨p.val % 256, by omega⟩ d

theorem held_first (t : Fin cfg0.N) (h0 : t.val % 4 = 0) : Held m c t.val t.isLt (outsAt0 m c t.val t.isLt) := by
  rw [outsAt0_A m c t h0, scratch_first, out_first]
  exact ⟨first_scratch m c t, point m c t _ (first_scratch m c t)⟩

theorem held_later (t : Fin cfg0.N) (h0 : ¬t.val % 4 = 0) (hb : t.val - 1 < cfg0.N)
    (ih : Held m c (t.val - 1) hb (outsAt0 m c (t.val - 1) hb)) : Held m c t.val t.isLt (outsAt0 m c t.val t.isLt) := by
  have hs := ih.1
  have hd' : hd ⟨t.val - 1, hb⟩ = hd t := Fin.ext (by show (t.val - 1) / 4 = t.val / 4; omega)
  rw [hd'] at hs
  rw [outsAt0_B m c t h0, scratch_later, out_later]
  exact ⟨hs, point m c t _ hs⟩

theorem held : ∀ (n : ℕ) (hn : n < cfg0.N), Held m c n hn (outsAt0 m c n hn) := by
  intro n
  induction n with
  | zero => exact fun hn => held_first m c ⟨0, hn⟩ (Nat.zero_mod _)
  | succ n ih =>
    intro hn
    by_cases h0 : (n + 1) % 4 = 0
    · exact held_first m c ⟨n + 1, hn⟩ h0
    · exact held_later m c ⟨n + 1, hn⟩ h0 (Nat.lt_of_succ_lt hn) (ih _)

/-- The array the call ends with, at an index. -/
theorem result_apply (h : Fin 8) (r : Fin 8192) (d : Fin 128) :
    (Value.G6 m c : Vec Ideal S8192x1024 .bf16) (ix2 r ⟨128 * h.val + d.val, by omega⟩)
      = outAt m c h ⟨r.val / 256, by omega⟩ ⟨r.val % 256, by omega⟩ d := by
  have hN := points
  have hr := r.isLt
  have hd := d.isLt
  have hh := h.isLt
  have hp : Value.pt6Of (ix2 r ⟨128 * h.val + d.val, by omega⟩) = 4 * h.val + r.val / 2048 := by
    show 1 * (r.val / 2048 - 0) + 4 * ((128 * h.val + d.val) / 128 - 0) = _
    omega
  have hlt : 4 * h.val + r.val / 2048 < cfg0.N := by omega
  have hl : Value.loc6Of (ix2 r ⟨128 * h.val + d.val, by omega⟩) = ix2 ⟨r.val % 2048, Nat.mod_lt _ (by decide)⟩ d := by
    funext a; apply Fin.ext
    match a with
    | ⟨0, _⟩ => rfl
    | ⟨1, _⟩ => show (128 * h.val + d.val) % 128 = d.val; omega
  unfold Value.G6
  rw [dif_pos (by rw [hp]; exact hlt), ← Value.outsAt0_sweep m c _ (by rw [hp]; exact hlt), hl]
  refine ((held m c _ (by rw [hp]; exact hlt : Value.pt6Of (ix2 r ⟨128 * h.val + d.val, by omega⟩) < cfg0.N)).2
    ⟨r.val % 2048, Nat.mod_lt _ (by decide)⟩ d).trans ?_
  congr 1
  · apply Fin.ext
    show Value.pt6Of (ix2 r ⟨128 * h.val + d.val, by omega⟩) / 4 = h.val
    rw [hp]; omega
  · apply Fin.ext
    show 8 * (Value.pt6Of (ix2 r ⟨128 * h.val + d.val, by omega⟩) % 4) + r.val % 2048 / 256 = r.val / 256
    rw [hp]; omega
  · apply Fin.ext
    show r.val % 2048 % 256 = r.val % 256
    omega

end Cert.Kernel6Ideal.Att

end
-- ==== Proof.Att.Reference.lean ====
/- The reference's attention at one entry. -/
module

public import proofs.«01_k».proof.Proof.Gen.Reference6Ideal.Run
public import proofs.«01_k».proof.Proof.Att.Math
public import Idealize.ShloMosaic.Lib.Pointwise

@[expose] public section

set_option maxRecDepth 16384

noncomputable section

namespace Cert.Reference6Ideal.Att

open Cert.Reference6Ideal Cert.Reference6Ideal.Gen Cert.Reference6Ideal.Value Idealize.ShloMosaic Idealize.ShloMosaic.TcCoe Idealize.SL.Sem
open AttMath

/-- The heads of a range of columns. -/
def headsQ (x : Vec Ideal S8192x11280 .f32) : FVec Ideal S8x8192x128 .f32 :=
  transpose S8x8192x128 [1, 0, 2] (shapeCast _ (extractStridedSlice S8192x1024 ![0, 4112] x slices_S8192x11280_S8192x1024_0_4112) shapeCasts_S8192x1024_S8192x8x128) transposes_S8192x8x128_S8x8192x128_1_0_2
def headsK (x : Vec Ideal S8192x11280 .f32) : FVec Ideal S8x8192x128 .f32 :=
  transpose S8x8192x128 [1, 0, 2] (shapeCast _ (extractStridedSlice S8192x1024 ![0, 5136] x slices_S8192x11280_S8192x1024_0_5136) shapeCasts_S8192x1024_S8192x8x128) transposes_S8192x8x128_S8x8192x128_1_0_2
def headsV (x : Vec Ideal S8192x11280 .f32) : FVec Ideal S8x8192x128 .f32 :=
  transpose S8x8192x128 [1, 0, 2] (shapeCast _ (extractStridedSlice S8192x1024 ![0, 6160] x slices_S8192x11280_S8192x1024_0_6160) shapeCasts_S8192x1024_S8192x8x128) transposes_S8192x8x128_S8x8192x128_1_0_2

/-- The normalised rows of each head. -/
def normRows (h : FVec Ideal S8x8192x128 .f32) (w : Vec Ideal S128 .f32) : FVec Ideal S8x8192x128 .f32 :=
  mulf (mulf h (broadcastInDim S8x8192x128 ![0, 1, 2] bcast_S8x8192x1_S8x8192x128_0_1_2 (Host.rsqrt (addf (Host.divf (broadcastInDim S8x8192x1 ![0, 1] bcast_S8x8192_S8x8192x1_0_1 (Host.reduceAdd (mulf h h) (constant S_ .f32 0x00000000#32) reducesTo_S8x8192x128_S8x8192_d2 h_S_)) (broadcastInDim S8x8192x1 ![] bcast_S_S8x8192x1 (constant S_ .f32 0x43000000#32))) (broadcastInDim S8x8192x1 ![] bcast_S_S8x8192x1 (constant S_ .f32 0x358637BD#32)))))) (broadcastInDim S8x8192x128 ![0, 1, 2] bcast_S1x1x128_S8x8192x128_0_1_2 (broadcastInDim S1x1x128 ![2] bcast_S128_S1x1x128_2 w))

/-- The chunk numbers and the differences of positions. -/
def chunks : IVec S8192 32 := Host.divsi (iotaInDim S8192 32 0) (broadcastInDim S8192 ![] bcast_S_S8192 (constantI S_ 32 64#32))
def diff (i : IVec S8192 32) : IVec S8192x8192 32 :=
  subi (broadcastInDim S8192x8192 ![0, 1] bcast_S8192x1_S8192x8192_0_1 (broadcastInDim S8192x1 ![0] bcast_S8192_S8192x1_0 i)) (broadcastInDim S8192x8192 ![0, 1] bcast_S1x8192_S8192x8192_0_1 (broadcastInDim S1x8192 ![1] bcast_S8192_S1x8192_1 i))

/-- Whether the key's chunk is the query's or one of the eight before it. -/
def inBand : IVec S8192x8192 1 :=
  andi (cmpi .sge (diff chunks) (broadcastInDim S8192x8192 ![] bcast_S_S8192x8192 (constantI S_ 32 0#32))) (cmpi .sle (diff chunks) (broadcastInDim S8192x8192 ![] bcast_S_S8192x8192 (constantI S_ 32 8#32)))

/-- The table's entry of each pair of positions. -/
def shifted : IVec S8192x8192 32 :=
  addi (minsi (broadcastInDim S8192x8192 ![] bcast_S_S8192x8192 (id (constantI S_ 32 256#32))) (maxsi (broadcastInDim S8192x8192 ![] bcast_S_S8192x8192 (id (constantI S_ 32 4294967233#32))) (diff (iotaInDim S8192 32 0)))) (broadcastInDim S8192x8192 ![] bcast_S_S8192x8192 (constantI S_ 32 63#32))
def places : IVec S8192x8192x1 32 :=
  broadcastInDim S8192x8192x1 ![0, 1] bcast_S8192x8192_S8192x8192x1_0_1 (select (cmpi .slt shifted (broadcastInDim S8192x8192 ![] bcast_S_S8192x8192 (constantI S_ 32 0#32))) (addi shifted (broadcastInDim S8192x8192 ![] bcast_S_S8192x8192 (constantI S_ 32 320#32))) shifted)
def biasOf (b : Vec Ideal S8x320 .f32) : FVec Ideal S8x8192x8192 .f32 := Host.gather gather_S8x320_S8192x8192x1_S8x8192x8192_0_1_n_n_1_2_81 b places

/-- The masked scores. -/
def scoresOf (q k : FVec Ideal S8x8192x128 .f32) (b : FVec Ideal S8x8192x8192 .f32) : FVec Ideal S8x8192x8192 .f32 :=
  select (broadcastInDim S8x8192x8192 ![1, 2] bcast_S8192x8192_S8x8192x8192_1_2 inBand) (addf (mulf (Host.dotGeneral (F := Ideal) (φ₁ := .f32) (φ₂ := .f32) dot_S8x8192x128_S8x8192x128_S8x8192x8192_2_2_1_1_0_0 none q k) (broadcastInDim S8x8192x8192 ![] bcast_S_S8x8192x8192 (constant S_ .f32 0x3DB504F3#32))) b) (broadcastInDim S8x8192x8192 ![] bcast_S_S8x8192x8192 (id (constant S_ .f32 0xFF800000#32)))

/-- The softmax over the last axis. -/
def rowMax (s : FVec Ideal S8x8192x8192 .f32) : FVec Ideal S8x8192 .f32 := Host.reduce FloatOps.maximumf s (constant S_ .f32 0xFF800000#32) reducesTo_S8x8192x8192_S8x8192_d2 h_S_
def lessMax (s : FVec Ideal S8x8192x8192 .f32) (mx : FVec Ideal S8x8192 .f32) : FVec Ideal S8x8192x8192 .f32 :=
  Host.exp (subf s (broadcastInDim S8x8192x8192 ![0, 1, 2] bcast_S8x8192x1_S8x8192x8192_0_1_2 (broadcastInDim S8x8192x1 ![0, 1] bcast_S8x8192_S8x8192x1_0_1 (maximumf (broadcastInDim S8x8192 ![] bcast_S_S8x8192 (constant S_ .f32 0xFF800000#32)) mx))))
def raised (s : FVec Ideal S8x8192x8192 .f32) : FVec Ideal S8x8192x8192 .f32 := lessMax s (rowMax s)
def soft (s : FVec Ideal S8x8192x8192 .f32) : FVec Ideal S8x8192x8192 .f32 :=
  Host.divf (raised s) (broadcastInDim S8x8192x8192 ![0, 1, 2] bcast_S8x8192x1_S8x8192x8192_0_1_2 (broadcastInDim S8x8192x1 ![0, 1] bcast_S8x8192_S8x8192x1_0_1 (Host.reduceAdd (raised s) (constant S_ .f32 0x00000000#32) reducesTo_S8x8192x8192_S8x8192_d2 h_S_)))

def mixed (p : FVec Ideal S8x8192x8192 .f32) (v : FVec Ideal S8x8192x128 .f32) : FVec Ideal S8192x1024 .bf16 :=
  truncf (F := Ideal) .bf16 (shapeCast _ (transpose S8192x8x128 [1, 0, 2] (Host.dotGeneral (F := Ideal) (φ₁ := .f32) (φ₂ := .f32) dot_S8x8192x8192_S8x8192x128_S8x8192x128_2_1_1_2_0_0 none p v) transposes_S8x8192x128_S8192x8x128_1_0_2) shapeCasts_S8192x8x128_S8192x1024) bitsLt_bf16_f32

variable (m : (ℓ : Loc nD τ sig) → Buf (Elt Ideal) ℓ) (c : Dev nD)

theorem result_eq : (res_main_v82 m c : Vec Ideal S8192x1024 .bf16)
    = mixed (soft (scoresOf (normRows (headsQ (m ((c.tc : Thread nD τ).loc main_arg0))) (m ((c.tc : Thread nD τ).loc main_arg1)))
        (normRows (headsK (m ((c.tc : Thread nD τ).loc main_arg0))) (m ((c.tc : Thread nD τ).loc main_arg2)))
        (biasOf (m ((c.tc : Thread nD τ).loc main_arg3))))) (headsV (m ((c.tc : Thread nD τ).loc main_arg0))) := rfl

theorem headsQ_apply (x : Vec Ideal S8192x11280 .f32) (h : Fin 8) (r : Fin 8192) (e : Fin 128) :
    headsQ x (ix3 h r e) = x (ix2 r ⟨4112 + (128 * h.val + e.val), by omega⟩) := by
  unfold headsQ
  pointwise
  refine congrArg (fun j : Fin 11280 => x (ix2 r j)) (Fin.ext ?_)
  show 4112 + (h.val * 128 + e.val) = 4112 + (128 * h.val + e.val)
  omega

theorem headsK_apply (x : Vec Ideal S8192x11280 .f32) (h : Fin 8) (r : Fin 8192) (e : Fin 128) :
    headsK x (ix3 h r e) = x (ix2 r ⟨4112 + (1024 + 128 * h.val + e.val), by omega⟩) := by
  unfold headsK
  pointwise
  refine congrArg (fun j : Fin 11280 => x (ix2 r j)) (Fin.ext ?_)
  show 5136 + (h.val * 128 + e.val) = 4112 + (1024 + 128 * h.val + e.val)
  omega

theorem headsV_apply (x : Vec Ideal S8192x11280 .f32) (h : Fin 8) (r : Fin 8192) (e : Fin 128) :
    headsV x (ix3 h r e) = x (ix2 r ⟨4112 + (2048 + 128 * h.val + e.val), by omega⟩) := by
  unfold headsV
  pointwise
  refine congrArg (fun j : Fin 11280 => x (ix2 r j)) (Fin.ext ?_)
  show 6160 + (h.val * 128 + e.val) = 4112 + (2048 + 128 * h.val + e.val)
  omega

theorem normRows_apply (x : FVec Ideal S8x8192x128 .f32) (w : Vec Ideal S128 .f32) (h : Fin 8) (r : Fin 8192) (d : Fin 128) :
    normRows x w (ix3 h r d) = nrm (fun e => x (ix3 h r e)) (fun e => w (ix1 e)) d := by
  unfold normRows nrm rscale
  pointwise

/-! ## The band and the bias -/

theorem chunk_word : ∀ n : Fin 8192, IntOp.divsi ArithUnit.host (BitVec.ofNat 32 n.val) 64#32 = BitVec.ofNat 32 (n.val / 64) := by
  decide +kernel

theorem band_word : ∀ a b : Fin 128,
    IntOp.andi (IntOp.cmpi CmpIPredicate.sge (IntOp.subi (BitVec.ofNat 32 a.val) (BitVec.ofNat 32 b.val)) 0#32)
      (IntOp.cmpi CmpIPredicate.sle (IntOp.subi (BitVec.ofNat 32 a.val) (BitVec.ofNat 32 b.val)) 8#32)
      = if b.val ≤ a.val ∧ a.val ≤ b.val + 8 then 1#1 else 0#1 := by
  decide +kernel

theorem inBand_apply (q k : Fin 8192) :
    inBand (ix2 q k) = if k.val / 64 ≤ q.val / 64 ∧ q.val / 64 ≤ k.val / 64 + 8 then 1#1 else 0#1 := by
  unfold inBand diff chunks
  pointwise
  rw [chunk_word q, chunk_word k]
  exact band_word ⟨q.val / 64, by omega⟩ ⟨k.val / 64, by omega⟩

theorem gap_word (q k : Fin 8192) (h : k.val ≤ q.val + 63) :
    IntOp.subi (BitVec.ofNat 32 q.val) (BitVec.ofNat 32 k.val) = IntOp.subi (BitVec.ofNat 32 (q.val + 64 - k.val)) 64#32 := by
  show BitVec.ofNat 32 q.val - BitVec.ofNat 32 k.val = BitVec.ofNat 32 (q.val + 64 - k.val) - 64#32
  apply BitVec.eq_of_toNat_eq
  simp only [BitVec.toNat_sub, BitVec.toNat_ofNat]
  omega

theorem place_word : ∀ g : Fin 640, 1 ≤ g.val →
    (Scalar.select (IntOp.cmpi CmpIPredicate.slt (IntOp.addi (IntOp.minsi 256#32 (IntOp.maxsi 4294967233#32 (IntOp.subi (BitVec.ofNat 32 g.val) 64#32))) 63#32) 0#32)
      (IntOp.addi (IntOp.addi (IntOp.minsi 256#32 (IntOp.maxsi 4294967233#32 (IntOp.subi (BitVec.ofNat 32 g.val) 64#32))) 63#32) 320#32)
      (IntOp.addi (IntOp.minsi 256#32 (IntOp.maxsi 4294967233#32 (IntOp.subi (BitVec.ofNat 32 g.val) 64#32))) 63#32)).toInt.toNat = min (g.val - 1) 319 := by
  decide +kernel

theorem shifted_apply (q k : Fin 8192) :
    shifted (ix2 q k) = IntOp.addi (IntOp.minsi 256#32 (IntOp.maxsi 4294967233#32 (IntOp.subi (BitVec.ofNat 32 q.val) (BitVec.ofNat 32 k.val)))) 63#32 := by
  unfold shifted diff
  pointwise
  rfl

theorem places_apply (q k : Fin 8192) :
    places (ix3 q k 0) = Scalar.select (IntOp.cmpi CmpIPredicate.slt (shifted (ix2 q k)) 0#32) (IntOp.addi (shifted (ix2 q k)) 320#32) (shifted (ix2 q k)) := by
  unfold places
  pointwise

theorem gather_apply (b : Vec Ideal S8x320 .f32) (idx : IVec S8192x8192x1 32) (h : Fin 8) (q k : Fin 8192) :
    Host.gather gather_S8x320_S8192x8192x1_S8x8192x8192_0_1_n_n_1_2_81 b idx (ix3 h q k)
      = b (ix2 h ⟨min (idx (ix3 q k 0)).toInt.toNat 319, by omega⟩) := by
  unfold Host.gather
  congr 1
  funext a
  refine Fin.ext ?_
  match a with
  | ⟨0, _⟩ =>
    show GatherDims.start gather_S8x320_S8192x8192x1_S8x8192x8192_0_1_n_n_1_2_81 (ix3 h q k) idx (0 : Fin 2) + GatherDims.batchCoord gather_S8x320_S8192x8192x1_S8x8192x8192_0_1_n_n_1_2_81 (ix3 h q k) (0 : Fin 2) + GatherDims.offCoord gather_S8x320_S8192x8192x1_S8x8192x8192_0_1_n_n_1_2_81 (ix3 h q k) (0 : Fin 2) = h.val
    rw [GatherDims.batchCoord_eq_zero _ _ _ List.not_mem_nil]
    unfold GatherDims.start GatherDims.offCoord
    rw [dif_neg (by decide), dif_pos (by decide)]
    rw [Nat.add_zero, Nat.zero_add]
    rfl
  | ⟨1, _⟩ =>
    show GatherDims.start gather_S8x320_S8192x8192x1_S8x8192x8192_0_1_n_n_1_2_81 (ix3 h q k) idx (1 : Fin 2) + GatherDims.batchCoord gather_S8x320_S8192x8192x1_S8x8192x8192_0_1_n_n_1_2_81 (ix3 h q k) (1 : Fin 2) + GatherDims.offCoord gather_S8x320_S8192x8192x1_S8x8192x8192_0_1_n_n_1_2_81 (ix3 h q k) (1 : Fin 2) = min (idx (ix3 q k 0)).toInt.toNat 319
    rw [GatherDims.batchCoord_eq_zero _ _ _ List.not_mem_nil]
    unfold GatherDims.start GatherDims.offCoord
    rw [dif_pos (by decide), dif_neg (by decide)]
    rw [Nat.add_zero]
    refine congrArg (fun j => min (idx j).toInt.toNat 319) ?_
    funext b'
    refine Fin.ext ?_
    match b' with
    | ⟨0, _⟩ => rfl
    | ⟨1, _⟩ => rfl
    | ⟨2, _⟩ => rfl

/-- The bias of a pair within the band. -/
theorem biasOf_apply (b : Vec Ideal S8x320 .f32) (h : Fin 8) (q k : Fin 8192)
    (hb : k.val / 64 ≤ q.val / 64 ∧ q.val / 64 ≤ k.val / 64 + 8) :
    biasOf b (ix3 h q k) = b (ix2 h ⟨min (q.val + 63 - k.val) 319, by omega⟩) := by
  unfold biasOf
  rw [gather_apply]
  refine congrArg (fun j : Fin 320 => b (ix2 h j)) (Fin.ext ?_)
  show min (places (ix3 q k 0)).toInt.toNat 319 = min (q.val + 63 - k.val) 319
  rw [places_apply, shifted_apply, gap_word q k (by omega), place_word ⟨q.val + 64 - k.val, by omega⟩ (by show 1 ≤ q.val + 64 - k.val; omega)]
  show min (min (q.val + 64 - k.val - 1) 319) 319 = _
  omega

/-! ## The scores and their softmax -/

theorem bot_word : Ideal.ofBits FTy.f32 0xFF800000#32 = (⊥ : EReal) := by simp [Ideal.ofBits, Ideal.ieee]

theorem scoresOf_apply (q k : FVec Ideal S8x8192x128 .f32) (b : FVec Ideal S8x8192x8192 .f32) (h : Fin 8) (r k' : Fin 8192) :
    scoresOf q k b (ix3 h r k') = if inBand (ix2 r k') = 1#1 then (∑ e, q (ix3 h r e) * k (ix3 h k' e)) * sc + b (ix3 h r k') else ⊥ := by
  unfold scoresOf
  pointwise
  rw [← bot_word]
  rfl

theorem rowMax_apply (s : FVec Ideal S8x8192x8192 .f32) (h : Fin 8) (r : Fin 8192) :
    rowMax s (ix2 h r) = Finset.univ.fold max (Ideal.ofBits .f32 0xFF800000#32) (fun k => s (ix3 h r k)) := by
  unfold rowMax
  pointwise

theorem lessMax_apply (s : FVec Ideal S8x8192x8192 .f32) (mx : FVec Ideal S8x8192 .f32) (h : Fin 8) (r k : Fin 8192) :
    lessMax s mx (ix3 h r k) = Ideal.exp (s (ix3 h r k) - max (Ideal.ofBits .f32 0xFF800000#32) (mx (ix2 h r))) := by
  unfold lessMax
  pointwise

theorem raised_apply (s : FVec Ideal S8x8192x8192 .f32) (h : Fin 8) (r k : Fin 8192) :
    raised s (ix3 h r k) = Ideal.exp (s (ix3 h r k) - Finset.univ.sup fun k' => s (ix3 h r k')) := by
  unfold raised
  rw [lessMax_apply, rowMax_apply, bot_word, max_eq_right bot_le]
  rfl

theorem soft_apply (s : FVec Ideal S8x8192x8192 .f32) (h : Fin 8) (r k : Fin 8192) :
    soft s (ix3 h r k) = Ideal.div (raised s (ix3 h r k)) (∑ k', raised s (ix3 h r k')) := by
  unfold soft
  pointwise

theorem mixed_apply (p : FVec Ideal S8x8192x8192 .f32) (v : FVec Ideal S8x8192x128 .f32) (h : Fin 8) (r : Fin 8192) (d : Fin 128) :
    mixed p v (ix2 r ⟨128 * h.val + d.val, by omega⟩) = ∑ k, p (ix3 h r k) * v (ix3 h k d) := by
  unfold mixed
  pointwise

end Cert.Reference6Ideal.Att

end
-- ==== Proof.Att.Soft.lean ====
/- The windowed quotient of sums is the softmax over all keys. -/
module

public import proofs.«01_k».proof.Proof.Att.Math

@[expose] public section

noncomputable section

namespace AttMath

open Idealize.ShloMosaic

theorem sum_mul_real {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

theorem real_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Two families of scores that agree wherever they are not `⊥` -/

section
variable {t : Fin 768 → EReal} {s : Fin 8192 → EReal} {row : Fin 768 → Fin 8192}
  (h1 : ∀ J, t J ≠ ⊥ → t J = s (row J)) (h2 : ∀ J J', t J ≠ ⊥ → t J' ≠ ⊥ → row J = row J' → J = J')
  (h3 : ∀ k, s k ≠ ⊥ → ∃ J, t J ≠ ⊥ ∧ row J = k)
include h1 h3

theorem sup_agree : Finset.univ.sup t = Finset.univ.sup s := by
  apply le_antisymm
  · refine Finset.sup_le fun J _ => ?_
    by_cases h : t J = ⊥
    · rw [h]; exact bot_le
    · rw [h1 J h]; exact Finset.le_sup (f := s) (Finset.mem_univ _)
  · refine Finset.sup_le fun k _ => ?_
    by_cases h : s k = ⊥
    · rw [h]; exact bot_le
    · obtain ⟨J, hJ, rfl⟩ := h3 k h
      rw [← h1 J hJ]; exact Finset.le_sup (f := t) (Finset.mem_univ _)

include h2

theorem sum_agree (g : EReal → Fin 8192 → EReal) (hg : ∀ k, g ⊥ k = 0) : ∑ J, g (t J) (row J) = ∑ k, g (s k) k := by
  have ht : ∀ J, g (t J) (row J) ≠ 0 → t J ≠ ⊥ := fun J h e => h (by rw [e, hg])
  refine Finset.sum_bij_ne_zero (fun J _ _ => row J) (fun _ _ _ => Finset.mem_univ _) ?_ ?_ ?_
  · intro J _ hJ J' _ hJ' e
    exact h2 J J' (ht J hJ) (ht J' hJ') e
  · intro k _ hk
    obtain ⟨J, hJ, rfl⟩ := h3 k (fun e => hk (by rw [e, hg]))
    exact ⟨J, Finset.mem_univ _, by rw [h1 J hJ]; exact hk, rfl⟩
  · intro J _ hJ
    rw [← h1 J (ht J hJ)]
end

/-! ## The quotient -/

/-- Over scores that are `⊥` or finite, one of them finite, the quotient of sums is the sum of quotients. -/
theorem quotient (s v : Fin 8192 → EReal) (hs : ∀ k, s k = ⊥ ∨ Fin' (s k)) (r : Fin 8192) (hr : Fin' (s r)) :
    Ideal.div (∑ k, Ideal.exp (s k - Finset.univ.sup s) * v k) (∑ k, Ideal.exp (s k - Finset.univ.sup s))
      = ∑ k, Ideal.div (Ideal.exp (s k - Finset.univ.sup s)) (∑ k', Ideal.exp (s k' - Finset.univ.sup s)) * v k := by
  have hM : Fin' (Finset.univ.sup s) := by
    obtain ⟨a, ha⟩ := hr
    have hle : s r ≤ Finset.univ.sup s := Finset.le_sup (f := s) (Finset.mem_univ r)
    have htop : Finset.univ.sup s ≠ ⊤ := by
      refine ne_of_lt ((Finset.sup_lt_iff bot_lt_top).mpr fun k _ => ?_)
      rcases hs k with h | ⟨b, h⟩
      · rw [h]; exact bot_lt_top
      · rw [h]; exact EReal.coe_lt_top b
    have hbot : Finset.univ.sup s ≠ ⊥ := by
      intro h
      rw [h, ha] at hle
      exact EReal.coe_ne_bot a (le_bot_iff.mp hle)
    exact ⟨_, (EReal.coe_toReal htop hbot).symm⟩
  generalize Finset.univ.sup s = M at hM
  obtain ⟨M, rfl⟩ := hM
  have he : ∀ k, ∃ a : ℝ, 0 ≤ a ∧ Ideal.exp (s k - (M : EReal)) = (a : EReal) := by
    intro k
    rcases hs k with h | ⟨b, h⟩
    · exact ⟨0, le_refl _, by rw [h, EReal.bot_sub, Ideal.exp_bot, EReal.coe_zero]⟩
    · exact ⟨Real.exp (b - M), (Real.exp_pos _).le, by rw [h, ← EReal.coe_sub, Ideal.exp_coe]⟩
  choose e he0 he using he
  have her : 0 < e r := by
    obtain ⟨a, ha⟩ := hr
    have := he r
    rw [ha, ← EReal.coe_sub, Ideal.exp_coe] at this
    rw [← EReal.coe_eq_coe_iff.mp this]
    exact Real.exp_pos _
  have hL : 0 < ∑ k, e k := Finset.sum_pos' (fun k _ => he0 k) ⟨r, Finset.mem_univ r, her⟩
  have hsum : ∑ k, Ideal.exp (s k - (M : EReal)) = ((∑ k, e k : ℝ) : EReal) := by
    rw [real_sum]
    exact Finset.sum_congr rfl fun k _ => he k
  rw [hsum, Ideal.div_coe hL.ne', sum_mul_real _ _ (one_div_pos.mpr hL).le]
  refine Finset.sum_congr rfl fun k _ => ?_
  rw [Ideal.div_coe hL.ne']
  exact mul_right_comm _ _ _

/-! ## The window and the band -/

/-- The band: a query at row `r` sees the keys of its own chunk of 64 rows and of the eight chunks before. -/
def band (r k : Fin 8192) : Prop := k.val / 64 ≤ r.val / 64 ∧ r.val / 64 ≤ k.val / 64 + 8

instance (r k : Fin 8192) : Decidable (band r k) := by unfold band; infer_instance

/-- A query's score against key `k`. -/
def sk (r : Fin 8192) (nq : Fin 128 → EReal) (nk : Fin 8192 → Fin 128 → EReal) (bd : Fin 8192 → EReal) (k : Fin 8192) : EReal :=
  if band r k then (∑ e, nq e * nk k e) * sc + bd k else ⊥

theorem scale_out (nq : Fin 128 → EReal) (nk : Fin 128 → EReal) : ∑ e, nq e * sc * nk e = (∑ e, nq e * nk e) * sc := by
  obtain ⟨r, hr, h⟩ := sc_eq
  rw [h, sum_mul_real _ _ hr.le]
  exact Finset.sum_congr rfl fun e _ => mul_right_comm _ _ _

/-- The attention of one query: the windowed quotient of sums is the softmax-weighted sum over all keys. -/
theorem window_softmax (B : Fin 32) (p : Fin 256) (r : Fin 8192) (hr : r.val = 256 * B.val + p.val)
    (nq : Fin 128 → EReal) (nk : Fin 8192 → Fin 128 → EReal) (bm : Fin 768 → EReal) (bd v : Fin 8192 → EReal)
    (hq : ∀ e, Fin' (nq e)) (hk : ∀ k e, Fin' (nk k e)) (hb : ∀ k, band r k → Fin' (bd k))
    (hin : ∀ J : Fin 768, 2 ≤ B.val + J.val / 256 → band r (rowOf B J) → bm J = bd (rowOf B J))
    (hout : ∀ J : Fin 768, ¬(p.val / 64 ≤ J.val / 64 ∧ J.val / 64 ≤ p.val / 64 + 8) → bm J = ⊥) :
    outk B (tk B nq nk bm) v
      = ∑ k, Ideal.div (Ideal.exp (sk r nq nk bd k - Finset.univ.sup (sk r nq nk bd)))
          (∑ k', Ideal.exp (sk r nq nk bd k' - Finset.univ.sup (sk r nq nk bd))) * v k := by
  have hrow : ∀ J : Fin 768, 2 ≤ B.val + J.val / 256 → (rowOf B J).val + 512 = 256 * B.val + J.val := by
    intro J hJ
    show 256 * (B.val + J.val / 256 - 2) + J.val % 256 + 512 = _
    omega
  have hband : ∀ J : Fin 768, 2 ≤ B.val + J.val / 256 → (band r (rowOf B J) ↔ p.val / 64 ≤ J.val / 64 ∧ J.val / 64 ≤ p.val / 64 + 8) := by
    intro J hJ
    have := hrow J hJ
    unfold band
    omega
  have hreal : ∀ k, band r k → Fin' (sk r nq nk bd k) := by
    intro k h
    unfold sk
    rw [if_pos h]
    obtain ⟨a, _, ha⟩ := sc_eq
    exact fin_add (fin_mul (fin_sum _ fun e => fin_mul (hq e) (hk k e)) ⟨a, ha⟩) (hb k h)
  have hvis : ∀ J, tk B nq nk bm J ≠ ⊥ → 2 ≤ B.val + J.val / 256 ∧ band r (rowOf B J) := by
    intro J h
    have h2 : 2 ≤ B.val + J.val / 256 := by
      by_contra h'
      exact h (if_neg h')
    refine ⟨h2, (hband J h2).mpr ?_⟩
    by_contra h'
    refine h ?_
    unfold tk
    rw [if_pos h2, hout J h', EReal.add_bot]
  have heq : ∀ J : Fin 768, 2 ≤ B.val + J.val / 256 → band r (rowOf B J) → tk B nq nk bm J = sk r nq nk bd (rowOf B J) := by
    intro J h2 hb'
    unfold tk sk
    rw [if_pos h2, if_pos hb', hin J h2 hb', scale_out]
  have h1 : ∀ J, tk B nq nk bm J ≠ ⊥ → tk B nq nk bm J = sk r nq nk bd (rowOf B J) := fun J h => heq J (hvis J h).1 (hvis J h).2
  have h2 : ∀ J J', tk B nq nk bm J ≠ ⊥ → tk B nq nk bm J' ≠ ⊥ → rowOf B J = rowOf B J' → J = J' := by
    intro J J' h h' e
    have e1 := hrow J (hvis J h).1
    have e2 := hrow J' (hvis J' h').1
    rw [e] at e1
    exact Fin.ext (by omega)
  have h3 : ∀ k, sk r nq nk bd k ≠ ⊥ → ∃ J, tk B nq nk bm J ≠ ⊥ ∧ rowOf B J = k := by
    intro k h
    have hbk : band r k := by
      by_contra h'
      exact h (if_neg h')
    have hb2 := hbk
    unfold band at hb2
    have hle : k.val + 512 - 256 * B.val < 768 := by omega
    have hrk : rowOf B ⟨k.val + 512 - 256 * B.val, hle⟩ = k := by
      apply Fin.ext
      show 256 * (B.val + (k.val + 512 - 256 * B.val) / 256 - 2) + (k.val + 512 - 256 * B.val) % 256 = k.val
      omega
    refine ⟨⟨k.val + 512 - 256 * B.val, hle⟩, ?_, hrk⟩
    rw [heq _ (by show 2 ≤ B.val + (k.val + 512 - 256 * B.val) / 256; omega) (by rw [hrk]; exact hbk), hrk]
    exact h
  have hs : ∀ k, sk r nq nk bd k = ⊥ ∨ Fin' (sk r nq nk bd k) := by
    intro k
    by_cases h : band r k
    · exact Or.inr (hreal k h)
    · exact Or.inl (if_neg h)
  rw [← quotient (sk r nq nk bd) v hs r (hreal r ⟨le_refl _, Nat.le_add_right _ _⟩)]
  unfold outk
  rw [sup_agree h1 h3]
  generalize Finset.univ.sup (sk r nq nk bd) = M
  rw [sum_agree h1 h2 h3 (fun x k => Ideal.exp (x - M) * v k) (fun k => by rw [EReal.bot_sub, Ideal.exp_bot, zero_mul]),
    sum_agree h1 h2 h3 (fun x _ => Ideal.exp (x - M)) (fun k => by rw [EReal.bot_sub, Ideal.exp_bot])]

/-! ## Normalised rows are finite wherever the weights are -/

theorem square_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

theorem fin_or_square (x : EReal) : Fin' x ∨ x * x = ⊤ := by
  induction x with
  | bot => exact Or.inr EReal.bot_mul_bot
  | top => exact Or.inr EReal.top_mul_top
  | coe r => exact Or.inl ⟨r, rfl⟩

/-- A row holding an infinity is scaled to zero; any other row is scaled by a finite factor. -/
theorem fin_scaled (x : Fin 128 → EReal) (d : Fin 128) : Fin' (x d * rscale x) := by
  obtain ⟨ε, hε, he⟩ := eps_eq
  by_cases hx : ∀ e, Fin' (x e)
  · refine fin_mul (hx d) ?_
    unfold rscale
    choose a ha using hx
    have hsum : ∑ e, x e * x e = ((∑ e, a e * a e : ℝ) : EReal) := by
      rw [real_sum]
      exact Finset.sum_congr rfl fun e _ => by rw [ha e, ← EReal.coe_mul]
    have h0 : 0 ≤ ∑ e, a e * a e := Finset.sum_nonneg fun e _ => mul_self_nonneg _
    have hpos : 0 < (∑ e, a e * a e) * (1 / 128) + ε := add_pos_of_nonneg_of_pos (mul_nonneg h0 (by norm_num)) hε
    rw [hsum, c128_eq, he, Ideal.div_coe (by norm_num), ← EReal.coe_mul, ← EReal.coe_add, Ideal.rsqrt_coe, if_neg (not_lt.mpr hpos.le), if_neg hpos.ne']
    exact ⟨_, rfl⟩
  · obtain ⟨e, he'⟩ := not_forall.mp hx
    have hsum : ∑ e, x e * x e = ⊤ := by
      apply top_le_iff.mp
      rw [← (fin_or_square (x e)).resolve_left he']
      exact Finset.single_le_sum (f := fun e => x e * x e) (fun i _ => square_nonneg (x i)) (Finset.mem_univ e)
    have hr : rscale x = 0 := by
      unfold rscale
      rw [hsum, c128_eq, he, Ideal.div_coe (by norm_num), EReal.top_mul_coe_of_pos (by norm_num), EReal.top_add_coe]
      rfl
    rw [hr, mul_zero]
    exact ⟨0, rfl⟩

theorem fin_nrm (x : Fin 128 → EReal) {w : Fin 128 → EReal} (hw : ∀ e, Fin' (w e)) (d : Fin 128) : Fin' (nrm x w d) :=
  fin_mul (fin_scaled x d) (hw d)

end AttMath

end
-- ==== Proof.Att.Finite.lean ====
/- What the precondition says of the arguments' entries: they are finite. -/
module

public import proofs.«01_k».proof.Proof.Gen.Pre_finite6
public import proofs.«01_k».proof.Proof.Att.Math
public import Idealize.ShloMosaic.Lib.ReduceAll
public import Idealize.ShloMosaic.Lib.Pointwise
public import Idealize.ShloMosaic.Lib.IdealHost

@[expose] public section

noncomputable section

namespace Cert.Pre_finite6.Att

open Cert.Pre_finite6 Cert.Pre_finite6.Gen Idealize.ShloMosaic
open AttMath

instance : Subsingleton S_.Idx := ⟨fun _ _ => funext fun a => a.elim0⟩

/-- A value whose magnitude is below `+∞` is finite. -/
theorem fin_of_lt (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem and_one : ∀ a b : BitVec 1, IntOp.andi a b = 1#1 → a = 1#1 ∧ b = 1#1 := by decide

variable (P : FVec Ideal S8192x11280 .f32) (Q K : FVec Ideal S128 .f32) (B : FVec Ideal S8x320 .f32)

def okW (x : FVec Ideal S128 .f32) : IVec S128 1 := cmpf .olt (Host.absf x) (broadcastInDim S128 ![] bcast_S_S128 (constant S_ .f32 0x7F800000#32))
def okB (x : FVec Ideal S8x320 .f32) : IVec S8x320 1 := cmpf .olt (Host.absf x) (broadcastInDim S8x320 ![] bcast_S_S8x320 (constant S_ .f32 0x7F800000#32))
def allW (x : IVec S128 1) : IVec S_ 1 := Host.reduce IntOp.andi x (constantI S_ 1 1#1) reducesTo_S128_S_d0 h_S_
def allB (x : IVec S8x320 1) : IVec S_ 1 := Host.reduce IntOp.andi x (constantI S_ 1 1#1) reducesTo_S8x320_S_d0_1 h_S_

theorem fn_eq : fn (F := Ideal) P Q K B = andi (andi (allW (okW Q)) (allW (okW K))) (allB (okB B)) := rfl

theorem okW_fin (x : FVec Ideal S128 .f32) (i) (h : okW x i = 1#1) : Fin' (x i) := fin_of_lt _ h
theorem okB_fin (x : FVec Ideal S8x320 .f32) (i) (h : okB x i = 1#1) : Fin' (x i) := fin_of_lt _ h

theorem finite (h : fn (F := Ideal) P Q K B = fun _ => 1#1) :
    (∀ d : Fin 128, Fin' (Q (ix1 d))) ∧ (∀ d : Fin 128, Fin' (K (ix1 d)))
      ∧ ∀ (a : Fin 8) (n : Fin 320), Fin' (B (ix2 a n)) := by
  rw [fn_eq] at h
  have h0 := congrFun h (fun a => a.elim0)
  obtain ⟨h1, hB⟩ := and_one _ _ h0
  obtain ⟨hQ, hK⟩ := and_one _ _ h1
  refine ⟨fun d => ?_, fun d => ?_, fun a n => ?_⟩
  · exact okW_fin _ _ (Host.reduce_andi_all _ _ _ _ _ hQ _)
  · exact okW_fin _ _ (Host.reduce_andi_all _ _ _ _ _ hK _)
  · exact okB_fin _ _ (Host.reduce_andi_all _ _ _ _ _ hB _)

end Cert.Pre_finite6.Att

end
-- ==== Proof.Att.Equation.lean ====
/- The equation of the attention's claim: over finite norm weights and bias the reference's result is the array the kernel ends with. -/
module

public import proofs.«01_k».proof.Proof.Att.Fold
public import proofs.«01_k».proof.Proof.Att.Reference
public import proofs.«01_k».proof.Proof.Att.Soft
public import proofs.«01_k».proof.Proof.Att.Finite

@[expose] public section

set_option maxRecDepth 16384

noncomputable section

namespace Cert.Kernel6Ideal.Att

open Cert.Kernel6Ideal Cert.Kernel6Ideal.Gen Idealize.ShloMosaic Idealize.ShloMosaic.TcCoe Idealize.SL.Sem
open AttMath

/-- The reference's result over the argument arrays. -/
abbrev expected (P : Vec Ideal S8192x11280 .f32) (Q K : Vec Ideal S128 .f32) (B : Vec Ideal S8x320 .f32) : Vec Ideal S8192x1024 .bf16 :=
  Cert.Reference6Ideal.Att.mixed (Cert.Reference6Ideal.Att.soft (Cert.Reference6Ideal.Att.scoresOf
    (Cert.Reference6Ideal.Att.normRows (Cert.Reference6Ideal.Att.headsQ P) Q) (Cert.Reference6Ideal.Att.normRows (Cert.Reference6Ideal.Att.headsK P) K)
    (Cert.Reference6Ideal.Att.biasOf B))) (Cert.Reference6Ideal.Att.headsV P)

/-- The table's entry of a pair of rows. -/
def pairBias (m : (ℓ : Loc nD τ sig) → Buf (Elt Ideal) ℓ) (c : Dev nD) (h : Fin 8) (r k : Fin 8192) : EReal :=
  argB m c h ⟨min (r.val + 63 - k.val) 319, by omega⟩

variable (m : (ℓ : Loc nD τ sig) → Buf (Elt Ideal) ℓ) (c : Dev nD)

/-- The normalised query and key rows. -/
def qn (h : Fin 8) (r : Fin 8192) : Fin 128 → EReal := nrm (fun e => argP m c r (cq h e)) (argQ m c)
def kn (h : Fin 8) (k : Fin 8192) : Fin 128 → EReal := nrm (fun e => argP m c k (ck h e)) (argK m c)

theorem expected_scores (h : Fin 8) (r k : Fin 8192) :
    Cert.Reference6Ideal.Att.scoresOf
      (Cert.Reference6Ideal.Att.normRows (Cert.Reference6Ideal.Att.headsQ (m ((c : Thread nD τ).loc main_arg0))) (m ((c : Thread nD τ).loc main_arg1)))
      (Cert.Reference6Ideal.Att.normRows (Cert.Reference6Ideal.Att.headsK (m ((c : Thread nD τ).loc main_arg0))) (m ((c : Thread nD τ).loc main_arg2)))
      (Cert.Reference6Ideal.Att.biasOf (m ((c : Thread nD τ).loc main_arg3))) (ix3 h r k)
      = sk r (qn m c h r) (kn m c h) (pairBias m c h r) k := by
  rw [Cert.Reference6Ideal.Att.scoresOf_apply, Cert.Reference6Ideal.Att.inBand_apply]
  unfold sk
  by_cases hb : band r k
  · rw [if_pos hb, if_pos (show k.val / 64 ≤ r.val / 64 ∧ r.val / 64 ≤ k.val / 64 + 8 from hb), if_pos rfl,
      Cert.Reference6Ideal.Att.biasOf_apply _ h r k hb]
    refine congrArg₂ (· + ·) (congrArg (· * sc) (Finset.sum_congr rfl fun e _ => ?_)) rfl
    rw [Cert.Reference6Ideal.Att.normRows_apply, Cert.Reference6Ideal.Att.normRows_apply]
    simp only [Cert.Reference6Ideal.Att.headsQ_apply, Cert.Reference6Ideal.Att.headsK_apply]
    rfl
  · rw [if_neg hb]
    refine if_neg ?_
    unfold band at hb
    rw [if_neg hb]
    decide

theorem expected_apply (h : Fin 8) (r : Fin 8192) (d : Fin 128) :
    expected (m ((c : Thread nD τ).loc main_arg0)) (m ((c : Thread nD τ).loc main_arg1)) (m ((c : Thread nD τ).loc main_arg2))
      (m ((c : Thread nD τ).loc main_arg3)) (ix2 r ⟨128 * h.val + d.val, by omega⟩)
      = ∑ k, Ideal.div (Ideal.exp (sk r (qn m c h r) (kn m c h) (pairBias m c h r) k - Finset.univ.sup (sk r (qn m c h r) (kn m c h) (pairBias m c h r))))
          (∑ k', Ideal.exp (sk r (qn m c h r) (kn m c h) (pairBias m c h r) k' - Finset.univ.sup (sk r (qn m c h r) (kn m c h) (pairBias m c h r))))
          * argP m c k (cv h d) := by
  unfold expected
  rw [Cert.Reference6Ideal.Att.mixed_apply]
  refine Finset.sum_congr rfl fun k _ => ?_
  rw [Cert.Reference6Ideal.Att.soft_apply, Cert.Reference6Ideal.Att.headsV_apply]
  simp only [Cert.Reference6Ideal.Att.raised_apply, expected_scores]
  rfl

/-- Within the band the laid-out row's entry is the pair's. -/
theorem bandBias_eq (h : Fin 8) (B : Fin 32) (p : Fin 256) (r : Fin 8192) (hr : r.val = 256 * B.val + p.val) (J : Fin 768)
    (h2 : 2 ≤ B.val + J.val / 256) (hb : band r (rowOf B J)) : bandBias m c h p J = pairBias m c h r (rowOf B J) := by
  have hrow : (rowOf B J).val + 512 = 256 * B.val + J.val := by
    show 256 * (B.val + J.val / 256 - 2) + J.val % 256 + 512 = _
    omega
  have hp := p.isLt
  have hJ := J.isLt
  unfold band at hb
  have hc : p.val / 64 ≤ J.val / 64 ∧ J.val / 64 ≤ p.val / 64 + 8 := by omega
  unfold bandBias pairBias
  rw [if_pos hc]
  refine congrArg (argB m c h) (Fin.ext ?_)
  show (slot ⟨(J.val + 1024 - p.val) % 1024, _⟩).val = min (r.val + 63 - (rowOf B J).val) 319
  unfold slot
  dsimp only
  split
  · show 319 = _; omega
  · split
    · show 575 - (J.val + 1024 - p.val) % 1024 = _; omega
    · split
      · show 0 = _; omega
      · show 319 = _; omega

theorem equation (hfin : Cert.Pre_finite6.fn (F := Ideal) (m ((c : Thread nD τ).loc main_arg0)) (m ((c : Thread nD τ).loc main_arg1))
      (m ((c : Thread nD τ).loc main_arg2)) (m ((c : Thread nD τ).loc main_arg3)) = fun _ => 1#1) :
    expected (m ((c : Thread nD τ).loc main_arg0)) (m ((c : Thread nD τ).loc main_arg1)) (m ((c : Thread nD τ).loc main_arg2))
      (m ((c : Thread nD τ).loc main_arg3)) = Value.G6 m c := by
  obtain ⟨fQ, fK, fB⟩ := Cert.Pre_finite6.Att.finite _ _ _ _ hfin
  funext i
  obtain ⟨r, q, rfl⟩ : ∃ (r : Fin 8192) (q : Fin 1024), i = ix2 r q := ⟨i 0, i 1, eq_ix2 i⟩
  obtain ⟨h, d, rfl⟩ : ∃ (h : Fin 8) (d : Fin 128), q = ⟨128 * h.val + d.val, by omega⟩ :=
    ⟨⟨q.val / 128, by omega⟩, ⟨q.val % 128, by omega⟩, Fin.ext (by show q.val = 128 * (q.val / 128) + q.val % 128; omega)⟩
  obtain ⟨B, p, hrp, ho⟩ : ∃ (B : Fin 32) (p : Fin 256), r.val = 256 * B.val + p.val
      ∧ (Value.G6 m c : Vec Ideal S8192x1024 .bf16) (ix2 r ⟨128 * h.val + d.val, by omega⟩) = outAt m c h B p d :=
    ⟨⟨r.val / 256, by omega⟩, ⟨r.val % 256, by omega⟩, by show r.val = 256 * (r.val / 256) + r.val % 256; omega, result_apply m c h r d⟩
  have hre : (⟨256 * B.val + p.val, by omega⟩ : Fin 8192) = r := Fin.ext hrp.symm
  refine Eq.trans ?_ ho.symm
  rw [expected_apply]
  unfold outAt
  rw [hre]
  symm
  refine window_softmax B p r hrp (qn m c h r) (kn m c h) (bandBias m c h p) (pairBias m c h r) (fun k => argP m c k (cv h d))
    ?_ ?_ ?_ ?_ ?_
  · exact fun e => fin_nrm _ (fun e => fQ e) e
  · exact fun k e => fin_nrm _ (fun e => fK e) e
  · exact fun k _ => fB h _
  · exact fun J h2 hb => bandBias_eq m c h B p r hrp J h2 hb
  · exact fun J hc => if_neg hc

end Cert.Kernel6Ideal.Att

end
-- ==== Proof.Gdn.Open.lean ====
/- What one grid point of the gated delta rule leaves behind, as a composition of the body's own expressions. -/
module

public import proofs.«01_k».proof.Proof.Gen.Kernel7Ideal.Value
public import Idealize.ShloMosaic.Lib.Tactic
public import Idealize.ShloMosaic.Lib.Pipeline.ReadBack

@[expose] public section

set_option maxRecDepth 16384

noncomputable section

namespace Cert.Kernel7Ideal.Gdn

open Cert.Kernel7Ideal Cert.Kernel7Ideal.Gen Idealize.ShloMosaic Idealize.ShloMosaic.TcCoe Idealize.SL.Sem

variable {F : FTy → Type} [FloatOps F]

theorem off0 : (![0, 0] : Fin 2 → Nat) = fun _ => 0 := funext fun a => by fin_cases a <;> rfl

theorem cut_y (o : ℕ) (ho : o + 128 ≤ 3072) : S128x3072.Slices ![0, o] S128x128 :=
  ⟨rfl, fun a => by
    match a with
    | ⟨0, _⟩ => show 0 + 128 ≤ 128; omega
    | ⟨1, _⟩ => show o + 128 ≤ 3072; omega⟩

theorem cut_col (o : ℕ) (ho : o < 128) : S128x128.Slices ![0, o] S128x1 :=
  ⟨rfl, fun a => by
    match a with
    | ⟨0, _⟩ => show 0 + 128 ≤ 128; omega
    | ⟨1, _⟩ => show o + 1 ≤ 128; omega⟩

theorem cut_row (o : ℕ) (ho : o < 128) : S128x128.Slices ![o, 0] S1x128 :=
  ⟨rfl, fun a => by
    match a with
    | ⟨0, _⟩ => show o + 1 ≤ 128; omega
    | ⟨1, _⟩ => show 0 + 128 ≤ 128; omega⟩

theorem cut_one (r o : ℕ) (hr : r < 128) (ho : o < 128) : S128x128.Slices ![r, o] S1x1 :=
  ⟨rfl, fun a => by
    match a with
    | ⟨0, _⟩ => show r + 1 ≤ 128; omega
    | ⟨1, _⟩ => show o + 1 ≤ 128; omega⟩

theorem rows_inb (h : Fin 8) (a : Fin 2) : (![128 * h.val, 0] : Fin 2 → Nat) a + S128x128.size a ≤ S1024x128.size a := by
  have := h.isLt
  match a with
  | ⟨0, _⟩ => show 128 * h.val + 128 ≤ 1024; omega
  | ⟨1, _⟩ => show 0 + 128 ≤ 128; omega

/-- The rows of head `h` in the carried state. -/
def stateRows (h : Fin 8) (s : Vec F S1024x128 .f32) : Vec F S128x128 .f32 :=
  View.ld s (Rect.unit (s := S1024x128) ![128 * h.val, 0] S128x128.size (rows_inb h))

/-- A head's queries, normalised and scaled. -/
def unitQ (r : FVec F S128x128 .f32) : FVec F S128x128 .f32 :=
  mulf r (broadcastTo S128x128 (mulf (rsqrt (addf (shapeCast S128x1 (multiReduction .add [1] S128 (mulf r r) 0x00000000#32 reduces_S128x128_S128 (.inl rfl) rfl) shapeCasts_S128_S128x1)
    (broadcast S128x1 (Scalar.ofBits .f32 0x358637BD#32)))) (broadcast S128x1 (Scalar.ofBits .f32 0x3DB504F3#32))) broadcasts_S128x1_S128x128)

/-- A head's keys, normalised. -/
def unitK (r : FVec F S128x128 .f32) : FVec F S128x128 .f32 :=
  mulf r (broadcastTo S128x128 (rsqrt (addf (shapeCast S128x1 (multiReduction .add [1] S128 (mulf r r) 0x00000000#32 reduces_S128x128_S128 (.inl rfl) rfl) shapeCasts_S128_S128x1)
    (broadcast S128x1 (Scalar.ofBits .f32 0x358637BD#32)))) broadcasts_S128x1_S128x128)

/-- The decay from one row to a later one of its chunk. -/
def decayOf (gc : FVec F S128x1 .f32) (gr : FVec F S1x128 .f32) : FVec F S128x128 .f32 :=
  select k0_pay11 (exp (subf (broadcastTo S128x128 gc broadcasts_S128x1_S128x128) (broadcastTo S128x128 gr broadcasts_S1x128_S128x128)))
    (broadcast S128x128 (Scalar.ofBits .f32 0x00000000#32))

/-- The queries and the keys against the keys. -/
def against (q k : FVec F S128x128 .f32) : FVec F S256x128 .f32 :=
  matmul dot_S256x128_S128x128_S256x128_1_1_0_0_n_n none
    (concatenate S256x128 0 [⟨S128x128, truncf .bf16 q bitsLt_bf16_f32⟩, ⟨S128x128, truncf .bf16 k bitsLt_bf16_f32⟩] concatenates_S128x128_S128x128_S256x128_d0)
    (truncf .bf16 k bitsLt_bf16_f32) (constant S256x128 .f32 0x00000000#32)

/-- The strictly lower matrix to invert. -/
def lowerOf (qk : FVec F S256x128 .f32) (b : FVec F S128x1 .f32) (d : FVec F S128x128 .f32) : FVec F S128x128 .f32 :=
  select k0_pay12 (mulf (mulf (broadcastTo S128x128 b broadcasts_S128x1_S128x128)
    (extractStridedSlice S128x128 ![128, 0] qk slices_S256x128_o128_0_S128x128)) d) (broadcast S128x128 (Scalar.ofBits .f32 0x00000000#32))

/-- One product of two square matrices. -/
def prod (a b : FVec F S128x128 .f32) : FVec F S128x128 .f32 :=
  matmul dot_S128x128_S128x128_S128x128_1_0_0_1_n_n none (truncf .bf16 a bitsLt_bf16_f32) (truncf .bf16 b bitsLt_bf16_f32)
    (constant S128x128 .f32 0x00000000#32)

/-- Two products by one matrix. -/
def prod2 (p t : FVec F S128x128 .f32) : FVec F S256x128 .f32 :=
  matmul dot_S256x128_S128x128_S256x128_1_0_0_1_n_n none
    (concatenate S256x128 0 [⟨S128x128, truncf .bf16 p bitsLt_bf16_f32⟩, ⟨S128x128, truncf .bf16 t bitsLt_bf16_f32⟩] concatenates_S128x128_S128x128_S256x128_d0)
    (truncf .bf16 p bitsLt_bf16_f32) (constant S256x128 .f32 0x00000000#32)

def nextP (p t : FVec F S128x128 .f32) : FVec F S128x128 .f32 :=
  extractStridedSlice S128x128 ![0, 0] (prod2 p t) slices_S256x128_o0_0_S128x128
def nextT (p t : FVec F S128x128 .f32) : FVec F S128x128 .f32 :=
  addf t (extractStridedSlice S128x128 ![128, 0] (prod2 p t) slices_S256x128_o128_0_S128x128)

def eyeOf : FVec F S128x128 .f32 := k0_pay14 k0_pay13 (Scalar.ofBits .f32 0x3F800000#32) (Scalar.ofBits .f32 0x00000000#32)
def p0 (a : FVec F S128x128 .f32) : FVec F S128x128 .f32 := subf (broadcast S128x128 (Scalar.ofBits .f32 0x00000000#32)) a
def t0 (a : FVec F S128x128 .f32) : FVec F S128x128 .f32 := addf eyeOf (p0 a)
def p1 (a : FVec F S128x128 .f32) : FVec F S128x128 .f32 := prod (p0 a) (p0 a)
def t1 (a : FVec F S128x128 .f32) : FVec F S128x128 .f32 := nextT (p1 a) (t0 a)
def p2 (a : FVec F S128x128 .f32) : FVec F S128x128 .f32 := nextP (p1 a) (t0 a)
def t2 (a : FVec F S128x128 .f32) : FVec F S128x128 .f32 := nextT (p2 a) (t1 a)
def p3 (a : FVec F S128x128 .f32) : FVec F S128x128 .f32 := nextP (p2 a) (t1 a)
def t3 (a : FVec F S128x128 .f32) : FVec F S128x128 .f32 := nextT (p3 a) (t2 a)
def p4 (a : FVec F S128x128 .f32) : FVec F S128x128 .f32 := nextP (p3 a) (t2 a)
def t4 (a : FVec F S128x128 .f32) : FVec F S128x128 .f32 := nextT (p4 a) (t3 a)
def p5 (a : FVec F S128x128 .f32) : FVec F S128x128 .f32 := nextP (p4 a) (t3 a)

/-- The inverse of one plus the strictly lower matrix. -/
def inverse (a : FVec F S128x128 .f32) : FVec F S128x128 .f32 := addf (t4 a) (prod (t4 a) (p5 a))

/-- The inverse against the values and against the decayed keys, both weighted. -/
def solved (t v k : FVec F S128x128 .f32) (b e : FVec F S128x1 .f32) : FVec F S128x256 .bf16 :=
  truncf .bf16 (matmul dot_S128x128_S128x256_S128x256_1_0_0_1_n_n none (truncf .bf16 t bitsLt_bf16_f32)
    (truncf .bf16 (concatenate S128x256 1 [⟨S128x128, mulf v (broadcastTo S128x128 b broadcasts_S128x1_S128x128)⟩,
      ⟨S128x128, mulf k (broadcastTo S128x128 (mulf b e) broadcasts_S128x1_S128x128)⟩] concatenates_S128x128_S128x128_S128x256_d1) bitsLt_bf16_f32)
    (constant S128x256 .f32 0x00000000#32)) bitsLt_bf16_f32

/-- The queries' part within the chunk. -/
def localOf (qk : FVec F S256x128 .f32) (d : FVec F S128x128 .f32) (u : FVec F S128x256 .bf16) : FVec F S128x256 .f32 :=
  matmul dot_S128x128_S128x256_S128x256_1_0_0_1_n_n none
    (truncf .bf16 (select k0_pay11 (mulf (extractStridedSlice S128x128 ![0, 0] qk slices_S256x128_o0_0_S128x128) d)
      (broadcast S128x128 (Scalar.ofBits .f32 0x00000000#32))) bitsLt_bf16_f32) u (constant S128x256 .f32 0x00000000#32)

def decayedK (k : FVec F S128x128 .f32) (e : FVec F S128x1 .f32) : FVec F S128x128 .bf16 :=
  truncf .bf16 (mulf k (broadcastTo S128x128 e broadcasts_S128x1_S128x128)) bitsLt_bf16_f32

/-- A chunk's decayed keys against what is solved for it. -/
def outer0 (kd : FVec F S128x128 .bf16) (u : FVec F S128x256 .bf16) : FVec F S128x256 .f32 :=
  matmul dot_S64x128_S64x256_S128x256_0_0_1_1_n_n none (extractStridedSlice S64x128 ![0, 0] kd slices_S128x128_o0_0_S64x128)
    (extractStridedSlice S64x256 ![0, 0] u slices_S128x256_o0_0_S64x256) (constant S128x256 .f32 0x00000000#32)
def outer1 (kd : FVec F S128x128 .bf16) (u : FVec F S128x256 .bf16) : FVec F S128x256 .f32 :=
  matmul dot_S64x128_S64x256_S128x256_0_0_1_1_n_n none (extractStridedSlice S64x128 ![64, 0] kd slices_S128x128_o64_0_S64x128)
    (extractStridedSlice S64x256 ![64, 0] u slices_S128x256_o64_0_S64x256) (constant S128x256 .f32 0x00000000#32)

/-- The queries against the state a chunk starts from. -/
def effQ (q : FVec F S128x128 .f32) (e : FVec F S128x1 .f32) (ao : FVec F S128x256 .f32) : FVec F S128x128 .bf16 :=
  truncf .bf16 (subf (mulf q (broadcastTo S128x128 e broadcasts_S128x1_S128x128)) (extractStridedSlice S128x128 ![0, 128] ao slices_S128x256_o0_128_S128x128)) bitsLt_bf16_f32

def left0 (bn : FVec F S128x256 .f32) (qe : FVec F S128x128 .bf16) : FVec F S192x128 .bf16 :=
  concatenate S192x128 0 [⟨S128x128, truncf .bf16 (extractStridedSlice S128x128 ![0, 128] bn slices_S128x256_o0_128_S128x128) bitsLt_bf16_f32⟩,
    ⟨S64x128, extractStridedSlice S64x128 ![0, 0] qe slices_S128x128_o0_0_S64x128⟩] concatenates_S128x128_S64x128_S192x128_d0
def left1 (bn : FVec F S128x256 .f32) (qe : FVec F S128x128 .bf16) : FVec F S192x128 .bf16 :=
  concatenate S192x128 0 [⟨S128x128, truncf .bf16 (extractStridedSlice S128x128 ![0, 128] bn slices_S128x256_o0_128_S128x128) bitsLt_bf16_f32⟩,
    ⟨S64x128, extractStridedSlice S64x128 ![64, 0] qe slices_S128x128_o64_0_S64x128⟩] concatenates_S128x128_S64x128_S192x128_d0

/-- A chunk's products with the state it starts from. -/
def onState (l : FVec F S192x128 .bf16) (s : FVec F S128x128 .f32) : FVec F S192x128 .f32 :=
  matmul dot_S192x128_S128x128_S192x128_1_0_0_1_n_n none l (truncf .bf16 s bitsLt_bf16_f32) (constant S192x128 .f32 0x00000000#32)

/-- The state a chunk ends with. -/
def nextS (s : FVec F S128x128 .f32) (cd : FVec F S1x1 .f32) (r : FVec F S192x128 .f32) (bn : FVec F S128x256 .f32) : FVec F S128x128 .f32 :=
  addf (subf (mulf s (broadcastTo S128x128 cd broadcasts_S1x1_S128x128)) (extractStridedSlice S128x128 ![0, 0] r slices_S192x128_o0_0_S128x128))
    (extractStridedSlice S128x128 ![0, 0] bn slices_S128x256_o0_0_S128x128)

/-- The rows a chunk gives. -/
def rows0 (r : FVec F S192x128 .f32) (ao : FVec F S128x256 .f32) : FVec F S64x128 .f32 :=
  addf (extractStridedSlice S64x128 ![128, 0] r slices_S192x128_o128_0_S64x128)
    (extractStridedSlice S64x128 ![0, 0] (extractStridedSlice S128x128 ![0, 0] ao slices_S128x256_o0_0_S128x128) slices_S128x128_o0_0_S64x128)
def rows1 (r : FVec F S192x128 .f32) (ao : FVec F S128x256 .f32) : FVec F S64x128 .f32 :=
  addf (extractStridedSlice S64x128 ![128, 0] r slices_S192x128_o128_0_S64x128)
    (extractStridedSlice S64x128 ![64, 0] (extractStridedSlice S128x128 ![0, 0] ao slices_S128x256_o0_0_S128x128) slices_S128x128_o64_0_S64x128)

/-- The closing norm. -/
def normed (o : FVec F S128x128 .f32) (w : FVec F S1x128 .f32) : FVec F S128x128 .f32 :=
  mulf (mulf o (broadcastTo S128x128 (rsqrt (addf (divf (shapeCast S128x1 (multiReduction .add [1] S128 (mulf o o) 0x00000000#32 reduces_S128x128_S128 (.inl rfl) rfl) shapeCasts_S128_S128x1)
    (broadcast S128x1 (Scalar.ofBits .f32 0x43000000#32))) (broadcast S128x1 (Scalar.ofBits .f32 0x358637BD#32)))) broadcasts_S128x1_S128x128))
    (broadcastTo S128x128 w broadcasts_S1x128_S128x128)

section
variable (y : FVec F S128x3072 .f32) (g bt : FVec F S128x128 .f32) (h : Fin 8)

def rawQ : FVec F S128x128 .f32 := extractStridedSlice S128x128 ![0, 128 * h.val] y (cut_y _ (by omega))
def rawK : FVec F S128x128 .f32 := extractStridedSlice S128x128 ![0, 1024 + 128 * h.val] y (cut_y _ (by omega))
def rawV : FVec F S128x128 .f32 := extractStridedSlice S128x128 ![0, 2048 + 128 * h.val] y (cut_y _ (by omega))
def hQ := unitQ (rawQ y h)
def hK := unitK (rawK y h)
def hB : FVec F S128x1 .f32 := extractStridedSlice S128x1 ![0, 8 + h.val] bt (cut_col _ (by omega))
def hE : FVec F S128x1 .f32 := extractStridedSlice S128x1 ![0, h.val] (k0_pay17 g k0_pay11) (cut_col _ (by omega))
def hL : FVec F S128x1 .f32 := extractStridedSlice S128x1 ![0, h.val] (k0_pay19 g k0_pay11) (cut_col _ (by omega))
def hC (r : Fin 128) : FVec F S1x1 .f32 := extractStridedSlice S1x1 ![r.val, h.val] (k0_pay20 g k0_pay11) (cut_one _ _ r.isLt (by omega))
def hD : FVec F S128x128 .f32 :=
  decayOf (extractStridedSlice S128x1 ![0, h.val] (k0_pay15 g k0_pay11) (cut_col _ (by omega)))
    (extractStridedSlice S1x128 ![h.val, 0] (k0_pay16 g k0_pay11) (cut_row _ (by omega)))
def hQK : FVec F S256x128 .f32 := against (hQ y h) (hK y h)
def hT : FVec F S128x128 .f32 := inverse (lowerOf (hQK y h) (hB bt h) (hD g h))
def hU : FVec F S128x256 .bf16 := solved (hT y g bt h) (rawV y h) (hK y h) (hB bt h) (hE g h)
def hAo : FVec F S128x256 .f32 := localOf (hQK y h) (hD g h) (hU y g bt h)
def hKd : FVec F S128x128 .bf16 := decayedK (hK y h) (hL g h)
def hO0 : FVec F S128x256 .f32 := outer0 (hKd y g h) (hU y g bt h)
def hO1 : FVec F S128x256 .f32 := outer1 (hKd y g h) (hU y g bt h)
def hQe : FVec F S128x128 .bf16 := effQ (hQ y h) (hE g h) (hAo y g bt h)

variable (s : FVec F S1024x128 .f32)
def hR0 : FVec F S192x128 .f32 := onState (left0 (hO0 y g bt h) (hQe y g bt h)) (stateRows h s)
def hS1 : FVec F S128x128 .f32 := nextS (stateRows h s) (hC g h 0) (hR0 y g bt h s) (hO0 y g bt h)
def hR1 : FVec F S192x128 .f32 := onState (left1 (hO1 y g bt h) (hQe y g bt h)) (hS1 y g bt h s)
def hS2 : FVec F S128x128 .f32 := nextS (hS1 y g bt h s) (hC g h 64) (hR1 y g bt h s) (hO1 y g bt h)
def hO : FVec F S128x128 .f32 :=
  concatenate S128x128 0 [⟨S64x128, rows0 (hR0 y g bt h s) (hAo y g bt h)⟩, ⟨S64x128, rows1 (hR1 y g bt h s) (hAo y g bt h)⟩] concatenates_S64x128_S64x128_S128x128_d0

/-- The state after the point. -/
def stateNext : FVec F S1024x128 .f32 :=
  shapeCast S1024x128 (concatenate S1024x128 0 [⟨S128x128, hS2 y g bt 0 s⟩, ⟨S128x128, hS2 y g bt 1 s⟩, ⟨S128x128, hS2 y g bt 2 s⟩, ⟨S128x128, hS2 y g bt 3 s⟩,
    ⟨S128x128, hS2 y g bt 4 s⟩, ⟨S128x128, hS2 y g bt 5 s⟩, ⟨S128x128, hS2 y g bt 6 s⟩, ⟨S128x128, hS2 y g bt 7 s⟩]
    concatenates_S128x128_S128x128_S128x128_S128x128_S128x128_S128x128_S128x128_S128x128_S1024x128_d0) shapeCasts_S1024x128_S1024x128

/-- The gate over a block of rows. -/
def gate (z : FVec F S128x1024 .bf16) : FVec F S128x1024 .f32 :=
  mulf (extf .f32 z bitsLt_bf16_f32) (divf (broadcast S128x1024 (Scalar.ofBits .f32 0x3F800000#32))
    (addf (broadcast S128x1024 (Scalar.ofBits .f32 0x3F800000#32)) (exp (subf (broadcast S128x1024 (Scalar.ofBits .f32 0x00000000#32)) (extf .f32 z bitsLt_bf16_f32)))))

/-- The block the point writes. -/
def blockOut (w : FVec F S1x128 .f32) (z : FVec F S128x1024 .bf16) : FVec F S128x1024 .bf16 :=
  truncf .bf16 (mulf (concatenate S128x1024 1 [⟨S128x128, normed (hO y g bt 0 s) (shapeCast S1x128 w shapeCasts_S1x128_S1x128)⟩, ⟨S128x128, normed (hO y g bt 1 s) (shapeCast S1x128 w shapeCasts_S1x128_S1x128)⟩, ⟨S128x128, normed (hO y g bt 2 s) (shapeCast S1x128 w shapeCasts_S1x128_S1x128)⟩,
    ⟨S128x128, normed (hO y g bt 3 s) (shapeCast S1x128 w shapeCasts_S1x128_S1x128)⟩, ⟨S128x128, normed (hO y g bt 4 s) (shapeCast S1x128 w shapeCasts_S1x128_S1x128)⟩, ⟨S128x128, normed (hO y g bt 5 s) (shapeCast S1x128 w shapeCasts_S1x128_S1x128)⟩, ⟨S128x128, normed (hO y g bt 6 s) (shapeCast S1x128 w shapeCasts_S1x128_S1x128)⟩, ⟨S128x128, normed (hO y g bt 7 s) (shapeCast S1x128 w shapeCasts_S1x128_S1x128)⟩]
    concatenates_S128x128_S128x128_S128x128_S128x128_S128x128_S128x128_S128x128_S128x128_S128x1024_d1) (gate (shapeCast S128x1024 z shapeCasts_S128x1024_S128x1024))) bitsLt_bf16_f32
end

section
variable (c : Dev nD) (i : grid0.Coords) (arg1 : Memref sig .tc .vmem S128x3072 .bf16) (harg1 : arg1.IsWhole) (arg2 : Memref sig .tc .vmem S128x1024 .bf16) (harg2 : arg2.IsWhole) (arg3 : Memref sig .tc .vmem S128x128 .f32) (harg3 : arg3.IsWhole) (arg4 : Memref sig .tc .vmem S4x3072 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x1024 .bf16) (harg8 : arg8.IsWhole) (arg9 : Memref sig .tc .vmem S8x3072 .f32) (harg9 : arg9.IsWhole) (arg10 : Memref sig .tc .vmem S1024x128 .f32) (harg10 : arg10.IsWhole)
  (x0 : Vec F S128x3072 .bf16) (x1 : Vec F S128x1024 .bf16) (x2 : Vec F S128x128 .f32) (x3 : Vec F S4x3072 .f32) (x4 : Vec F S1x128 .f32) (x5 : Vec F S1x128 .f32) (x6 : Vec F S1x128 .f32)

theorem congr8 {a0 a1 a2 a3 a4 a5 a6 a7 b0 b1 b2 b3 b4 b5 b6 b7 : FVec F S128x128 .f32} (h0 : a0 = b0) (h1 : a1 = b1) (h2 : a2 = b2) (h3 : a3 = b3)
    (h4 : a4 = b4) (h5 : a5 = b5) (h6 : a6 = b6) (h7 : a7 = b7) :
    k0_pay1 a0 a1 a2 a3 a4 a5 a6 a7 = k0_pay1 b0 b1 b2 b3 b4 b5 b6 b7 := by
  rw [h0, h1, h2, h3, h4, h5, h6, h7]

/-- A later point continues from the carried state. -/
theorem state_later (hc0 : ¬cond0_0 i) (xs0 : Vec F S8x3072 .f32) (xs1 : Vec F S1024x128 .f32) :
    sout0_B_1 c i arg1 harg1 arg2 harg2 arg3 harg3 arg4 harg4 arg5 harg5 arg6 harg6 arg7 harg7 arg8 harg8 arg9 harg9 arg10 harg10 hc0 x0 x1 x2 x3 x4 x5 x6 xs0 xs1
      = stateNext (k0_pay6 x0 xs0 x3) (k0_pay8 x2 x4 x5) (k0_pay9 x2) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 x0 x1 x2 x3 x4 x5 x6 xs0 xs1)]
  unfold kernelRun0_B
  dsimp only
  sl_unfold_words
  rw [View.canon_cons_unit_zero off0]
  simp only [View.readAt_eq_ld, harg1.read_unread, harg2.read_unread, harg3.read_unread, harg4.read_unread, harg5.read_unread, harg6.read_unread, harg7.read_unread, harg9.read_unread, harg10.read_unread,
    View.ld_unit_zero (S := S128x3072) off0, View.ld_unit_zero (S := S128x1024) off0, View.ld_unit_zero (S := S128x128) off0, View.ld_unit_zero (S := S4x3072) off0, View.ld_unit_zero (S := S1x128) off0, View.ld_unit_zero (S := S8x3072) off0]
  exact congr8 rfl rfl rfl rfl rfl rfl rfl rfl

theorem out_later (hc0 : ¬cond0_0 i) (xs0 : Vec F S8x3072 .f32) (xs1 : Vec F S1024x128 .f32) :
    out0_B_7 c i arg1 harg1 arg2 harg2 arg3 harg3 arg4 harg4 arg5 harg5 arg6 harg6 arg7 harg7 arg8 harg8 arg9 harg9 arg10 harg10 hc0 x0 x1 x2 x3 x4 x5 x6 xs0 xs1
      = blockOut (k0_pay6 x0 xs0 x3) (k0_pay8 x2 x4 x5) (k0_pay9 x2) xs1 x6 x1 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 xs0 xs1)]
  unfold kernelRun0_B
  dsimp only
  sl_unfold_words
  rw [View.canon_cons_unit_zero off0]
  simp only [View.readAt_eq_ld, harg1.read_unread, harg2.read_unread, harg3.read_unread, harg4.read_unread, harg5.read_unread, harg6.read_unread, harg7.read_unread, harg9.read_unread, harg10.read_unread,
    View.ld_unit_zero (S := S128x3072) off0, View.ld_unit_zero (S := S128x1024) off0, View.ld_unit_zero (S := S128x128) off0, View.ld_unit_zero (S := S4x3072) off0, View.ld_unit_zero (S := S1x128) off0, View.ld_unit_zero (S := S8x3072) off0]
  rfl

theorem tail_later (hc0 : ¬cond0_0 i) (xs0 : Vec F S8x3072 .f32) (xs1 : Vec F S1024x128 .f32) :
    sout0_B_0 c i arg1 harg1 arg2 harg2 arg3 harg3 arg4 harg4 arg5 harg5 arg6 harg6 arg7 harg7 arg8 harg8 arg9 harg9 arg10 harg10 hc0 x0 x1 x2 x3 x4 x5 x6 xs0 xs1
      = k0_pay5 x0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 x0 x1 x2 x3 x4 x5 x6 xs0 xs1)]
  unfold kernelRun0_B
  dsimp only
  sl_unfold_words
  rw [View.canon_cons_unit_zero off0]
  simp only [View.readAt_eq_ld, harg1.read_unread, harg2.read_unread, harg3.read_unread, harg4.read_unread, harg5.read_unread, harg6.read_unread, harg7.read_unread, harg9.read_unread, harg10.read_unread,
    View.ld_unit_zero (S := S128x3072) off0, View.ld_unit_zero (S := S128x1024) off0, View.ld_unit_zero (S := S128x128) off0, View.ld_unit_zero (S := S4x3072) off0, View.ld_unit_zero (S := S1x128) off0, View.ld_unit_zero (S := S8x3072) off0]
  try rfl

theorem state_first (hc0 : cond0_0 i) :
    sout0_A_1 c i arg1 harg1 arg2 harg2 arg3 harg3 arg4 harg4 arg5 harg5 arg6 harg6 arg7 harg7 arg8 harg8 arg9 harg9 arg10 harg10 hc0 x0 x1 x2 x3 x4 x5 x6
      = stateNext (k0_pay6 x0 k0_pay2 x3) (k0_pay8 x2 x4 x5) (k0_pay9 x2) k0_pay3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero off0]
  simp only [View.readAt_eq_ld, harg1.read_unread, harg2.read_unread, harg3.read_unread, harg4.read_unread, harg5.read_unread, harg6.read_unread, harg7.read_unread, harg9.read_unread, harg10.read_unread,
    View.ld_unit_zero (S := S128x3072) off0, View.ld_unit_zero (S := S128x1024) off0, View.ld_unit_zero (S := S128x128) off0, View.ld_unit_zero (S := S4x3072) off0, View.ld_unit_zero (S := S1x128) off0, View.ld_unit_zero (S := S8x3072) off0,
    View.readCov_fill (s := S8x3072) _ _ _ _ _ (congrFun off0), View.readCov_fill (s := S1024x128) _ _ _ _ _ (congrFun off0)]
  exact congr8 rfl rfl rfl rfl rfl rfl rfl rfl

theorem out_first (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5 x6
      = blockOut (k0_pay6 x0 k0_pay2 x3) (k0_pay8 x2 x4 x5) (k0_pay9 x2) k0_pay3 x6 x1 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero off0]
  simp only [View.readAt_eq_ld, harg1.read_unread, harg2.read_unread, harg3.read_unread, harg4.read_unread, harg5.read_unread, harg6.read_unread, harg7.read_unread, harg9.read_unread, harg10.read_unread,
    View.ld_unit_zero (S := S128x3072) off0, View.ld_unit_zero (S := S128x1024) off0, View.ld_unit_zero (S := S128x128) off0, View.ld_unit_zero (S := S4x3072) off0, View.ld_unit_zero (S := S1x128) off0, View.ld_unit_zero (S := S8x3072) off0,
    View.readCov_fill (s := S8x3072) _ _ _ _ _ (congrFun off0), View.readCov_fill (s := S1024x128) _ _ _ _ _ (congrFun off0)]
  rfl

theorem tail_first (hc0 : cond0_0 i) :
    sout0_A_0 c i arg1 harg1 arg2 harg2 arg3 harg3 arg4 harg4 arg5 harg5 arg6 harg6 arg7 harg7 arg8 harg8 arg9 harg9 arg10 harg10 hc0 x0 x1 x2 x3 x4 x5 x6
      = k0_pay5 x0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero off0]
  simp only [View.readAt_eq_ld, harg1.read_unread, harg2.read_unread, harg3.read_unread, harg4.read_unread, harg5.read_unread, harg6.read_unread, harg7.read_unread, harg9.read_unread, harg10.read_unread,
    View.ld_unit_zero (S := S128x3072) off0, View.ld_unit_zero (S := S128x1024) off0, View.ld_unit_zero (S := S128x128) off0, View.ld_unit_zero (S := S4x3072) off0, View.ld_unit_zero (S := S1x128) off0, View.ld_unit_zero (S := S8x3072) off0,
    View.readCov_fill (s := S8x3072) _ _ _ _ _ (congrFun off0), View.readCov_fill (s := S1024x128) _ _ _ _ _ (congrFun off0)]
  try rfl
end

end Cert.Kernel7Ideal.Gdn

end
-- ==== Proof.Gdn.Math.lean ====
/- The gated delta rule over the reals: the token by token recurrence, a chunk of it in closed form, and the inverse of
   one plus a strictly lower matrix by repeated squaring. -/
module

public import Mathlib.Analysis.SpecialFunctions.Exp
public import Mathlib.Data.Matrix.Mul
public import Mathlib.Tactic.Ring
public import Mathlib.Tactic.NoncommRing
public import Mathlib.Tactic.FinCases
public import Mathlib.Tactic.Linarith

@[expose] public section

noncomputable section

namespace GdnMath

open Finset

/-! ## The inverse -/

abbrev Sq := Matrix (Fin 128) (Fin 128) ℝ

def invStep (t p : Sq) : Sq := t + t * p

/-- The product of `1 + p`, `1 + p²`, …, `1 + p³²`. -/
def invOf (p : Sq) : Sq :=
  invStep (invStep (invStep (invStep (invStep (1 + p) (p * p)) ((p * p) * (p * p)))
    (((p * p) * (p * p)) * ((p * p) * (p * p))))
    ((((p * p) * (p * p)) * ((p * p) * (p * p))) * (((p * p) * (p * p)) * ((p * p) * (p * p)))))
    (((((p * p) * (p * p)) * ((p * p) * (p * p))) * (((p * p) * (p * p)) * ((p * p) * (p * p))))
      * ((((p * p) * (p * p)) * ((p * p) * (p * p))) * (((p * p) * (p * p)) * ((p * p) * (p * p)))))

theorem step_inv {x t p : Sq} (h : x * t = 1 - p) : x * invStep t p = 1 - p * p := by
  unfold invStep
  rw [mul_add, ← mul_assoc, h]
  noncomm_ring

theorem invOf_spec (p : Sq) (h : p ^ 64 = 0) : (1 - p) * invOf p = 1 := by
  have h0 : (1 - p) * (1 + p) = 1 - p * p := by noncomm_ring
  have h5 := step_inv (step_inv (step_inv (step_inv (step_inv h0))))
  unfold invOf
  rw [h5]
  simp only [← pow_two, ← pow_mul]
  norm_num [h]

/-- Entries only strictly below the diagonal of a block of 64. -/
def Lower (p : Sq) : Prop := ∀ i j : Fin 128, p i j ≠ 0 → i.val / 64 = j.val / 64 ∧ j.val < i.val

theorem lower_pow {p : Sq} (h : Lower p) : ∀ (n : ℕ) (i j : Fin 128), (p ^ n) i j ≠ 0 → i.val / 64 = j.val / 64 ∧ j.val + n ≤ i.val := by
  intro n
  induction n with
  | zero =>
    intro i j hij
    rw [pow_zero, Matrix.one_apply] at hij
    split at hij
    · next e => rw [e]; exact ⟨rfl, le_refl _⟩
    · exact absurd rfl hij
  | succ n ih =>
    intro i j hij
    rw [pow_succ, Matrix.mul_apply] at hij
    obtain ⟨l, -, hl⟩ := Finset.exists_ne_zero_of_sum_ne_zero hij
    have h1 := ih i l (left_ne_zero_of_mul hl)
    have h2 := h l j (right_ne_zero_of_mul hl)
    exact ⟨h1.1.trans h2.1, by omega⟩

theorem lower_nilpotent {p : Sq} (h : Lower p) : p ^ 64 = 0 := by
  ext i j
  by_contra hij
  have := lower_pow h 64 i j hij
  have hi := i.isLt
  omega

/-! ## The recurrence -/

section
variable (k q : ℕ → Fin 128 → ℝ) (b g v : ℕ → ℝ)

/-- The state's column before token `t`. -/
def st : ℕ → Fin 128 → ℝ
  | 0 => fun _ => 0
  | t + 1 => fun d => Real.exp (g t) * st t d + k t d * (b t * (v t - ∑ e, Real.exp (g t) * st t e * k t e))

/-- The output's entry at token `t`. -/
def out (t : ℕ) : ℝ := ∑ d, st k b g v (t + 1) d * q t d

/-- The log decays of `i` tokens from `a`. -/
def cum (a i : ℕ) : ℝ := ∑ l ∈ range i, g (a + l)

theorem cum_succ (a i : ℕ) : cum g a (i + 1) = cum g a i + g (a + i) := by
  unfold cum
  rw [sum_range_succ]

variable (a : ℕ) (w : ℕ → ℝ)

/-- What the pseudo values of a chunk satisfy. -/
def Solves : Prop := ∀ i < 64, w i = b (a + i) * v (a + i) - b (a + i) * Real.exp (cum g a (i + 1)) * ∑ d, k (a + i) d * st k b g v a d
  - ∑ j ∈ range i, b (a + i) * (∑ d, k (a + i) d * k (a + j) d) * Real.exp (cum g a (i + 1) - cum g a (j + 1)) * w j

variable {w}

theorem chunk (hw : Solves k b g v a w) : ∀ i ≤ 64, ∀ d, st k b g v (a + i) d
    = Real.exp (cum g a i) * st k b g v a d + ∑ j ∈ range i, Real.exp (cum g a i - cum g a (j + 1)) * k (a + j) d * w j := by
  intro i
  induction i with
  | zero => intro _ d; simp [cum]
  | succ i ih =>
    intro hi d
    have ih' := ih (by omega)
    have hd : ∀ e, Real.exp (g (a + i)) * st k b g v (a + i) e
        = Real.exp (cum g a (i + 1)) * st k b g v a e + ∑ j ∈ range i, Real.exp (cum g a (i + 1) - cum g a (j + 1)) * k (a + j) e * w j := by
      intro e
      rw [ih' e, mul_add, mul_sum, ← mul_assoc, ← Real.exp_add, cum_succ g a i, add_comm (g (a + i))]
      congr 1
      refine sum_congr rfl fun j _ => ?_
      rw [← mul_assoc, ← mul_assoc, ← Real.exp_add]
      congr 3
      ring
    have hv : b (a + i) * (v (a + i) - ∑ e, Real.exp (g (a + i)) * st k b g v (a + i) e * k (a + i) e) = w i := by
      rw [hw i (by omega)]
      have : ∑ e, Real.exp (g (a + i)) * st k b g v (a + i) e * k (a + i) e
          = Real.exp (cum g a (i + 1)) * (∑ d, k (a + i) d * st k b g v a d)
            + ∑ j ∈ range i, (∑ d, k (a + i) d * k (a + j) d) * Real.exp (cum g a (i + 1) - cum g a (j + 1)) * w j := by
        simp only [hd, add_mul, sum_add_distrib, mul_sum, sum_mul]
        rw [sum_comm (s := univ) (t := range i)]
        congr 1
        · exact sum_congr rfl fun e _ => by ring
        · exact sum_congr rfl fun j _ => sum_congr rfl fun e _ => by ring
      rw [this, mul_sub, mul_add]
      have e2 : b (a + i) * ∑ j ∈ range i, (∑ d, k (a + i) d * k (a + j) d) * Real.exp (cum g a (i + 1) - cum g a (j + 1)) * w j
          = ∑ j ∈ range i, b (a + i) * (∑ d, k (a + i) d * k (a + j) d) * Real.exp (cum g a (i + 1) - cum g a (j + 1)) * w j := by
        rw [mul_sum]; exact sum_congr rfl fun j _ => by ring
      rw [e2]
      ring
    have hs : st k b g v (a + (i + 1)) d = Real.exp (g (a + i)) * st k b g v (a + i) d
        + k (a + i) d * (b (a + i) * (v (a + i) - ∑ e, Real.exp (g (a + i)) * st k b g v (a + i) e * k (a + i) e)) := rfl
    rw [hs, hv, hd, sum_range_succ, sub_self, Real.exp_zero]
    ring

theorem chunk_out (hw : Solves k b g v a w) (i : ℕ) (hi : i < 64) : out k q b g v (a + i)
    = Real.exp (cum g a (i + 1)) * (∑ d, q (a + i) d * st k b g v a d)
      + ∑ j ∈ range (i + 1), (∑ d, q (a + i) d * k (a + j) d) * Real.exp (cum g a (i + 1) - cum g a (j + 1)) * w j := by
  unfold out
  have h := chunk k b g v a hw (i + 1) (by omega)
  rw [add_assoc]
  simp only [h, add_mul, sum_add_distrib, mul_sum, sum_mul]
  rw [sum_comm (s := univ) (t := range (i + 1))]
  congr 1
  · exact sum_congr rfl fun e _ => by ring
  · exact sum_congr rfl fun j _ => sum_congr rfl fun e _ => by ring
end

/-! ## A block of two chunks -/

/-- A later or the same row of the same chunk. -/
def Causal (i j : Fin 128) : Prop := (64 ≤ i.val ↔ 64 ≤ j.val) ∧ j.val ≤ i.val
def Strict (i j : Fin 128) : Prop := (64 ≤ i.val ↔ 64 ≤ j.val) ∧ j.val < i.val
instance (i j : Fin 128) : Decidable (Causal i j) := by unfold Causal; infer_instance
instance (i j : Fin 128) : Decidable (Strict i j) := by unfold Strict; infer_instance

theorem sum_part (f : ℕ → ℝ) (c : Fin 2) (r : ℕ) (hr : r ≤ 64) :
    ∑ j : Fin 128, (if 64 * c.val ≤ j.val ∧ j.val < 64 * c.val + r then f j.val else 0) = ∑ l ∈ range r, f (64 * c.val + l) := by
  rw [Fin.sum_univ_eq_sum_range (fun n => if 64 * c.val ≤ n ∧ n < 64 * c.val + r then f n else 0) 128, ← sum_filter]
  have : (range 128).filter (fun n => 64 * c.val ≤ n ∧ n < 64 * c.val + r) = Ico (64 * c.val) (64 * c.val + r) := by
    ext n
    have := c.isLt
    simp only [mem_filter, mem_range, mem_Ico]
    omega
  rw [this, sum_Ico_eq_sum_range]
  congr 2
  omega

theorem sum_causal (f : ℕ → ℝ) (c : Fin 2) (r : Fin 64) (i : Fin 128) (hi : i.val = 64 * c.val + r.val) :
    ∑ j : Fin 128, (if Causal i j then f j.val else 0) = ∑ l ∈ range (r.val + 1), f (64 * c.val + l) := by
  rw [← sum_part f c (r.val + 1) (by omega)]
  refine sum_congr rfl fun j _ => if_congr ?_ rfl rfl
  unfold Causal
  have := c.isLt
  have := j.isLt
  have := r.isLt
  omega

theorem sum_strict (f : ℕ → ℝ) (c : Fin 2) (r : Fin 64) (i : Fin 128) (hi : i.val = 64 * c.val + r.val) :
    ∑ j : Fin 128, (if Strict i j then f j.val else 0) = ∑ l ∈ range r.val, f (64 * c.val + l) := by
  rw [← sum_part f c r.val (by omega)]
  refine sum_congr rfl fun j _ => if_congr ?_ rfl rfl
  unfold Strict
  have := c.isLt
  have := j.isLt
  have := r.isLt
  omega

section
variable (k q : ℕ → Fin 128 → ℝ) (b g v : ℕ → ℝ) (a : ℕ)

/-- The running log decay of a row. -/
def run (i : Fin 128) : ℝ := ∑ j : Fin 128, (if Causal i j then 1 else 0) * g (a + j.val)

def low : Sq := fun i j => if Strict i j then b (a + i.val) * (∑ d, k (a + i.val) d * k (a + j.val) d) * Real.exp (run g a i - run g a j) else 0
def inv : Sq := invOf (-low k b g a)
def solU (i : Fin 128) : ℝ := ∑ j, inv k b g a i j * (v (a + j.val) * b (a + j.val))
def solW (i d : Fin 128) : ℝ := ∑ j, inv k b g a i j * (k (a + j.val) d * (b (a + j.val) * Real.exp (run g a j)))
def loc (i j : Fin 128) : ℝ := if Causal i j then (∑ d, q (a + i.val) d * k (a + j.val) d) * Real.exp (run g a i - run g a j) else 0
def locU (i : Fin 128) : ℝ := ∑ j, loc k q g a i j * solU k b g v a j
def locW (i d : Fin 128) : ℝ := ∑ j, loc k q g a i j * solW k b g a j d
def last (i : Fin 128) : ℝ := if i.val < 64 then run g a 63 else run g a 127
def keyD (i d : Fin 128) : ℝ := k (a + i.val) d * Real.exp (last g a i - run g a i)
def row (c : Fin 2) (r : Fin 64) : Fin 128 := ⟨64 * c.val + r.val, by omega⟩
def outU (c : Fin 2) (d : Fin 128) : ℝ := ∑ r, keyD k g a (row c r) d * solU k b g v a (row c r)
def outW (c : Fin 2) (d e : Fin 128) : ℝ := ∑ r, keyD k g a (row c r) d * solW k b g a (row c r) e
def qEff (i d : Fin 128) : ℝ := q (a + i.val) d * Real.exp (run g a i) - locW k q b g a i d

theorem run_eq (c : Fin 2) (r : Fin 64) : run g a (row c r) = cum g (a + 64 * c.val) (r.val + 1) := by
  unfold run cum
  simp only [ite_mul, one_mul, zero_mul]
  rw [sum_causal (fun n => g (a + n)) c r (row c r) rfl]
  exact sum_congr rfl fun l _ => by rw [add_assoc]

theorem low_lower : Lower (-low k b g a) := by
  intro i j hij
  have h : Strict i j := by
    by_contra h
    exact hij (by show -(low k b g a i j) = 0; unfold low; rw [if_neg h, neg_zero])
  unfold Strict at h
  have := i.isLt
  have := j.isLt
  omega

theorem inv_spec : (1 + low k b g a) * inv k b g a = 1 := by
  have := invOf_spec (-low k b g a) (lower_nilpotent (low_lower k b g a))
  rwa [sub_neg_eq_add] at this

theorem inv_apply (x : Fin 128 → ℝ) (i : Fin 128) :
    (∑ j, inv k b g a i j * x j) + ∑ l, low k b g a i l * (∑ j, inv k b g a l j * x j) = x i := by
  have h : (inv k b g a).mulVec x + (low k b g a).mulVec ((inv k b g a).mulVec x) = x := by
    have e : (1 + low k b g a).mulVec ((inv k b g a).mulVec x) = x := by
      rw [Matrix.mulVec_mulVec, inv_spec, Matrix.one_mulVec]
    rwa [Matrix.add_mulVec, Matrix.one_mulVec] at e
  exact congrFun h i

variable (c : Fin 2)

/-- The pseudo values of a chunk of the block. -/
def pseudo (i : ℕ) : ℝ := if h : i < 64 then solU k b g v a (row c ⟨i, h⟩)
  - ∑ d, solW k b g a (row c ⟨i, h⟩) d * st k b g v (a + 64 * c.val) d else 0

def pseudoRow (i : Fin 128) : ℝ := solU k b g v a i - ∑ d, solW k b g a i d * st k b g v (a + 64 * c.val) d

theorem pseudoRow_eq (i : Fin 128) : pseudoRow k b g v a c i + ∑ j, low k b g a i j * pseudoRow k b g v a c j
    = v (a + i.val) * b (a + i.val) - b (a + i.val) * Real.exp (run g a i) * ∑ d, k (a + i.val) d * st k b g v (a + 64 * c.val) d := by
  have h1 := inv_apply k b g a (fun j => v (a + j.val) * b (a + j.val)) i
  have h2 := fun d => inv_apply k b g a (fun j => k (a + j.val) d * (b (a + j.val) * Real.exp (run g a j))) i
  have e1 : solU k b g v a i + ∑ j, low k b g a i j * solU k b g v a j = v (a + i.val) * b (a + i.val) := h1
  have e2 : ∀ d, solW k b g a i d + ∑ j, low k b g a i j * solW k b g a j d = k (a + i.val) d * (b (a + i.val) * Real.exp (run g a i)) := h2
  unfold pseudoRow
  have e3 : ∑ j, low k b g a i j * (solU k b g v a j - ∑ d, solW k b g a j d * st k b g v (a + 64 * c.val) d)
      = (∑ j, low k b g a i j * solU k b g v a j) - ∑ d, (∑ j, low k b g a i j * solW k b g a j d) * st k b g v (a + 64 * c.val) d := by
    simp only [mul_sub, sum_sub_distrib, mul_sum, sum_mul]
    rw [sum_comm (s := univ) (t := univ)]
    congr 1
    exact sum_congr rfl fun j _ => sum_congr rfl fun d _ => by ring
  have e4 : ∑ d, (∑ j, low k b g a i j * solW k b g a j d) * st k b g v (a + 64 * c.val) d
      = ∑ d, (k (a + i.val) d * (b (a + i.val) * Real.exp (run g a i)) - solW k b g a i d) * st k b g v (a + 64 * c.val) d :=
    sum_congr rfl fun d _ => by rw [← e2 d]; ring
  rw [e3, e4]
  simp only [sub_mul, sum_sub_distrib]
  have e5 : ∑ d, k (a + i.val) d * (b (a + i.val) * Real.exp (run g a i)) * st k b g v (a + 64 * c.val) d
      = b (a + i.val) * Real.exp (run g a i) * ∑ d, k (a + i.val) d * st k b g v (a + 64 * c.val) d := by
    rw [mul_sum]; exact sum_congr rfl fun d _ => by ring
  rw [e5, ← e1]
  ring

theorem pseudo_row (r : Fin 64) : pseudo k b g v a c r.val = pseudoRow k b g v a c (row c r) := by
  unfold pseudo pseudoRow
  rw [dif_pos r.isLt]

/-- The chunk's rows as a function of the row number. -/
def atRow (f : Fin 128 → ℝ) (n : ℕ) : ℝ := if h : n < 128 then f ⟨n, h⟩ else 0
theorem atRow_val (f : Fin 128 → ℝ) (j : Fin 128) : atRow f j.val = f j := by
  unfold atRow; rw [dif_pos j.isLt]
theorem atRow_row (f : Fin 128 → ℝ) (c : Fin 2) (l : ℕ) (hl : l < 64) : atRow f (64 * c.val + l) = f (row c ⟨l, hl⟩) := atRow_val f (row c ⟨l, hl⟩)

theorem solves : Solves k b g v (a + 64 * c.val) (pseudo k b g v a c) := by
  intro i hi
  have h := pseudoRow_eq k b g v a c (row c ⟨i, hi⟩)
  have hp := pseudo_row k b g v a c ⟨i, hi⟩
  have hv : (row c ⟨i, hi⟩).val = 64 * c.val + i := rfl
  have hs : ∑ j, low k b g a (row c ⟨i, hi⟩) j * pseudoRow k b g v a c j
      = ∑ j ∈ range i, b (a + 64 * c.val + i) * (∑ d, k (a + 64 * c.val + i) d * k (a + 64 * c.val + j) d)
        * Real.exp (cum g (a + 64 * c.val) (i + 1) - cum g (a + 64 * c.val) (j + 1)) * pseudo k b g v a c j := by
    have := sum_strict (fun n => b (a + (64 * c.val + i)) * (∑ d, k (a + (64 * c.val + i)) d * k (a + n) d)
        * Real.exp (run g a (row c ⟨i, hi⟩) - atRow (run g a) n) * atRow (pseudoRow k b g v a c) n) c ⟨i, hi⟩ (row c ⟨i, hi⟩) rfl
    refine Eq.trans ?_ (this.trans ?_)
    · refine sum_congr rfl fun j _ => ?_
      unfold low
      rw [atRow_val, atRow_val, hv, ite_mul, zero_mul]
    · refine sum_congr rfl fun j hj => ?_
      have hj' : j < 64 := by have := mem_range.mp hj; show j < 64; omega
      rw [atRow_row _ c j hj', atRow_row _ c j hj', run_eq, run_eq, ← pseudo_row k b g v a c ⟨j, hj'⟩]
      simp only [add_assoc]
  have hp' : pseudo k b g v a c i = pseudoRow k b g v a c (row c ⟨i, hi⟩) := hp
  rw [hs, run_eq, hv] at h
  rw [hp', eq_sub_iff_add_eq, h, add_assoc, mul_comm (v _)]

/-- The output rows of a chunk of the block. -/
theorem block_out (r : Fin 64) : (∑ d, qEff k q b g a (row c r) d * st k b g v (a + 64 * c.val) d) + locU k q b g v a (row c r)
    = out k q b g v (a + (row c r).val) := by
  have hv : (row c r).val = 64 * c.val + r.val := rfl
  have h := chunk_out k q b g v (a + 64 * c.val) (solves k b g v a c) r.val r.isLt
  rw [hv, ← add_assoc, h]
  have hs : ∑ j ∈ range (r.val + 1), (∑ d, q (a + 64 * c.val + r.val) d * k (a + 64 * c.val + j) d)
        * Real.exp (cum g (a + 64 * c.val) (r.val + 1) - cum g (a + 64 * c.val) (j + 1)) * pseudo k b g v a c j
      = ∑ j, loc k q g a (row c r) j * pseudoRow k b g v a c j := by
    have := sum_causal (fun n => (∑ d, q (a + (64 * c.val + r.val)) d * k (a + n) d)
        * Real.exp (run g a (row c r) - atRow (run g a) n) * atRow (pseudoRow k b g v a c) n) c r (row c r) rfl
    refine Eq.trans ?_ (this.symm.trans ?_)
    · refine sum_congr rfl fun j hj => ?_
      have hj' : j < 64 := by have := mem_range.mp hj; have := r.isLt; omega
      rw [atRow_row _ c j hj', atRow_row _ c j hj', run_eq, run_eq, ← pseudo_row k b g v a c ⟨j, hj'⟩]
      simp only [add_assoc]
    · refine sum_congr rfl fun j _ => ?_
      unfold loc
      rw [atRow_val, atRow_val, hv, ite_mul, zero_mul]
  rw [hs, ← run_eq]
  unfold qEff locU locW pseudoRow
  simp only [mul_sub, sub_mul, sum_sub_distrib, mul_sum, sum_mul]
  rw [sum_comm (s := univ) (t := univ) (f := fun j d => loc k q g a (row c r) j * (solW k b g a j d * st k b g v (a + 64 * c.val) d)), hv]
  simp only [add_assoc, mul_assoc]
  have e : ∀ d : Fin 128, q (a + (64 * c.val + r.val)) d * (Real.exp (run g a (row c r)) * st k b g v (a + 64 * c.val) d)
      = Real.exp (run g a (row c r)) * (q (a + (64 * c.val + r.val)) d * st k b g v (a + 64 * c.val) d) := fun d => by ring
  simp only [e]
  ring

theorem last_row (r : Fin 64) : last g a (row c r) = cum g (a + 64 * c.val) 64 := by
  have h63 := run_eq g a c 63
  unfold last
  fin_cases c
  · rw [if_pos (by show 64 * 0 + r.val < 64; have := r.isLt; omega)]; exact h63
  · rw [if_neg (by show ¬(64 * 1 + r.val < 64); omega)]; exact h63

/-- The state a chunk of the block ends with. -/
theorem block_state (d : Fin 128) :
    st k b g v (a + 64 * c.val) d * Real.exp (last g a (row c 0)) - (∑ e, outW k b g a c d e * st k b g v (a + 64 * c.val) e) + outU k b g v a c d
      = st k b g v (a + 64 * (c.val + 1)) d := by
  have h := chunk k b g v (a + 64 * c.val) (solves k b g v a c) 64 (le_refl _) d
  have hs : ∑ j ∈ range 64, Real.exp (cum g (a + 64 * c.val) 64 - cum g (a + 64 * c.val) (j + 1)) * k (a + 64 * c.val + j) d * pseudo k b g v a c j
      = ∑ r, keyD k g a (row c r) d * pseudoRow k b g v a c (row c r) := by
    rw [← Fin.sum_univ_eq_sum_range (fun j => Real.exp (cum g (a + 64 * c.val) 64 - cum g (a + 64 * c.val) (j + 1)) * k (a + 64 * c.val + j) d * pseudo k b g v a c j) 64]
    refine sum_congr rfl fun r _ => ?_
    unfold keyD
    rw [last_row, run_eq, pseudo_row, show (row c r).val = 64 * c.val + r.val from rfl, ← add_assoc]
    ring
  rw [show a + 64 * (c.val + 1) = a + 64 * c.val + 64 by ring, h, hs, last_row]
  unfold outW outU pseudoRow
  simp only [mul_sub, sum_sub_distrib, mul_sum, sum_mul]
  rw [sum_comm (s := univ) (t := univ) (f := fun r e => keyD k g a (row c r) d * (solW k b g a (row c r) e * st k b g v (a + 64 * c.val) e))]
  simp only [mul_assoc]
  ring
end

end GdnMath

end
-- ==== Proof.Gdn.Pay.lean ====
/- The body's expressions of the gated delta rule, read at an index. -/
module

public import proofs.«01_k».proof.Proof.Gdn.Open
public import proofs.«01_k».proof.Proof.Gdn.Math
public import proofs.«01_k».proof.Proof.Att.Math
public import proofs.«01_k».proof.Proof.Att.Soft
public import Idealize.ShloMosaic.Lib.Pointwise

@[expose] public section

set_option maxRecDepth 16384

noncomputable section

namespace Cert.Kernel7Ideal.Gdn

open Cert.Kernel7Ideal Cert.Kernel7Ideal.Gen Idealize.ShloMosaic Idealize.ShloMosaic.TcCoe Idealize.SL.Sem
open AttMath GdnMath

theorem one_f32 : Ideal.ofBits .f32 0x3F800000#32 = (1 : EReal) := by
  simp [Ideal.ofBits, Ideal.ieee]
  rw [← EReal.coe_mul]
  norm_num

theorem pick {p : Prop} [Decidable p] (c : BitVec 1) (h : c = if p then 1#1 else 0#1) (x y : EReal) :
    Scalar.select c x y = if p then x else y := by
  subst h
  by_cases hp : p
  · rw [if_pos hp, if_pos hp]; rfl
  · rw [if_neg hp, if_neg hp]; rfl

theorem unitQ_apply (r : FVec Ideal S128x128 .f32) (i d : Fin 128) :
    unitQ r (ix2 i d) = r (ix2 i d) * (Ideal.rsqrt ((∑ e : Fin 128, r (ix2 i e) * r (ix2 i e)) + Ideal.ofBits .f32 0x358637BD#32) * sc) := by
  pointwise [unitQ]

theorem unitK_apply (r : FVec Ideal S128x128 .f32) (i d : Fin 128) :
    unitK r (ix2 i d) = r (ix2 i d) * Ideal.rsqrt ((∑ e : Fin 128, r (ix2 i e) * r (ix2 i e)) + Ideal.ofBits .f32 0x358637BD#32) := by
  pointwise [unitK]

theorem pay11_apply (i j : Fin 128) : k0_pay11 (ix2 i j) = if Causal i j then 1#1 else 0#1 := by
  pointwise [k0_pay11, k0_pay10]
  revert i j
  decide +kernel

theorem pay12_apply (i j : Fin 128) : k0_pay12 (ix2 i j) = if Strict i j then 1#1 else 0#1 := by
  pointwise [k0_pay12, k0_pay10]
  revert i j
  decide +kernel

theorem pay13_apply (i j : Fin 128) : k0_pay13 (ix2 i j) = if i = j then 1#1 else 0#1 := by
  pointwise [k0_pay13]
  revert i j
  decide +kernel

theorem decayOf_apply (gc : FVec Ideal S128x1 .f32) (gr : FVec Ideal S1x128 .f32) (i j : Fin 128) :
    decayOf gc gr (ix2 i j) = if Causal i j then Ideal.exp (gc (ix2 i 0) - gr (ix2 0 j)) else 0 := by
  pointwise [decayOf]
  exact pick _ (pay11_apply i j) _ _

theorem against_q (q k : FVec Ideal S128x128 .f32) (i j : Fin 128) :
    against q k (ix2 ⟨i.val, by omega⟩ j) = ∑ d : Fin 128, q (ix2 i d) * k (ix2 j d) := by
  pointwise [against]

theorem against_k (q k : FVec Ideal S128x128 .f32) (i j : Fin 128) :
    against q k (ix2 ⟨128 + i.val, by omega⟩ j) = ∑ d : Fin 128, k (ix2 i d) * k (ix2 j d) := by
  pointwise [against]

theorem lowerOf_apply (qk : FVec Ideal S256x128 .f32) (b : FVec Ideal S128x1 .f32) (d : FVec Ideal S128x128 .f32) (i j : Fin 128) :
    lowerOf qk b d (ix2 i j) = if Strict i j then b (ix2 i 0) * qk (ix2 ⟨128 + i.val, by omega⟩ j) * d (ix2 i j) else 0 := by
  pointwise [lowerOf]
  exact pick _ (pay12_apply i j) _ _

theorem prod_apply (a b : FVec Ideal S128x128 .f32) (i j : Fin 128) : prod a b (ix2 i j) = ∑ l : Fin 128, a (ix2 i l) * b (ix2 l j) := by
  pointwise [prod]

theorem nextP_apply (p t : FVec Ideal S128x128 .f32) (i j : Fin 128) : nextP p t (ix2 i j) = ∑ l : Fin 128, p (ix2 i l) * p (ix2 l j) := by
  pointwise [nextP, prod2]

theorem nextT_apply (p t : FVec Ideal S128x128 .f32) (i j : Fin 128) : nextT p t (ix2 i j) = t (ix2 i j) + ∑ l : Fin 128, t (ix2 i l) * p (ix2 l j) := by
  pointwise [nextT, prod2]

theorem eyeOf_apply (i j : Fin 128) : (eyeOf : FVec Ideal S128x128 .f32) (ix2 i j) = if i = j then 1 else 0 := by
  pointwise [eyeOf, k0_pay14]
  exact pick _ (pay13_apply i j) _ _

theorem p0_apply (a : FVec Ideal S128x128 .f32) (i j : Fin 128) : p0 a (ix2 i j) = 0 - a (ix2 i j) := by
  pointwise [p0]

theorem pay15_apply (g : FVec Ideal S128x128 .f32) (i j : Fin 128) :
    k0_pay15 g k0_pay11 (ix2 i j) = ∑ l : Fin 128, if Causal i l then g (ix2 l j) else 0 := by
  pointwise [k0_pay15]
  exact Finset.sum_congr rfl fun l _ => pick _ (pay11_apply i l) _ _

theorem pay16_apply (g : FVec Ideal S128x128 .f32) (i j : Fin 128) :
    k0_pay16 g k0_pay11 (ix2 i j) = k0_pay15 g k0_pay11 (ix2 j i) := by
  pointwise [k0_pay16]

theorem pay17_apply (g : FVec Ideal S128x128 .f32) (i j : Fin 128) :
    k0_pay17 g k0_pay11 (ix2 i j) = Ideal.exp (k0_pay15 g k0_pay11 (ix2 i j)) := by
  pointwise [k0_pay17]

theorem half_word : ∀ i : Fin 128, IntOp.cmpi .slt (BitVec.ofNat 32 i.val) 64#32 = if i.val < 64 then 1#1 else 0#1 := by
  decide +kernel

theorem pay18_apply (g : FVec Ideal S128x128 .f32) (i j : Fin 128) :
    k0_pay18 g k0_pay11 (ix2 i j) = if i.val < 64 then k0_pay15 g k0_pay11 (ix2 63 j) else k0_pay15 g k0_pay11 (ix2 127 j) := by
  pointwise [k0_pay18]
  exact pick _ (half_word i) _ _

theorem pay19_apply (g : FVec Ideal S128x128 .f32) (i j : Fin 128) :
    k0_pay19 g k0_pay11 (ix2 i j) = Ideal.exp (k0_pay18 g k0_pay11 (ix2 i j) - k0_pay15 g k0_pay11 (ix2 i j)) := by
  pointwise [k0_pay19]

theorem pay20_apply (g : FVec Ideal S128x128 .f32) (i j : Fin 128) :
    k0_pay20 g k0_pay11 (ix2 i j) = Ideal.exp (k0_pay18 g k0_pay11 (ix2 i j)) := by
  pointwise [k0_pay20]

/-- The column of the values, and of the keys, in a pair of blocks. -/
def lo (j : Fin 128) : Fin 256 := ⟨j.val, by omega⟩
def hi (j : Fin 128) : Fin 256 := ⟨128 + j.val, by omega⟩

theorem solved_lo (t v k : FVec Ideal S128x128 .f32) (b e : FVec Ideal S128x1 .f32) (i j : Fin 128) :
    solved t v k b e (ix2 i (lo j)) = ∑ l : Fin 128, t (ix2 i l) * (v (ix2 l j) * b (ix2 l 0)) := by
  unfold lo
  pointwise [solved]

theorem solved_hi (t v k : FVec Ideal S128x128 .f32) (b e : FVec Ideal S128x1 .f32) (i j : Fin 128) :
    solved t v k b e (ix2 i (hi j)) = ∑ l : Fin 128, t (ix2 i l) * (k (ix2 l j) * (b (ix2 l 0) * e (ix2 l 0))) := by
  unfold hi
  pointwise [solved]

theorem localOf_apply (qk : FVec Ideal S256x128 .f32) (d : FVec Ideal S128x128 .f32) (u : FVec Ideal S128x256 .bf16) (i : Fin 128) (e : Fin 256) :
    localOf qk d u (ix2 i e) = ∑ l : Fin 128, if Causal i l then qk (ix2 ⟨i.val, by omega⟩ l) * d (ix2 i l) * u (ix2 l e) else 0 := by
  pointwise [localOf]
  exact Finset.sum_congr rfl fun l _ => pick _ (pay11_apply i l) _ _

theorem decayedK_apply (k : FVec Ideal S128x128 .f32) (e : FVec Ideal S128x1 .f32) (i d : Fin 128) :
    decayedK k e (ix2 i d) = k (ix2 i d) * e (ix2 i 0) := by
  pointwise [decayedK]

theorem outer0_apply (kd : FVec Ideal S128x128 .bf16) (u : FVec Ideal S128x256 .bf16) (d : Fin 128) (e : Fin 256) :
    outer0 kd u (ix2 d e) = ∑ r : Fin 64, kd (ix2 ⟨r.val, by omega⟩ d) * u (ix2 ⟨r.val, by omega⟩ e) := by
  pointwise [outer0]

theorem outer1_apply (kd : FVec Ideal S128x128 .bf16) (u : FVec Ideal S128x256 .bf16) (d : Fin 128) (e : Fin 256) :
    outer1 kd u (ix2 d e) = ∑ r : Fin 64, kd (ix2 ⟨64 + r.val, by omega⟩ d) * u (ix2 ⟨64 + r.val, by omega⟩ e) := by
  pointwise [outer1]

theorem effQ_apply (q : FVec Ideal S128x128 .f32) (e : FVec Ideal S128x1 .f32) (ao : FVec Ideal S128x256 .f32) (i d : Fin 128) :
    effQ q e ao (ix2 i d) = q (ix2 i d) * e (ix2 i 0) - ao (ix2 i (hi d)) := by
  unfold hi
  pointwise [effQ]

theorem state0_apply (bn : FVec Ideal S128x256 .f32) (qe : FVec Ideal S128x128 .bf16) (s : FVec Ideal S128x128 .f32) (cd : FVec Ideal S1x1 .f32) (d e : Fin 128) :
    nextS s cd (onState (left0 bn qe) s) bn (ix2 d e) = s (ix2 d e) * cd (ix2 0 0) - (∑ l : Fin 128, bn (ix2 d (hi l)) * s (ix2 l e)) + bn (ix2 d (lo e)) := by
  unfold hi lo
  pointwise [nextS, onState, left0]

theorem state1_apply (bn : FVec Ideal S128x256 .f32) (qe : FVec Ideal S128x128 .bf16) (s : FVec Ideal S128x128 .f32) (cd : FVec Ideal S1x1 .f32) (d e : Fin 128) :
    nextS s cd (onState (left1 bn qe) s) bn (ix2 d e) = s (ix2 d e) * cd (ix2 0 0) - (∑ l : Fin 128, bn (ix2 d (hi l)) * s (ix2 l e)) + bn (ix2 d (lo e)) := by
  unfold hi lo
  pointwise [nextS, onState, left1]

theorem rows0_apply (bn ao : FVec Ideal S128x256 .f32) (qe : FVec Ideal S128x128 .bf16) (s : FVec Ideal S128x128 .f32) (r : Fin 64) (e : Fin 128) :
    rows0 (onState (left0 bn qe) s) ao (ix2 r e) = (∑ l : Fin 128, qe (ix2 ⟨r.val, by omega⟩ l) * s (ix2 l e)) + ao (ix2 ⟨r.val, by omega⟩ (lo e)) := by
  unfold lo
  pointwise [rows0, onState, left0]

theorem rows1_apply (bn ao : FVec Ideal S128x256 .f32) (qe : FVec Ideal S128x128 .bf16) (s : FVec Ideal S128x128 .f32) (r : Fin 64) (e : Fin 128) :
    rows1 (onState (left1 bn qe) s) ao (ix2 r e) = (∑ l : Fin 128, qe (ix2 ⟨64 + r.val, by omega⟩ l) * s (ix2 l e)) + ao (ix2 ⟨64 + r.val, by omega⟩ (lo e)) := by
  unfold lo
  pointwise [rows1, onState, left1]

theorem normed_apply (o : FVec Ideal S128x128 .f32) (w : FVec Ideal S1x128 .f32) (i e : Fin 128) :
    normed o w (ix2 i e) = nrm (fun d => o (ix2 i d)) (fun d => w (ix2 0 d)) e := by
  unfold nrm rscale
  pointwise [normed]

theorem stateRows_apply (h : Fin 8) (s : Vec Ideal S1024x128 .f32) (d e : Fin 128) :
    stateRows h s (ix2 d e) = s (ix2 ⟨128 * h.val + d.val, by omega⟩ e) := by
  unfold stateRows
  show s _ = s _
  congr 1
  funext a
  apply Fin.ext
  match a with
  | ⟨0, _⟩ => simp
  | ⟨1, _⟩ => simp

theorem gate_apply (z : FVec Ideal S128x1024 .bf16) (i : Fin 128) (e : Fin 1024) :
    gate z (ix2 i e) = z (ix2 i e) * Ideal.div 1 (1 + Ideal.exp (0 - z (ix2 i e))) := by
  pointwise [gate]

/-- The carried rows followed by the block's rows. -/
def ext (x : Vec Ideal S128x3072 .bf16) (t : Vec Ideal S8x3072 .f32) (n : ℕ) (e : Fin 3072) : EReal :=
  if h : n < 8 then t (ix2 ⟨n, h⟩ e) else if h : n - 8 < 128 then x (ix2 ⟨n - 8, h⟩ e) else 0

def silu (x : EReal) : EReal := x * Ideal.div 1 (1 + Ideal.exp (0 - x))

theorem tap_eq (x : Vec Ideal S128x3072 .bf16) (t : Vec Ideal S8x3072 .f32) (e : Fin 3072) (m n : ℕ) (hm : m < 136) (h : m = n) :
    (if h : m < 8 then t (ix2 ⟨m, h⟩ e) else k0_pay4 x (ix2 ⟨m - 8, by omega⟩ e)) = ext x t n e := by
  subst h
  unfold ext
  by_cases h8 : m < 8
  · rw [dif_pos h8, dif_pos h8]
  · rw [dif_neg h8, dif_neg h8, dif_pos (by omega)]
    pointwise [k0_pay4]

theorem tap_last (x : Vec Ideal S128x3072 .bf16) (t : Vec Ideal S8x3072 .f32) (e : Fin 3072) (i : Fin 128) :
    k0_pay4 x (ix2 i e) = ext x t (i.val + 8) e := by
  have := tap_eq x t e (i.val + 8) _ (by omega) rfl
  rw [dif_neg (by omega)] at this
  exact this

theorem conv_apply (x : Vec Ideal S128x3072 .bf16) (t : Vec Ideal S8x3072 .f32) (cv : Vec Ideal S4x3072 .f32) (i : Fin 128) (e : Fin 3072) :
    k0_pay6 x t cv (ix2 i e) = silu (cv (ix2 0 e) * ext x t (i.val + 5) e + cv (ix2 1 e) * ext x t (i.val + 6) e
      + cv (ix2 2 e) * ext x t (i.val + 7) e + cv (ix2 3 e) * ext x t (i.val + 8) e) := by
  unfold silu
  pointwise [k0_pay6]
  rw [tap_eq x t e ((((8 + i.val + 136 - 1) % 136 + 136 - 1) % 136 + 136 - 1) % 136) (i.val + 5) (by omega) (by omega),
    tap_eq x t e (((8 + i.val + 136 - 1) % 136 + 136 - 1) % 136) (i.val + 6) (by omega) (by omega),
    tap_eq x t e ((8 + i.val + 136 - 1) % 136) (i.val + 7) (by omega) (by omega), tap_last x t e i]

theorem tail_apply (x : Vec Ideal S128x3072 .bf16) (r : Fin 8) (e : Fin 3072) :
    k0_pay5 x (ix2 r e) = x (ix2 ⟨120 + r.val, by omega⟩ e) := by
  pointwise [k0_pay5, k0_pay4]

theorem tail0_apply (r : Fin 8) (e : Fin 3072) : (k0_pay2 : FVec Ideal S8x3072 .f32) (ix2 r e) = 0 := by
  pointwise [k0_pay2]

theorem state0_zero (r : Fin 1024) (e : Fin 128) : (k0_pay3 : FVec Ideal S1024x128 .f32) (ix2 r e) = 0 := by
  pointwise [k0_pay3]

/-- A log decay from its parts. -/
def decayLog (al ab dt : EReal) : EReal :=
  (0 - Ideal.exp al) * (max (ab + dt) 0 + Ideal.log (1 + Ideal.exp (0 - FloatOps.absf (F := Ideal) (φ := .f32) (ab + dt))))

theorem pay8_apply (ab : Vec Ideal S128x128 .f32) (al dt : Vec Ideal S1x128 .f32) (i j : Fin 128) :
    k0_pay8 ab al dt (ix2 i j) = decayLog (al (ix2 0 j)) (ab (ix2 i j)) (dt (ix2 0 j)) := by
  unfold decayLog
  pointwise [k0_pay8, k0_pay7]

theorem pay9_apply (ab : Vec Ideal S128x128 .f32) (i j : Fin 128) :
    k0_pay9 ab (ix2 i j) = Ideal.div 1 (1 + Ideal.exp (0 - ab (ix2 i j))) := by
  pointwise [k0_pay9, k0_pay7]

section
variable (y : FVec Ideal S128x3072 .f32) (g bt : FVec Ideal S128x128 .f32) (h : Fin 8) (s : FVec Ideal S1024x128 .f32)

theorem rawQ_apply (i d : Fin 128) : rawQ y h (ix2 i d) = y (ix2 i ⟨128 * h.val + d.val, by omega⟩) := by
  pointwise [rawQ]
theorem rawK_apply (i d : Fin 128) : rawK y h (ix2 i d) = y (ix2 i ⟨1024 + (128 * h.val + d.val), by omega⟩) := by
  pointwise [rawK]
  exact congrArg y (congrArg (ix2 i) (Fin.ext (Nat.add_assoc _ _ _)))
theorem rawV_apply (i d : Fin 128) : rawV y h (ix2 i d) = y (ix2 i ⟨2048 + (128 * h.val + d.val), by omega⟩) := by
  pointwise [rawV]
  exact congrArg y (congrArg (ix2 i) (Fin.ext (Nat.add_assoc _ _ _)))
theorem hB_apply (i : Fin 128) : hB bt h (ix2 i 0) = bt (ix2 i ⟨8 + h.val, by omega⟩) := by
  pointwise [hB]
theorem hE_apply (i : Fin 128) : hE g h (ix2 i 0) = Ideal.exp (k0_pay15 g k0_pay11 (ix2 i ⟨h.val, by omega⟩)) := by
  rw [← pay17_apply]
  pointwise [hE]
theorem hL_apply (i : Fin 128) : hL g h (ix2 i 0)
    = Ideal.exp (k0_pay18 g k0_pay11 (ix2 i ⟨h.val, by omega⟩) - k0_pay15 g k0_pay11 (ix2 i ⟨h.val, by omega⟩)) := by
  rw [← pay19_apply]
  pointwise [hL]
theorem hC_apply (r : Fin 128) : hC g h r (ix2 0 0) = Ideal.exp (k0_pay18 g k0_pay11 (ix2 r ⟨h.val, by omega⟩)) := by
  rw [← pay20_apply]
  pointwise [hC]
theorem hD_apply (i j : Fin 128) : hD g h (ix2 i j) = if Causal i j then
    Ideal.exp (k0_pay15 g k0_pay11 (ix2 i ⟨h.val, by omega⟩) - k0_pay15 g k0_pay11 (ix2 j ⟨h.val, by omega⟩)) else 0 := by
  unfold hD
  rw [decayOf_apply]
  pointwise
  rw [pay16_apply]
theorem hO_0 (r : Fin 64) (e : Fin 128) : hO y g bt h s (ix2 ⟨r.val, by omega⟩ e) = rows0 (hR0 y g bt h s) (hAo y g bt h) (ix2 r e) := by
  pointwise [hO]
theorem hO_1 (r : Fin 64) (e : Fin 128) : hO y g bt h s (ix2 ⟨64 + r.val, by omega⟩ e) = rows1 (hR1 y g bt h s) (hAo y g bt h) (ix2 r e) := by
  pointwise [hO]
end

end Cert.Kernel7Ideal.Gdn

end
-- ==== Proof.Gdn.Real.lean ====
/- One block of one head of the gated delta rule: its stages are real numbers, and they are the recurrence's. -/
module

public import proofs.«01_k».proof.Proof.Gdn.Pay

@[expose] public section

set_option maxRecDepth 16384

noncomputable section

namespace Cert.Kernel7Ideal.Gdn

open Cert.Kernel7Ideal Cert.Kernel7Ideal.Gen Idealize.ShloMosaic Idealize.ShloMosaic.TcCoe Idealize.SL.Sem
open AttMath GdnMath

theorem coe_ite {p : Prop} [Decidable p] (x : ℝ) : (if p then (x : EReal) else 0) = ((if p then x else 0 : ℝ) : EReal) := by
  by_cases h : p
  · rw [if_pos h, if_pos h]
  · rw [if_neg h, if_neg h]; rfl

theorem dot_real {ι : Type} [Fintype ι] {f g : ι → EReal} {a b : ι → ℝ} (hf : ∀ i, f i = (a i : EReal)) (hg : ∀ i, g i = (b i : EReal)) :
    ∑ i, f i * g i = ((∑ i, a i * b i : ℝ) : EReal) := by
  rw [real_sum]
  exact Finset.sum_congr rfl fun i _ => by rw [hf, hg, EReal.coe_mul]

/-! ## The inverse -/

/-- A square array of reals. -/
def Is (x : FVec Ideal S128x128 .f32) (m : Sq) : Prop := ∀ i j, x (ix2 i j) = ((m i j : ℝ) : EReal)

theorem is_prod {a b : FVec Ideal S128x128 .f32} {m n : Sq} (ha : Is a m) (hb : Is b n) : Is (prod a b) (m * n) := fun i j => by
  rw [prod_apply, Matrix.mul_apply]
  exact dot_real (fun l => ha i l) (fun l => hb l j)

theorem is_nextP {p t : FVec Ideal S128x128 .f32} {m : Sq} (hp : Is p m) : Is (nextP p t) (m * m) := fun i j => by
  rw [nextP_apply, Matrix.mul_apply]
  exact dot_real (fun l => hp i l) (fun l => hp l j)

theorem is_nextT {p t : FVec Ideal S128x128 .f32} {m n : Sq} (hp : Is p m) (ht : Is t n) : Is (nextT p t) (invStep n m) := fun i j => by
  rw [nextT_apply, ht, dot_real (fun l => ht i l) (fun l => hp l j), ← EReal.coe_add]
  rfl

theorem is_addProd {p t : FVec Ideal S128x128 .f32} {m n : Sq} (hp : Is p m) (ht : Is t n) : Is (addf t (prod t p)) (invStep n m) := fun i j => by
  show t (ix2 i j) + prod t p (ix2 i j) = _
  rw [is_prod ht hp, ht, ← EReal.coe_add]
  rfl

theorem is_p0 {a : FVec Ideal S128x128 .f32} {m : Sq} (ha : Is a m) : Is (p0 a) (-m) := fun i j => by
  rw [p0_apply, ha, zero_sub, ← EReal.coe_neg]
  rfl

theorem is_t0 {a : FVec Ideal S128x128 .f32} {m : Sq} (ha : Is a m) : Is (t0 a) (1 + -m) := fun i j => by
  show eyeOf (ix2 i j) + p0 a (ix2 i j) = _
  rw [is_p0 ha, eyeOf_apply, show (if i = j then (1 : EReal) else 0) = (((1 : Sq) i j : ℝ) : EReal) by
    rw [Matrix.one_apply]; split <;> rfl, ← EReal.coe_add]
  rfl

theorem is_inverse {a : FVec Ideal S128x128 .f32} {m : Sq} (ha : Is a m) : Is (inverse a) (invOf (-m)) := by
  have hp0 := is_p0 ha
  have ht0 := is_t0 ha
  have hp1 : Is (p1 a) _ := is_prod hp0 hp0
  have ht1 : Is (t1 a) _ := is_nextT hp1 ht0
  have hp2 : Is (p2 a) _ := is_nextP (t := t0 a) hp1
  have ht2 : Is (t2 a) _ := is_nextT hp2 ht1
  have hp3 : Is (p3 a) _ := is_nextP (t := t1 a) hp2
  have ht3 : Is (t3 a) _ := is_nextT hp3 ht2
  have hp4 : Is (p4 a) _ := is_nextP (t := t2 a) hp3
  have ht4 : Is (t4 a) _ := is_nextT hp4 ht3
  have hp5 : Is (p5 a) _ := is_nextP (t := t3 a) hp4
  exact is_addProd hp5 ht4

/-! ## The stages -/

section
variable {y : FVec Ideal S128x3072 .f32} {g bt : FVec Ideal S128x128 .f32} {h : Fin 8}
variable {k q : ℕ → Fin 128 → ℝ} {b γ : ℕ → ℝ} {v : Fin 128 → ℕ → ℝ} {a : ℕ}

theorem state_row (h : Fin 8) (d : Fin 128) : 128 * h.val + d.val < 1024 := by omega

/-- What the block's rows hold for one head. -/
structure Rows (y : FVec Ideal S128x3072 .f32) (g bt : FVec Ideal S128x128 .f32) (h : Fin 8)
    (k q : ℕ → Fin 128 → ℝ) (b γ : ℕ → ℝ) (v : Fin 128 → ℕ → ℝ) (a : ℕ) : Prop where
  q : ∀ i d : Fin 128, hQ y h (ix2 i d) = ((q (a + i.val) d : ℝ) : EReal)
  k : ∀ i d : Fin 128, hK y h (ix2 i d) = ((k (a + i.val) d : ℝ) : EReal)
  v : ∀ i e : Fin 128, rawV y h (ix2 i e) = ((v e (a + i.val) : ℝ) : EReal)
  b : ∀ i : Fin 128, hB bt h (ix2 i 0) = ((b (a + i.val) : ℝ) : EReal)
  g : ∀ i : Fin 128, g (ix2 i ⟨h.val, by omega⟩) = ((γ (a + i.val) : ℝ) : EReal)

variable (H : Rows y g bt h k q b γ v a)
include H

theorem run_real (i : Fin 128) : k0_pay15 g k0_pay11 (ix2 i ⟨h.val, by omega⟩) = ((run γ a i : ℝ) : EReal) := by
  rw [pay15_apply]
  unfold run
  rw [real_sum]
  refine Finset.sum_congr rfl fun l _ => ?_
  rw [H.g, coe_ite, ite_mul, one_mul, zero_mul]

theorem last_real (i : Fin 128) : k0_pay18 g k0_pay11 (ix2 i ⟨h.val, by omega⟩) = ((last γ a i : ℝ) : EReal) := by
  rw [pay18_apply, run_real H, run_real H]
  unfold last
  split <;> rfl

theorem hE_real (i : Fin 128) : hE g h (ix2 i 0) = ((Real.exp (run γ a i) : ℝ) : EReal) := by
  rw [hE_apply, run_real H, Ideal.exp_coe]

theorem hL_real (i : Fin 128) : hL g h (ix2 i 0) = ((Real.exp (last γ a i - run γ a i) : ℝ) : EReal) := by
  rw [hL_apply, run_real H, last_real H, ← EReal.coe_sub, Ideal.exp_coe]

theorem hC_real (r : Fin 128) : hC g h r (ix2 0 0) = ((Real.exp (last γ a r) : ℝ) : EReal) := by
  rw [hC_apply, last_real H, Ideal.exp_coe]

theorem hD_real (i j : Fin 128) : hD g h (ix2 i j) = ((if Causal i j then Real.exp (run γ a i - run γ a j) else 0 : ℝ) : EReal) := by
  rw [hD_apply, run_real H, run_real H, ← EReal.coe_sub, Ideal.exp_coe, coe_ite]

theorem qk_real (i j : Fin 128) : hQK y h (ix2 ⟨i.val, by omega⟩ j) = ((∑ d, q (a + i.val) d * k (a + j.val) d : ℝ) : EReal) := by
  unfold hQK
  rw [against_q]
  exact dot_real (fun d => H.q i d) (fun d => H.k j d)

theorem kk_real (i j : Fin 128) : hQK y h (ix2 ⟨128 + i.val, by omega⟩ j) = ((∑ d, k (a + i.val) d * k (a + j.val) d : ℝ) : EReal) := by
  unfold hQK
  rw [against_k]
  exact dot_real (fun d => H.k i d) (fun d => H.k j d)

theorem low_real : Is (lowerOf (hQK y h) (hB bt h) (hD g h)) (low k b γ a) := fun i j => by
  rw [lowerOf_apply, H.b, kk_real H, hD_real H, ← EReal.coe_mul, ← EReal.coe_mul, coe_ite]
  unfold low
  by_cases hs : Strict i j
  · have hc : Causal i j := ⟨hs.1, hs.2.le⟩
    rw [if_pos hs, if_pos hs, if_pos hc]
  · rw [if_neg hs, if_neg hs]

theorem inv_real : Is (hT y g bt h) (inv k b γ a) := is_inverse (low_real H)

theorem solU_real (i e : Fin 128) : hU y g bt h (ix2 i (lo e)) = ((solU k b γ (v e) a i : ℝ) : EReal) := by
  unfold hU solU
  rw [solved_lo]
  exact dot_real (fun l => inv_real H i l) (fun l => by rw [H.v, H.b, ← EReal.coe_mul])

theorem solW_real (i d : Fin 128) : hU y g bt h (ix2 i (hi d)) = ((solW k b γ a i d : ℝ) : EReal) := by
  unfold hU solW
  rw [solved_hi]
  exact dot_real (fun l => inv_real H i l) (fun l => by rw [H.k, H.b, hE_real H, ← EReal.coe_mul, ← EReal.coe_mul])

theorem local_real (u : Fin 128 → ℝ) (c : Fin 256) (hu : ∀ l, hU y g bt h (ix2 l c) = ((u l : ℝ) : EReal)) (i : Fin 128) :
    hAo y g bt h (ix2 i c) = ((∑ l, loc k q γ a i l * u l : ℝ) : EReal) := by
  unfold hAo
  rw [localOf_apply, real_sum]
  refine Finset.sum_congr rfl fun l _ => ?_
  rw [qk_real H, hD_real H, hu, ← EReal.coe_mul, ← EReal.coe_mul, coe_ite]
  unfold loc
  by_cases hc : Causal i l
  · rw [if_pos hc, if_pos hc, if_pos hc]
  · rw [if_neg hc, if_neg hc, zero_mul]

theorem locU_real (i e : Fin 128) : hAo y g bt h (ix2 i (lo e)) = ((locU k q b γ (v e) a i : ℝ) : EReal) :=
  local_real H _ _ (fun l => solU_real H l e) i
theorem locW_real (i d : Fin 128) : hAo y g bt h (ix2 i (hi d)) = ((locW k q b γ a i d : ℝ) : EReal) :=
  local_real H _ _ (fun l => solW_real H l d) i

theorem keyD_real (i d : Fin 128) : hKd y g h (ix2 i d) = ((keyD k γ a i d : ℝ) : EReal) := by
  unfold hKd
  rw [decayedK_apply, H.k, hL_real H, ← EReal.coe_mul]
  rfl

theorem qEff_real (i d : Fin 128) : hQe y g bt h (ix2 i d) = ((qEff k q b γ a i d : ℝ) : EReal) := by
  unfold hQe
  rw [effQ_apply, H.q, hE_real H, locW_real H, ← EReal.coe_mul, ← EReal.coe_sub]
  rfl

theorem row0 (r : Fin 64) : (⟨r.val, by omega⟩ : Fin 128) = row 0 r := Fin.ext (by show r.val = 64 * 0 + r.val; omega)
theorem row1 (r : Fin 64) : (⟨64 + r.val, by omega⟩ : Fin 128) = row 1 r := Fin.ext (by show 64 + r.val = 64 * 1 + r.val; omega)

theorem out0U_real (d e : Fin 128) : hO0 y g bt h (ix2 d (lo e)) = ((outU k b γ (v e) a 0 d : ℝ) : EReal) := by
  unfold hO0
  rw [outer0_apply]
  refine dot_real (fun r => ?_) (fun r => ?_)
  · rw [row0 H, keyD_real H]
  · rw [row0 H, solU_real H]
theorem out0W_real (d e : Fin 128) : hO0 y g bt h (ix2 d (hi e)) = ((outW k b γ a 0 d e : ℝ) : EReal) := by
  unfold hO0
  rw [outer0_apply]
  refine dot_real (fun r => ?_) (fun r => ?_)
  · rw [row0 H, keyD_real H]
  · rw [row0 H, solW_real H]
theorem out1U_real (d e : Fin 128) : hO1 y g bt h (ix2 d (lo e)) = ((outU k b γ (v e) a 1 d : ℝ) : EReal) := by
  unfold hO1
  rw [outer1_apply]
  refine dot_real (fun r => ?_) (fun r => ?_)
  · rw [row1 H, keyD_real H]
  · rw [row1 H, solU_real H]
theorem out1W_real (d e : Fin 128) : hO1 y g bt h (ix2 d (hi e)) = ((outW k b γ a 1 d e : ℝ) : EReal) := by
  unfold hO1
  rw [outer1_apply]
  refine dot_real (fun r => ?_) (fun r => ?_)
  · rw [row1 H, keyD_real H]
  · rw [row1 H, solW_real H]

variable {s : FVec Ideal S1024x128 .f32}
variable (hs : ∀ d e : Fin 128, s (ix2 ⟨128 * h.val + d.val, state_row h d⟩ e) = ((st k b γ (v e) a d : ℝ) : EReal))
include hs

theorem rows_real (d e : Fin 128) : (stateRows (F := Ideal) h s (ix2 d e) : EReal) = ((st k b γ (v e) (a + 64 * (0 : Fin 2).val) d : ℝ) : EReal) := by
  rw [stateRows_apply, hs]
  rfl

theorem s1_real (d e : Fin 128) : hS1 y g bt h s (ix2 d e) = ((st k b γ (v e) (a + 64 * (1 : Fin 2).val) d : ℝ) : EReal) := by
  unfold hS1 hR0
  rw [state0_apply, rows_real H hs, hC_real H, out0U_real H, dot_real (fun l => out0W_real H d l) (fun l => rows_real H hs l e),
    ← EReal.coe_mul, ← EReal.coe_sub, ← EReal.coe_add]
  exact congrArg _ (block_state k b γ (v e) a 0 d)

theorem s2_real (d e : Fin 128) : hS2 y g bt h s (ix2 d e) = ((st k b γ (v e) (a + 128) d : ℝ) : EReal) := by
  unfold hS2 hR1
  rw [state1_apply, s1_real H hs, hC_real H, out1U_real H, dot_real (fun l => out1W_real H d l) (fun l => s1_real H hs l e),
    ← EReal.coe_mul, ← EReal.coe_sub, ← EReal.coe_add]
  exact congrArg _ (block_state k b γ (v e) a 1 d)

theorem o_real (i e : Fin 128) : hO y g bt h s (ix2 i e) = ((out k q b γ (v e) (a + i.val) : ℝ) : EReal) := by
  by_cases h64 : i.val < 64
  · obtain ⟨r, hr⟩ : ∃ r : Fin 64, i = row 0 r := ⟨⟨i.val, h64⟩, (row0 H ⟨i.val, h64⟩)⟩
    subst hr
    rw [show hO y g bt h s (ix2 (row 0 r) e) = _ from (congrArg (fun i => hO y g bt h s (ix2 i e)) (row0 H r)).symm, hO_0]
    unfold hR0
    rw [rows0_apply, row0 H, locU_real H, dot_real (fun l => qEff_real H (row 0 r) l) (fun l => rows_real H hs l e), ← EReal.coe_add]
    exact congrArg _ (block_out k q b γ (v e) a 0 r)
  · obtain ⟨r, hr⟩ : ∃ r : Fin 64, i = row 1 r :=
      ⟨⟨i.val - 64, by omega⟩, Fin.ext (by show i.val = 64 * 1 + (i.val - 64); omega)⟩
    subst hr
    rw [show hO y g bt h s (ix2 (row 1 r) e) = _ from (congrArg (fun i => hO y g bt h s (ix2 i e)) (row1 H r)).symm, hO_1]
    unfold hR1
    rw [rows1_apply, row1 H, locU_real H, dot_real (fun l => qEff_real H (row 1 r) l) (fun l => s1_real H hs l e), ← EReal.coe_add]
    exact congrArg _ (block_out k q b γ (v e) a 1 r)
end

end Cert.Kernel7Ideal.Gdn

end
-- ==== Proof.Gdn.Heads.lean ====
/- The body's expressions of the gated delta rule, read by head. -/
module

public import proofs.«01_k».proof.Proof.Gdn.Pay
public import Idealize.ShloMosaic.Lib.Pointwise

@[expose] public section

set_option maxRecDepth 16384

noncomputable section

namespace Cert.Kernel7Ideal.Gdn

open Cert.Kernel7Ideal Cert.Kernel7Ideal.Gen Idealize.ShloMosaic Idealize.ShloMosaic.TcCoe Idealize.SL.Sem
open AttMath GdnMath

section
variable (y : FVec Ideal S128x3072 .f32) (g bt : FVec Ideal S128x128 .f32) (h : Fin 8) (s : FVec Ideal S1024x128 .f32)

theorem stateNext_apply (d e : Fin 128) : stateNext y g bt s (ix2 ⟨128 * h.val + d.val, by omega⟩ e) = hS2 y g bt h s (ix2 d e) := by
  fin_cases h <;> pointwise [stateNext]
  all_goals repeat rw [dif_neg (by omega)]
  all_goals try rw [dif_pos (by omega)]
  all_goals exact congrArg _ (congrArg (ix2 · e) (Fin.ext (by dsimp only; omega)))

theorem blockOut_apply (w : FVec Ideal S1x128 .f32) (z : FVec Ideal S128x1024 .bf16) (i e : Fin 128) :
    blockOut y g bt s w z (ix2 i ⟨128 * h.val + e.val, by omega⟩)
      = normed (hO y g bt h s) w (ix2 i e) * gate z (ix2 i ⟨128 * h.val + e.val, by omega⟩) := by
  fin_cases h <;> pointwise [blockOut]
  all_goals repeat rw [dif_neg (by omega)]
  all_goals try rw [dif_pos (by omega)]
  all_goals exact congrArg (· * _) (congrArg _ (congrArg (ix2 i) (Fin.ext (by dsimp only; omega))))
end

end Cert.Kernel7Ideal.Gdn

end
-- ==== Proof.Gdn.Spec.lean ====
/- The gated delta rule's rows over the argument arrays: what enters the recurrence at each token, and that it is finite. -/
module

public import proofs.«01_k».proof.Proof.Gdn.Pay

@[expose] public section

noncomputable section

namespace GdnMath

open Idealize.ShloMosaic AttMath
open Cert.Kernel7Ideal.Gdn (silu decayLog)

abbrev eps : EReal := Ideal.ofBits .f32 0x358637BD#32

section
variable (P : Fin 8192 → Fin 11280 → EReal) (C : Fin 4 → Fin 3072 → EReal) (A D : Fin 8 → EReal)

/-- A row of the projection; zero past its end. -/
def rowAt (n : ℕ) (e : Fin 11280) : EReal := if h : n < 8192 then P ⟨n, h⟩ e else 0

/-- The rows the convolution slides over: three zero rows, then the projection's. -/
def xpad (n : ℕ) (e : Fin 3072) : EReal := if 3 ≤ n then rowAt P (n - 3) ⟨e.val, by omega⟩ else 0

def taps (t : ℕ) (e : Fin 3072) : EReal :=
  C 0 e * xpad P t e + C 1 e * xpad P (t + 1) e + C 2 e * xpad P (t + 2) e + C 3 e * xpad P (t + 3) e

def yv (t : ℕ) (e : Fin 3072) : EReal := silu (taps P C t e)

/-- The factor that makes a row of length one. -/
def unitF (x : Fin 128 → EReal) : EReal := Ideal.rsqrt ((∑ e : Fin 128, x e * x e) + eps)

def cQ (h : Fin 8) (d : Fin 128) : Fin 3072 := ⟨128 * h.val + d.val, by omega⟩
def cK (h : Fin 8) (d : Fin 128) : Fin 3072 := ⟨1024 + (128 * h.val + d.val), by omega⟩
def cV (h : Fin 8) (d : Fin 128) : Fin 3072 := ⟨2048 + (128 * h.val + d.val), by omega⟩

def qv (h : Fin 8) (t : ℕ) (d : Fin 128) : EReal := yv P C t (cQ h d) * (unitF (fun e => yv P C t (cQ h e)) * sc)
def kv (h : Fin 8) (t : ℕ) (d : Fin 128) : EReal := yv P C t (cK h d) * unitF (fun e => yv P C t (cK h e))
def vv (h : Fin 8) (e : Fin 128) (t : ℕ) : EReal := yv P C t (cV h e)
def gv (h : Fin 8) (t : ℕ) : EReal := decayLog (A h) (rowAt P t ⟨4096 + h.val, by omega⟩) (D h)
def bv (h : Fin 8) (t : ℕ) : EReal := Ideal.div 1 (1 + Ideal.exp (0 - rowAt P t ⟨4104 + h.val, by omega⟩))

/-- The same as real numbers. -/
def qR (h : Fin 8) (t : ℕ) (d : Fin 128) : ℝ := (qv P C h t d).toReal
def kR (h : Fin 8) (t : ℕ) (d : Fin 128) : ℝ := (kv P C h t d).toReal
def vR (h : Fin 8) (e : Fin 128) (t : ℕ) : ℝ := (vv P C h e t).toReal
def gR (h : Fin 8) (t : ℕ) : ℝ := (gv P A D h t).toReal
def bR (h : Fin 8) (t : ℕ) : ℝ := (bv P h t).toReal

/-- The state of head `h` before token `t`, and its output at token `t`. -/
def stR (h : Fin 8) (e : Fin 128) (t : ℕ) (d : Fin 128) : ℝ := st (kR P C h) (bR P h) (gR P A D h) (vR P C h e) t d
def outR (h : Fin 8) (e : Fin 128) (t : ℕ) : ℝ := out (kR P C h) (qR P C h) (bR P h) (gR P A D h) (vR P C h e) t

/-- The call's result at row `t`, entry `e` of head `h`, under the norm's weights `w`. -/
def resultAt (w : Fin 128 → EReal) (h : Fin 8) (t : ℕ) (e : Fin 128) : EReal :=
  nrm (fun d => ((outR P C A D h d t : ℝ) : EReal)) w e * silu (rowAt P t ⟨3072 + (128 * h.val + e.val), by omega⟩)

/-- What is asked of the arguments: the convolution's columns and coefficients are finite, and what the decay rates are made of is not plus infinity. -/
structure Fins : Prop where
  p : ∀ r (n : Fin 11280), n.val < 3072 → Fin' (P r n)
  s : ∀ r (h : Fin 8), P r ⟨4096 + h.val, by omega⟩ ≠ ⊤
  c : ∀ r n, Fin' (C r n)
  a : ∀ h, A h ≠ ⊤
  d : ∀ h, D h ≠ ⊤
end

theorem real_of {x : EReal} (h : Fin' x) : x = ((x.toReal : ℝ) : EReal) := by
  obtain ⟨r, rfl⟩ := h
  rw [EReal.toReal_coe]

theorem fin_zero : Fin' 0 := ⟨0, rfl⟩

/-- The sigmoid is a finite number at every argument, the infinities too. -/
theorem fin_gate (x : EReal) : Fin' (Ideal.div 1 (1 + Ideal.exp (0 - x))) := by
  induction x with
  | bot =>
    refine ⟨0, ?_⟩
    rw [zero_sub, EReal.neg_bot, Ideal.exp_top, show (1 : EReal) + ⊤ = ⊤ from EReal.coe_add_top 1]
    simp [Ideal.div]
  | top =>
    refine ⟨1, ?_⟩
    rw [zero_sub, EReal.neg_top, Ideal.exp_bot, add_zero]
    simp [Ideal.div]
  | coe r =>
  have hp : (1 + Real.exp (0 - r)) ≠ 0 := ne_of_gt (by have := Real.exp_pos (0 - r); linarith)
  rw [show (0 : EReal) - (r : EReal) = ((0 - r : ℝ) : EReal) from rfl, Ideal.exp_coe,
    show (1 : EReal) + ((Real.exp (0 - r) : ℝ) : EReal) = ((1 + Real.exp (0 - r) : ℝ) : EReal) from rfl, Ideal.div_coe hp, one_mul]
  exact ⟨_, rfl⟩

theorem fin_silu {x : EReal} (h : Fin' x) : Fin' (silu x) := fin_mul h (fin_gate x)

theorem fin_unitF {x : Fin 128 → EReal} (h : ∀ e, Fin' (x e)) : Fin' (unitF x) := by
  obtain ⟨ε, hε, he⟩ := eps_eq
  choose a ha using h
  have hsum : ∑ e, x e * x e = ((∑ e, a e * a e : ℝ) : EReal) := by
    rw [real_sum]
    exact Finset.sum_congr rfl fun e _ => by rw [ha e, ← EReal.coe_mul]
  have h0 : 0 ≤ ∑ e, a e * a e := Finset.sum_nonneg fun e _ => mul_self_nonneg _
  have hpos : 0 < (∑ e, a e * a e) + ε := add_pos_of_nonneg_of_pos h0 hε
  unfold unitF
  rw [hsum, show eps = _ from he, ← EReal.coe_add, Ideal.rsqrt_coe, if_neg (not_lt.mpr hpos.le), if_neg hpos.ne']
  exact ⟨_, rfl⟩

theorem fin_max {x y : EReal} (hx : Fin' x) (hy : Fin' y) : Fin' (max x y) := by
  rcases max_choice x y with h | h
  · rw [h]; exact hx
  · rw [h]; exact hy

theorem fin_neg {x : EReal} (h : Fin' x) : Fin' (-x) := by
  obtain ⟨r, rfl⟩ := h
  exact ⟨-r, (EReal.coe_neg r).symm⟩

/-- The softplus is finite where its argument is not plus infinity. -/
theorem fin_softplus {s : EReal} (h : s ≠ ⊤) :
    Fin' (max s 0 + Ideal.log (1 + Ideal.exp (0 - FloatOps.absf (F := Ideal) (φ := .f32) s))) := by
  induction s with
  | bot =>
    refine ⟨0, ?_⟩
    have ha : FloatOps.absf (F := Ideal) (φ := .f32) (⊥ : EReal) = (⊤ : EReal) := by
      show max (⊥ : EReal) (-⊥) = ⊤
      rw [EReal.neg_bot]
      exact max_eq_right bot_le
    rw [ha, zero_sub, EReal.neg_top, Ideal.exp_bot, add_zero, max_eq_right bot_le, zero_add,
      show (1 : EReal) = ((1 : ℝ) : EReal) from rfl, Ideal.log_coe, if_neg (by norm_num), Real.log_one]
  | top => exact absurd rfl h
  | coe x =>
    have hs : Fin' ((x : ℝ) : EReal) := ⟨x, rfl⟩
    refine fin_add (fin_max hs fin_zero) ?_
    obtain ⟨r, hr⟩ : Fin' (FloatOps.absf (F := Ideal) (φ := .f32) ((x : ℝ) : EReal)) := fin_max hs (fin_neg hs)
    have hp := Real.exp_pos (0 - r)
    rw [hr, show (0 : EReal) - (r : EReal) = ((0 - r : ℝ) : EReal) from rfl, Ideal.exp_coe,
      show (1 : EReal) + ((Real.exp (0 - r) : ℝ) : EReal) = ((1 + Real.exp (0 - r) : ℝ) : EReal) from rfl, Ideal.log_coe,
      if_neg (by linarith)]
    exact ⟨_, rfl⟩

theorem fin_exp {x : EReal} (h : x ≠ ⊤) : Fin' (Ideal.exp x) := by
  induction x with
  | bot => exact ⟨0, rfl⟩
  | top => exact absurd rfl h
  | coe r => exact ⟨_, rfl⟩

theorem fin_decay {a b d : EReal} (ha : a ≠ ⊤) (hb : b ≠ ⊤) (hd : d ≠ ⊤) : Fin' (decayLog a b d) := by
  unfold decayLog
  refine fin_mul ?_ (fin_softplus (EReal.add_lt_top hb hd).ne)
  rw [zero_sub]
  exact fin_neg (fin_exp ha)

section
variable {P : Fin 8192 → Fin 11280 → EReal} {C : Fin 4 → Fin 3072 → EReal} {A D : Fin 8 → EReal} (H : Fins P C A D)
include H

theorem fin_rowAt (n : ℕ) (e : Fin 11280) (he : e.val < 3072) : Fin' (rowAt P n e) := by
  unfold rowAt
  split
  · exact H.p _ _ he
  · exact fin_zero

theorem rowAt_ne_top (n : ℕ) (h : Fin 8) : rowAt P n ⟨4096 + h.val, by omega⟩ ≠ ⊤ := by
  unfold rowAt
  split
  · exact H.s _ _
  · exact EReal.zero_ne_top

theorem fin_xpad (n : ℕ) (e : Fin 3072) : Fin' (xpad P n e) := by
  unfold xpad
  split
  · exact fin_rowAt H _ _ e.isLt
  · exact fin_zero

theorem fin_taps (t : ℕ) (e : Fin 3072) : Fin' (taps P C t e) :=
  fin_add (fin_add (fin_add (fin_mul (H.c _ _) (fin_xpad H _ _)) (fin_mul (H.c _ _) (fin_xpad H _ _))) (fin_mul (H.c _ _) (fin_xpad H _ _)))
    (fin_mul (H.c _ _) (fin_xpad H _ _))

theorem fin_yv (t : ℕ) (e : Fin 3072) : Fin' (yv P C t e) := fin_silu (fin_taps H t e)

theorem fin_sc : Fin' sc := by
  obtain ⟨r, _, h⟩ := sc_eq
  exact ⟨r, h⟩

theorem qv_real (h : Fin 8) (t : ℕ) (d : Fin 128) : qv P C h t d = ((qR P C h t d : ℝ) : EReal) :=
  real_of (fin_mul (fin_yv H _ _) (fin_mul (fin_unitF fun _ => fin_yv H _ _) (fin_sc H)))
theorem kv_real (h : Fin 8) (t : ℕ) (d : Fin 128) : kv P C h t d = ((kR P C h t d : ℝ) : EReal) :=
  real_of (fin_mul (fin_yv H _ _) (fin_unitF fun _ => fin_yv H _ _))
theorem vv_real (h : Fin 8) (e : Fin 128) (t : ℕ) : vv P C h e t = ((vR P C h e t : ℝ) : EReal) := real_of (fin_yv H _ _)
theorem gv_real (h : Fin 8) (t : ℕ) : gv P A D h t = ((gR P A D h t : ℝ) : EReal) :=
  real_of (fin_decay (H.a h) (rowAt_ne_top H _ _) (H.d h))
theorem bv_real (h : Fin 8) (t : ℕ) : bv P h t = ((bR P h t : ℝ) : EReal) := real_of (fin_gate _)
end

end GdnMath

end
-- ==== Proof.Gdn.Block.lean ====
/- What the grid points of the gated delta rule read: each window's block at an index, as the argument arrays at an index. -/
module

public import proofs.«01_k».proof.Proof.Gdn.Spec

@[expose] public section

set_option maxRecDepth 16384

noncomputable section

namespace Cert.Kernel7Ideal.Gdn

open Cert.Kernel7Ideal Cert.Kernel7Ideal.Gen Idealize.ShloMosaic Idealize.ShloMosaic.TcCoe Idealize.SL.Sem
open AttMath GdnMath

theorem points : cfg0.N = 64 := N_0

/-- Where each window's block begins, over the whole grid. -/
theorem starts : ∀ t : Fin cfg0.N,
    (win0_0.index t (0 : Fin 2) = t.val ∧ win0_0.index t (1 : Fin 2) = 0)
    ∧ (win0_1.index t (0 : Fin 2) = t.val ∧ win0_1.index t (1 : Fin 2) = 3)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

variable (m : (ℓ : Loc nD τ sig) → Buf (Elt Ideal) ℓ) (c : Dev nD)

/-- The argument arrays, by their indices. -/
def argP (r : Fin 8192) (n : Fin 11280) : EReal := (m ((c : Thread nD τ).loc main_arg0) : Vec Ideal S8192x11280 .f32) (ix2 r n)
def argC (r : Fin 4) (n : Fin 3072) : EReal := (m ((c : Thread nD τ).loc main_arg1) : Vec Ideal S4x3072 .f32) (ix2 r n)
def argA (h : Fin 8) : EReal := (m ((c : Thread nD τ).loc main_arg2) : Vec Ideal S8 .f32) (ix1 h)
def argD (h : Fin 8) : EReal := (m ((c : Thread nD τ).loc main_arg3) : Vec Ideal S8 .f32) (ix1 h)
def argW (d : Fin 128) : EReal := (m ((c : Thread nD τ).loc main_arg4) : Vec Ideal S128 .f32) (ix1 d)

/-- The projected columns as they are packed for the call. -/
def packed (x : Vec Ideal S8192x11280 .f32) : Vec Ideal S8192x11264 .bf16 :=
  truncf (F := Ideal) .bf16 (concatenate S8192x11264 1
    [⟨S8192x4096, extractStridedSlice S8192x4096 ![0, 0] x slices_S8192x11280_S8192x4096_0_0⟩,
     ⟨S8192x4096, extractStridedSlice S8192x4096 ![0, 7184] x slices_S8192x11280_S8192x4096_0_7184⟩,
     ⟨S8192x3072, extractStridedSlice S8192x3072 ![0, 4112] x slices_S8192x11280_S8192x3072_0_4112⟩]
    concatenates_S8192x4096_S8192x4096_S8192x3072_S8192x11264_d1) bitsLt_bf16_f32

theorem host_P : (V m c main_v4 : Vec Ideal S8192x11264 .bf16) = packed (m ((c : Thread nD τ).loc main_arg0)) := rfl

theorem packed_apply (r : Fin 8192) (d : Fin 4096) :
    packed (m ((c : Thread nD τ).loc main_arg0)) (ix2 r ⟨d.val, by omega⟩) = argP m c r ⟨d.val, by omega⟩ := by
  unfold packed argP
  pointwise

/-- The decays' and gates' columns, padded on the right. -/
theorem host_AB (r : Fin 8192) (j : Fin 16) :
    (V m c main_v6 : Vec Ideal S8192x128 .f32) (ix2 r ⟨j.val, by omega⟩) = argP m c r ⟨4096 + j.val, by omega⟩ := by
  unfold argP
  show pad S8192x128 ![0, 0] ![0, 112] ![0, 0] (extractStridedSlice S8192x16 ![0, 4096] (m ((c : Thread nD τ).loc main_arg0) : Vec Ideal S8192x11280 .f32) slices_S8192x11280_S8192x16_0_4096) (sitofp (F := Ideal) .f32 (constantI S_ 32 0#32)) pads_S8192x16_S8192x128_000_01120 h_S_ (ix2 r _) = _
  pointwise

theorem host_A (j : Fin 8) : (V m c main_v8 : Vec Ideal S1x128 .f32) (ix2 0 ⟨j.val, by omega⟩) = argA m c j := by
  unfold argA
  show pad S1x128 ![0, 0] ![0, 120] ![0, 0] (shapeCast S1x8 (m ((c : Thread nD τ).loc main_arg2) : Vec Ideal S8 .f32) shapeCasts_S8_S1x8) (sitofp (F := Ideal) .f32 (constantI S_ 32 0#32)) pads_S1x8_S1x128_000_01200 h_S_ (ix2 0 _) = _
  pointwise

theorem host_D (j : Fin 8) : (V m c main_v10 : Vec Ideal S1x128 .f32) (ix2 0 ⟨j.val, by omega⟩) = argD m c j := by
  unfold argD
  show pad S1x128 ![0, 0] ![0, 120] ![0, 0] (shapeCast S1x8 (m ((c : Thread nD τ).loc main_arg3) : Vec Ideal S8 .f32) shapeCasts_S8_S1x8) (sitofp (F := Ideal) .f32 (constantI S_ 32 0#32)) pads_S1x8_S1x128_000_01200 h_S_ (ix2 0 _) = _
  pointwise

theorem host_W (d : Fin 128) : (V m c main_v11 : Vec Ideal S1x128 .f32) (ix2 0 d) = argW m c d := by
  unfold argW
  show shapeCast S1x128 (m ((c : Thread nD τ).loc main_arg4) : Vec Ideal S128 .f32) _ (ix2 0 d) = _
  pointwise

theorem row_lt (t : Fin cfg0.N) (i : Fin 128) : 128 * t.val + i.val < 8192 := by have := t.isLt; have := points; omega

theorem blk_x (t : Fin cfg0.N) (i : Fin 128) (e : Fin 3072) :
    (X0_0 m c t : Vec Ideal S128x3072 .bf16) (ix2 i e) = argP m c ⟨128 * t.val + i.val, row_lt t i⟩ ⟨e.val, by omega⟩ := by
  have hi := (starts t).1
  refine Eq.trans ?_ (packed_apply m c ⟨128 * t.val + i.val, row_lt t i⟩ ⟨e.val, by omega⟩)
  unfold X0_0 Pipeline.Window.fill
  rw [dif_pos (moved0_0 t _)]
  unfold iblk
  rw [View.read_apply]
  show V m c main_v4 _ = _
  rw [host_P]
  congr 1
  funext a
  apply Fin.ext
  match a with
  | ⟨0, _⟩ => show win0_0.index t 0 * 128 + 1 * i.val = 128 * t.val + i.val; rw [hi.1]; omega
  | ⟨1, _⟩ => show win0_0.index t 1 * 3072 + 1 * e.val = e.val; rw [hi.2]; omega

theorem blk_z (t : Fin cfg0.N) (i : Fin 128) (e : Fin 1024) :
    (iblk m c 1 t : Vec Ideal S128x1024 .bf16) (ix2 i e) = argP m c ⟨128 * t.val + i.val, row_lt t i⟩ ⟨3072 + e.val, by omega⟩ := by
  have hi := (starts t).2.1
  refine Eq.trans ?_ (packed_apply m c ⟨128 * t.val + i.val, row_lt t i⟩ ⟨3072 + e.val, by omega⟩)
  unfold iblk
  rw [View.read_apply]
  show V m c main_v4 _ = _
  rw [host_P]
  congr 1
  funext a
  apply Fin.ext
  match a with
  | ⟨0, _⟩ => show win0_1.index t 0 * 128 + 1 * i.val = 128 * t.val + i.val; rw [hi.1]; omega
  | ⟨1, _⟩ => show win0_1.index t 1 * 1024 + 1 * e.val = 3072 + e.val; rw [hi.2]; omega

theorem blk_ab (t : Fin cfg0.N) (i : Fin 128) (j : Fin 16) :
    (iblk m c 2 t : Vec Ideal S128x128 .f32) (ix2 i ⟨j.val, by omega⟩) = argP m c ⟨128 * t.val + i.val, row_lt t i⟩ ⟨4096 + j.val, by omega⟩ := by
  have hi := (starts t).2.2.1
  rw [← host_AB]
  unfold iblk
  rw [View.read_apply]
  show V m c main_v6 _ = _
  congr 1
  funext a
  apply Fin.ext
  match a with
  | ⟨0, _⟩ => show win0_2.index t 0 * 128 + 1 * i.val = 128 * t.val + i.val; rw [hi.1]; omega
  | ⟨1, _⟩ => show win0_2.index t 1 * 128 + 1 * j.val = j.val; rw [hi.2]; omega

theorem blk_c (t : Fin cfg0.N) (r : Fin 4) (e : Fin 3072) : (iblk m c 3 t : Vec Ideal S4x3072 .f32) (ix2 r e) = argC m c r e := by
  have hi := (starts t).2.2.2.1
  unfold argC
  unfold iblk
  rw [View.read_apply]
  show V m c main_arg1 _ = _
  rw [V_main_arg1]
  congr 1
  funext a
  apply Fin.ext
  match a with
  | ⟨0, _⟩ => show win0_3.index t 0 * 4 + 1 * r.val = r.val; rw [hi.1]; omega
  | ⟨1, _⟩ => show win0_3.index t 1 * 3072 + 1 * e.val = e.val; rw [hi.2]; omega

theorem blk_a (t : Fin cfg0.N) (h : Fin 8) : (iblk m c 4 t : Vec Ideal S1x128 .f32) (ix2 0 ⟨h.val, by omega⟩) = argA m c h := by
  have hi := (starts t).2.2.2.2.1
  rw [← host_A]
  unfold iblk
  rw [View.read_apply]
  show V m c main_v8 _ = _
  congr 1
  funext a
  apply Fin.ext
  match a with
  | ⟨0, _⟩ => show win0_4.index t 0 * 1 + 1 * 0 = 0; rw [hi.1]
  | ⟨1, _⟩ => show win0_4.index t 1 * 128 + 1 * h.val = h.val; rw [hi.2]; omega

theorem blk_d (t : Fin cfg0.N) (h : Fin 8) : (iblk m c 5 t : Vec Ideal S1x128 .f32) (ix2 0 ⟨h.val, by omega⟩) = argD m c h := by
  have hi := (starts t).2.2.2.2.2.1
  rw [← host_D]
  unfold iblk
  rw [View.read_apply]
  show V m c main_v10 _ = _
  congr 1
  funext a
  apply Fin.ext
  match a with
  | ⟨0, _⟩ => show win0_5.index t 0 * 1 + 1 * 0 = 0; rw [hi.1]
  | ⟨1, _⟩ => show win0_5.index t 1 * 128 + 1 * h.val = h.val; rw [hi.2]; omega

theorem blk_w (t : Fin cfg0.N) (d : Fin 128) : (iblk m c 6 t : Vec Ideal S1x128 .f32) (ix2 0 d) = argW m c d := by
  have hi := (starts t).2.2.2.2.2.2
  rw [← host_W]
  unfold iblk
  rw [View.read_apply]
  show V m c main_v11 _ = _
  congr 1
  funext a
  apply Fin.ext
  match a with
  | ⟨0, _⟩ => show win0_6.index t 0 * 1 + 1 * 0 = 0; rw [hi.1]
  | ⟨1, _⟩ => show win0_6.index t 1 * 128 + 1 * d.val = d.val; rw [hi.2]; omega

end Cert.Kernel7Ideal.Gdn

end
-- ==== Proof.Gdn.Fold.lean ====
/- What the tail, the state and the output block hold after each block of tokens, and the array the call ends with. -/
module

public import proofs.«01_k».proof.Proof.Gdn.Open
public import proofs.«01_k».proof.Proof.Gdn.Real
public import proofs.«01_k».proof.Proof.Gdn.Heads
public import proofs.«01_k».proof.Proof.Gdn.Block

@[expose] public section

set_option maxRecDepth 16384

noncomputable section

namespace Cert.Kernel7Ideal.Gdn

open Cert.Kernel7Ideal Cert.Kernel7Ideal.Gen Idealize.ShloMosaic Idealize.ShloMosaic.TcCoe Idealize.SL.Sem
open AttMath GdnMath

variable (m : (ℓ : Loc nD τ sig) → Buf (Elt Ideal) ℓ) (c : Dev nD)

/-- The last eight rows before block `n`; zero before the first. -/
def tailOk (n : ℕ) (t : Vec Ideal S8x3072 .f32) : Prop :=
  ∀ (r : Fin 8) (e : Fin 3072), t (ix2 r e) = if 8 ≤ 128 * n + r.val then rowAt (argP m c) (128 * n + r.val - 8) ⟨e.val, by omega⟩ else 0

/-- The state before block `n`. -/
def stateOk (n : ℕ) (s : Vec Ideal S1024x128 .f32) : Prop :=
  ∀ (h : Fin 8) (d e : Fin 128), s (ix2 ⟨128 * h.val + d.val, by omega⟩ e)
    = ((stR (argP m c) (argC m c) (argA m c) (argD m c) h e (128 * n) d : ℝ) : EReal)

theorem row_at (t : Fin cfg0.N) (i : Fin 128) (e : Fin 11280) :
    rowAt (argP m c) (128 * t.val + i.val) e = argP m c ⟨128 * t.val + i.val, row_lt t i⟩ e := dif_pos _

theorem ext_at (t : Fin cfg0.N) (tl : Vec Ideal S8x3072 .f32) (ht : tailOk m c t.val tl) (j n : ℕ) (h5 : 5 ≤ j) (hj : j < 136) (e : Fin 3072)
    (hn : n = 128 * t.val + j - 5) : ext (X0_0 m c t) tl j e = xpad (argP m c) n e := by
  subst hn
  unfold ext xpad
  by_cases h8 : j < 8
  · rw [dif_pos h8, ht]
    dsimp only
    by_cases h : 8 ≤ 128 * t.val + j
    · rw [if_pos h, if_pos (by omega), show 128 * t.val + j - 5 - 3 = 128 * t.val + j - 8 by omega]
    · rw [if_neg h, if_neg (by omega)]
  · rw [dif_neg h8, dif_pos (by omega : j - 8 < 128), if_pos (by omega), blk_x,
      show 128 * t.val + j - 5 - 3 = 128 * t.val + (⟨j - 8, by omega⟩ : Fin 128).val by dsimp only; omega, row_at]

section
variable (t : Fin cfg0.N) (tl : Vec Ideal S8x3072 .f32)

abbrev yOf : FVec Ideal S128x3072 .f32 := k0_pay6 (X0_0 m c t) tl (iblk m c 3 t : Vec Ideal S4x3072 .f32)
abbrev gOf : FVec Ideal S128x128 .f32 :=
  k0_pay8 (iblk m c 2 t : Vec Ideal S128x128 .f32) (iblk m c 4 t : Vec Ideal S1x128 .f32) (iblk m c 5 t : Vec Ideal S1x128 .f32)
abbrev bOf : FVec Ideal S128x128 .f32 := k0_pay9 (iblk m c 2 t : Vec Ideal S128x128 .f32)

variable (ht : tailOk m c t.val tl)
include ht

theorem y_at (i : Fin 128) (e : Fin 3072) : yOf m c t tl (ix2 i e) = yv (argP m c) (argC m c) (128 * t.val + i.val) e := by
  unfold yOf yv taps
  have hi := i.isLt
  rw [conv_apply, ext_at m c t tl ht (i.val + 5) (128 * t.val + i.val) (by omega) (by omega) e (by omega),
    ext_at m c t tl ht (i.val + 6) (128 * t.val + i.val + 1) (by omega) (by omega) e (by omega),
    ext_at m c t tl ht (i.val + 7) (128 * t.val + i.val + 2) (by omega) (by omega) e (by omega),
    ext_at m c t tl ht (i.val + 8) (128 * t.val + i.val + 3) (by omega) (by omega) e (by omega), blk_c, blk_c, blk_c, blk_c]

variable (H : Fins (argP m c) (argC m c) (argA m c) (argD m c))
include H

theorem rows (h : Fin 8) : Rows (yOf m c t tl) (gOf m c t) (bOf m c t) h (kR (argP m c) (argC m c) h) (qR (argP m c) (argC m c) h)
    (bR (argP m c) h) (gR (argP m c) (argA m c) (argD m c) h) (vR (argP m c) (argC m c) h) (128 * t.val) where
  q i d := by
    rw [← qv_real H]
    unfold hQ qv unitF cQ
    rw [unitQ_apply]
    simp only [rawQ_apply, y_at m c t tl ht]
  k i d := by
    rw [← kv_real H]
    unfold hK kv unitF cK
    rw [unitK_apply]
    simp only [rawK_apply, y_at m c t tl ht]
  v i e := by
    rw [← vv_real H, rawV_apply, y_at m c t tl ht]
    rfl
  b i := by
    rw [← bv_real H, hB_apply]
    unfold bOf bv
    rw [pay9_apply, blk_ab m c t i ⟨8 + h.val, by omega⟩, ← row_at]
    rw [show (⟨4096 + (8 + h.val), by omega⟩ : Fin 11280) = ⟨4104 + h.val, by omega⟩ from Fin.ext (by dsimp only; omega)]
  g i := by
    rw [← gv_real H]
    unfold gOf gv
    rw [pay8_apply, blk_a, blk_d, blk_ab m c t i ⟨h.val, by omega⟩, ← row_at]

/-- One block of tokens: its output, the tail and the state it leaves. -/
theorem point (s : Vec Ideal S1024x128 .f32) (hs : stateOk m c t.val s) :
    (∀ (h : Fin 8) (i e : Fin 128), blockOut (yOf m c t tl) (gOf m c t) (bOf m c t) s (iblk m c 6 t : Vec Ideal S1x128 .f32)
        (iblk m c 1 t : Vec Ideal S128x1024 .bf16) (ix2 i ⟨128 * h.val + e.val, by omega⟩)
        = resultAt (argP m c) (argC m c) (argA m c) (argD m c) (argW m c) h (128 * t.val + i.val) e)
      ∧ tailOk m c (t.val + 1) (k0_pay5 (X0_0 m c t))
      ∧ stateOk m c (t.val + 1) (stateNext (yOf m c t tl) (gOf m c t) (bOf m c t) s) := by
  refine ⟨fun h i e => ?_, fun r e => ?_, fun h d e => ?_⟩
  · rw [blockOut_apply, normed_apply, gate_apply, blk_z m c t i ⟨128 * h.val + e.val, by omega⟩, ← row_at]
    unfold resultAt silu outR
    rw [show (fun d => hO (yOf m c t tl) (gOf m c t) (bOf m c t) h s (ix2 i d)) = _ from funext fun d => o_real (rows m c t tl ht H h) (fun d e => hs h d e) i d,
      show (fun d => (iblk m c 6 t : Vec Ideal S1x128 .f32) (ix2 0 d)) = argW m c from funext fun d => blk_w m c t d]
  · have hr := r.isLt
    rw [tail_apply, blk_x, ← row_at, if_pos (by omega)]
    rw [show 128 * (t.val + 1) + r.val - 8 = 128 * t.val + (120 + r.val) by omega]
  · rw [stateNext_apply, s2_real (rows m c t tl ht H h) (fun d e => hs h d e)]
    rfl
end

/-- What is to hold after point `n` of the output block, the tail and the state. -/
def Held (n : ℕ) (u : Vec Ideal S128x1024 .bf16 × Vec Ideal S8x3072 .f32 × Vec Ideal S1024x128 .f32) : Prop :=
  (∀ (h : Fin 8) (i e : Fin 128), u.1 (ix2 i ⟨128 * h.val + e.val, by omega⟩)
      = resultAt (argP m c) (argC m c) (argA m c) (argD m c) (argW m c) h (128 * n + i.val) e)
    ∧ tailOk m c (n + 1) u.2.1 ∧ stateOk m c (n + 1) u.2.2

theorem tail_start : tailOk m c 0 (k0_pay2 : FVec Ideal S8x3072 .f32) := fun r e => by
  rw [tail0_apply, if_neg (by omega)]

theorem state_start : stateOk m c 0 (k0_pay3 : FVec Ideal S1024x128 .f32) := fun h d e => by
  rw [state0_zero]
  rfl

section
variable (H : Fins (argP m c) (argC m c) (argA m c) (argD m c))
include H

theorem held_first (t : Fin cfg0.N) (h0 : t.val % 64 = 0) : Held m c t.val (outsAt0 m c t.val t.isLt) := by
  have ht : t.val = 0 := by have := t.isLt; have := points; omega
  rw [outsAt0_A m c t h0, out_first, tail_first, state_first]
  exact point m c t (k0_pay2 : FVec Ideal S8x3072 .f32) (by rw [ht]; exact tail_start m c) H (k0_pay3 : FVec Ideal S1024x128 .f32) (by rw [ht]; exact state_start m c)

theorem held_later (t : Fin cfg0.N) (h0 : ¬t.val % 64 = 0) (hb : t.val - 1 < cfg0.N)
    (ih : Held m c (t.val - 1) (outsAt0 m c (t.val - 1) hb)) : Held m c t.val (outsAt0 m c t.val t.isLt) := by
  have h1 : t.val - 1 + 1 = t.val := by omega
  obtain ⟨-, i1, i2⟩ := ih
  rw [h1] at i1 i2
  rw [outsAt0_B m c t h0, out_later, tail_later, state_later]
  exact point m c t _ i1 H _ i2

theorem held : ∀ (n : ℕ) (hn : n < cfg0.N), Held m c n (outsAt0 m c n hn) := by
  intro n
  induction n with
  | zero => exact fun hn => held_first m c H ⟨0, hn⟩ (Nat.zero_mod _)
  | succ n ih =>
    intro hn
    have := points
    exact held_later m c H ⟨n + 1, hn⟩ (by dsimp only; omega) (Nat.lt_of_succ_lt hn) (ih _)

/-- The array the call ends with, at an index. -/
theorem result_apply (h : Fin 8) (r : Fin 8192) (e : Fin 128) :
    (Value.G7 m c : Vec Ideal S8192x1024 .bf16) (ix2 r ⟨128 * h.val + e.val, by omega⟩)
      = resultAt (argP m c) (argC m c) (argA m c) (argD m c) (argW m c) h r.val e := by
  have hN := points
  have hr := r.isLt
  have he := e.isLt
  have hh := h.isLt
  have hp : Value.pt7Of (ix2 r ⟨128 * h.val + e.val, by omega⟩) = r.val / 128 := by
    show 1 * (r.val / 128 - 0) + 1 * ((128 * h.val + e.val) / 1024 - 0) = _
    omega
  have hlt : r.val / 128 < cfg0.N := by omega
  have hl : Value.loc7Of (ix2 r ⟨128 * h.val + e.val, by omega⟩) = ix2 ⟨r.val % 128, Nat.mod_lt _ (by decide)⟩ ⟨128 * h.val + e.val, by omega⟩ := by
    funext a; apply Fin.ext
    match a with
    | ⟨0, _⟩ => rfl
    | ⟨1, _⟩ => show (128 * h.val + e.val) % 1024 = 128 * h.val + e.val; omega
  unfold Value.G7
  rw [dif_pos (by rw [hp]; exact hlt), ← Value.outsAt0_sweep m c _ (by rw [hp]; exact hlt), hl]
  refine ((held m c H _ (by rw [hp]; exact hlt : Value.pt7Of (ix2 r ⟨128 * h.val + e.val, by omega⟩) < cfg0.N)).1 h
    ⟨r.val % 128, Nat.mod_lt _ (by decide)⟩ e).trans ?_
  rw [hp]
  exact congrArg (fun n => resultAt (argP m c) (argC m c) (argA m c) (argD m c) (argW m c) h n e) (by dsimp only; omega)
end

end Cert.Kernel7Ideal.Gdn

end
-- ==== Proof.Gdn.Entry.lean ====
/- What the reference's loop starts from, as expressions of the argument arrays, and those read at an index. -/
module

public import proofs.«01_k».proof.Proof.Gen.Reference7Ideal.Run
public import proofs.«01_k».proof.Proof.Gdn.Spec
public import Idealize.ShloMosaic.Lib.Pointwise

@[expose] public section

set_option maxRecDepth 16384

noncomputable section

namespace Cert.Reference7Ideal.Gdn

open Cert.Reference7Ideal Cert.Reference7Ideal.Gen Cert.Reference7Ideal.Value Idealize.ShloMosaic Idealize.ShloMosaic.TcCoe Idealize.SL.Sem
open Idealize.ShloMosaic.StableHlo Idealize.ShloMosaic.HostLoop Idealize.ShloMosaic.Tactic
open AttMath GdnMath
open Cert.Kernel7Ideal.Gdn (silu decayLog)

section
variable {F : FTy → Type} [FloatOps F]

/-! ## The expressions -/

def padded (P : FVec F S8192x11280 .f32) : FVec F S8195x3072 .f32 :=
  pad S8195x3072 ![3, 0] ![0, 0] ![0, 0] (extractStridedSlice S8192x3072 ![0, 0] P slices_S8192x11280_S8192x3072_0_0)
    (sitofp .f32 (constantI S_ 32 0#32)) pads_S8192x3072_S8195x3072_300_000 h_S_

def coef (C : FVec F S1x3072 .f32) : FVec F S8192x3072 .f32 :=
  broadcastInDim S8192x3072 ![0, 1] bcast_S1x3072_S8192x3072_0_1 (broadcastInDim S1x3072 ![1] bcast_S3072_S1x3072_1
    (shapeCast S3072 C shapeCasts_S1x3072_S3072))

def convOf (x : FVec F S8195x3072 .f32) (C : FVec F S4x3072 .f32) : FVec F S8192x3072 .f32 :=
  addf (addf (addf
    (mulf (coef (extractStridedSlice S1x3072 ![0, 0] C slices_S4x3072_S1x3072_0_0)) (extractStridedSlice S8192x3072 ![0, 0] x slices_S8195x3072_S8192x3072_0_0))
    (mulf (coef (extractStridedSlice S1x3072 ![1, 0] C slices_S4x3072_S1x3072_1_0)) (extractStridedSlice S8192x3072 ![1, 0] x slices_S8195x3072_S8192x3072_1_0)))
    (mulf (coef (extractStridedSlice S1x3072 ![2, 0] C slices_S4x3072_S1x3072_2_0)) (extractStridedSlice S8192x3072 ![2, 0] x slices_S8195x3072_S8192x3072_2_0)))
    (mulf (coef (extractStridedSlice S1x3072 ![3, 0] C slices_S4x3072_S1x3072_3_0)) (extractStridedSlice S8192x3072 ![3, 0] x slices_S8195x3072_S8192x3072_3_0))

def actOf (x : FVec F S8192x3072 .f32) : FVec F S8192x3072 .f32 :=
  Host.divf x (addf (broadcastInDim S8192x3072 ![] bcast_S_S8192x3072 (constant S_ .f32 0x3F800000#32)) (Host.exp (Host.negf x)))

def yOf (P : FVec F S8192x11280 .f32) (C : FVec F S4x3072 .f32) : FVec F S8192x3072 .f32 := actOf (convOf (padded P) C)

/-- A row over the norm of its vector. -/
def unitOf (x : FVec F S8192x8x128 .f32) : FVec F S8192x8x128 .f32 :=
  mulf x (broadcastInDim S8192x8x128 ![0, 1, 2] bcast_S8192x8x1_S8192x8x128_0_1_2 (Host.rsqrt (addf
    (broadcastInDim S8192x8x1 ![0, 1] bcast_S8192x8_S8192x8x1_0_1 (Host.reduceAdd (mulf x x) (constant S_ .f32 0x00000000#32) reducesTo_S8192x8x128_S8192x8_d2 h_S_))
    (broadcastInDim S8192x8x1 ![] bcast_S_S8192x8x1 (constant S_ .f32 0x358637BD#32)))))

def headQ (y : FVec F S8192x3072 .f32) : FVec F S8192x8x128 .f32 :=
  shapeCast S8192x8x128 (extractStridedSlice S8192x1024 ![0, 0] y slices_S8192x3072_S8192x1024_0_0) shapeCasts_S8192x1024_S8192x8x128
def headK (y : FVec F S8192x3072 .f32) : FVec F S8192x8x128 .f32 :=
  shapeCast S8192x8x128 (extractStridedSlice S8192x1024 ![0, 1024] y slices_S8192x3072_S8192x1024_0_1024) shapeCasts_S8192x1024_S8192x8x128
def headV (y : FVec F S8192x3072 .f32) : FVec F S8192x8x128 .f32 :=
  shapeCast S8192x8x128 (extractStridedSlice S8192x1024 ![0, 2048] y slices_S8192x3072_S8192x1024_0_2048) shapeCasts_S8192x1024_S8192x8x128

def entQ (P : FVec F S8192x11280 .f32) (C : FVec F S4x3072 .f32) : FVec F S8192x8x128 .f32 :=
  mulf (unitOf (headQ (yOf P C))) (broadcastInDim S8192x8x128 ![] bcast_S_S8192x8x128 (constant S_ .f32 0x3DB504F3#32))
def entK (P : FVec F S8192x11280 .f32) (C : FVec F S4x3072 .f32) : FVec F S8192x8x128 .f32 := unitOf (headK (yOf P C))
def entV (P : FVec F S8192x11280 .f32) (C : FVec F S4x3072 .f32) : FVec F S8192x8x128 .f32 := headV (yOf P C)

def dtOf (P : FVec F S8192x11280 .f32) (D : FVec F S8 .f32) : FVec F S8192x8 .f32 :=
  addf (extractStridedSlice S8192x8 ![0, 4096] P slices_S8192x11280_S8192x8_0_4096)
    (broadcastInDim S8192x8 ![0, 1] bcast_S1x8_S8192x8_0_1 (broadcastInDim S1x8 ![1] bcast_S8_S1x8_1 D))

def entG (P : FVec F S8192x11280 .f32) (A D : FVec F S8 .f32) : FVec F S8192x8 .f32 :=
  mulf (broadcastInDim S8192x8 ![0, 1] bcast_S1x8_S8192x8_0_1 (broadcastInDim S1x8 ![1] bcast_S8_S1x8_1 (Host.negf (Host.exp A))))
    (addf (maximumf (dtOf P D) (broadcastInDim S8192x8 ![] bcast_S_S8192x8 (constant S_ .f32 0x00000000#32)))
      (Host.log1p (Host.exp (Host.negf (Host.absf (dtOf P D))))))

def entB (P : FVec F S8192x11280 .f32) : FVec F S8192x8 .f32 :=
  Host.divf (broadcastInDim S8192x8 ![] bcast_S_S8192x8 (constant S_ .f32 0x3F800000#32))
    (addf (broadcastInDim S8192x8 ![] bcast_S_S8192x8 (constant S_ .f32 0x3F800000#32))
      (Host.exp (Host.negf (extractStridedSlice S8192x8 ![0, 4104] P slices_S8192x11280_S8192x8_0_4104))))

variable (m : (ℓ : Loc nD τ sig) → Buf (Elt F) ℓ) (c : Dev nD)

theorem entry_q : entryContents preI m c (Proc.devRef .tc main_v83_0) = entQ (m ((c.tc : Thread nD τ).loc main_arg0)) (m ((c.tc : Thread nD τ).loc main_arg1)) := by
  simp only [entryContents, afterL_cons, afterL_nil]
  after_reads_simp
  rfl
theorem entry_k : entryContents preI m c (Proc.devRef .tc main_v83_1) = entK (m ((c.tc : Thread nD τ).loc main_arg0)) (m ((c.tc : Thread nD τ).loc main_arg1)) := by
  simp only [entryContents, afterL_cons, afterL_nil]
  after_reads_simp
  rfl
theorem entry_v : entryContents preI m c (Proc.devRef .tc main_v83_2) = entV (m ((c.tc : Thread nD τ).loc main_arg0)) (m ((c.tc : Thread nD τ).loc main_arg1)) := by
  simp only [entryContents, afterL_cons, afterL_nil]
  after_reads_simp
  rfl
theorem entry_g : entryContents preI m c (Proc.devRef .tc main_v83_3)
    = entG (m ((c.tc : Thread nD τ).loc main_arg0)) (m ((c.tc : Thread nD τ).loc main_arg2)) (m ((c.tc : Thread nD τ).loc main_arg3)) := by
  simp only [entryContents, afterL_cons, afterL_nil]
  after_reads_simp
  rfl
theorem entry_b : entryContents preI m c (Proc.devRef .tc main_v83_4) = entB (m ((c.tc : Thread nD τ).loc main_arg0)) := by
  simp only [entryContents, afterL_cons, afterL_nil]
  after_reads_simp
  rfl
theorem entry_s : entryContents preI m c (Proc.devRef .tc main_v83_6) = (broadcastInDim S8x128x128 ![] bcast_S_S8x128x128 (constant S_ .f32 0x00000000#32) : FVec F S8x128x128 .f32) := by
  simp only [entryContents, afterL_cons, afterL_nil]
  after_reads_simp
  rfl
end

/-! ## At an index -/

section
variable (P : FVec Ideal S8192x11280 .f32) (C : FVec Ideal S4x3072 .f32) (A D : FVec Ideal S8 .f32)

abbrev pAt (P : FVec Ideal S8192x11280 .f32) (r : Fin 8192) (n : Fin 11280) : EReal := P (ix2 r n)
abbrev cAt (C : FVec Ideal S4x3072 .f32) (r : Fin 4) (n : Fin 3072) : EReal := C (ix2 r n)
abbrev hAt (A : FVec Ideal S8 .f32) (h : Fin 8) : EReal := A (ix1 h)

theorem padded_apply (n : Fin 8195) (e : Fin 3072) : padded P (ix2 n e) = xpad (pAt P) n.val e := by
  unfold xpad rowAt pAt
  have hn := n.isLt
  pointwise [padded]
  by_cases h3 : 3 ≤ n.val
  · rw [dif_pos ⟨h3, by omega⟩, if_pos h3, dif_pos (by omega : n.val - 3 < 8192)]
  · rw [dif_neg (fun h => h3 h.1), if_neg h3]
    show (((0#32 : BitVec 32).toInt : ℝ) : EReal) = 0
    simp

theorem conv_apply (x : FVec Ideal S8195x3072 .f32) (t : Fin 8192) (e : Fin 3072) :
    convOf x C (ix2 t e) = C (ix2 0 e) * x (ix2 ⟨t.val, by omega⟩ e) + C (ix2 1 e) * x (ix2 ⟨1 + t.val, by omega⟩ e)
      + C (ix2 2 e) * x (ix2 ⟨2 + t.val, by omega⟩ e) + C (ix2 3 e) * x (ix2 ⟨3 + t.val, by omega⟩ e) := by
  pointwise [convOf, coef]

theorem act_apply (x : FVec Ideal S8192x3072 .f32) (t : Fin 8192) (e : Fin 3072) :
    actOf x (ix2 t e) = Ideal.div (x (ix2 t e)) (1 + Ideal.exp (-x (ix2 t e))) := by
  pointwise [actOf]

theorem unit_apply (x : FVec Ideal S8192x8x128 .f32) (t : Fin 8192) (h : Fin 8) (d : Fin 128) :
    unitOf x (ix3 t h d) = x (ix3 t h d) * unitF (fun e => x (ix3 t h e)) := by
  unfold unitF
  pointwise [unitOf]

theorem headQ_apply (y : FVec Ideal S8192x3072 .f32) (t : Fin 8192) (h : Fin 8) (d : Fin 128) : headQ y (ix3 t h d) = y (ix2 t (cQ h d)) := by
  unfold cQ
  pointwise [headQ]
  exact congrArg y (congrArg (ix2 t) (Fin.ext (by dsimp only; omega)))
theorem headK_apply (y : FVec Ideal S8192x3072 .f32) (t : Fin 8192) (h : Fin 8) (d : Fin 128) : headK y (ix3 t h d) = y (ix2 t (cK h d)) := by
  unfold cK
  pointwise [headK]
  exact congrArg y (congrArg (ix2 t) (Fin.ext (by dsimp only; omega)))
theorem headV_apply (y : FVec Ideal S8192x3072 .f32) (t : Fin 8192) (h : Fin 8) (d : Fin 128) : headV y (ix3 t h d) = y (ix2 t (cV h d)) := by
  unfold cV
  pointwise [headV]
  exact congrArg y (congrArg (ix2 t) (Fin.ext (by dsimp only; omega)))

theorem entG_apply (t : Fin 8192) (h : Fin 8) : entG P A D (ix2 t h) = gv (pAt P) (hAt A) (hAt D) h t.val := by
  unfold gv decayLog
  rw [show rowAt (pAt P) t.val ⟨4096 + h.val, by omega⟩ = pAt P t ⟨4096 + h.val, by omega⟩ from dif_pos t.isLt]
  pointwise [entG, dtOf]
  rw [zero_sub, zero_sub]
  rfl

theorem entB_apply (t : Fin 8192) (h : Fin 8) : entB P (ix2 t h) = bv (pAt P) h t.val := by
  unfold bv
  rw [show rowAt (pAt P) t.val ⟨4104 + h.val, by omega⟩ = pAt P t ⟨4104 + h.val, by omega⟩ from dif_pos t.isLt]
  pointwise [entB]
  rw [zero_sub]

/-- A number over one plus the exponential of its negation: the activation, at the infinities too. -/
theorem div_silu (x : EReal) : Ideal.div x (1 + Ideal.exp (-x)) = silu x := by
  have h0 : (1 + Ideal.exp (-x)) ≠ 0 := by
    induction x with
    | bot => rw [EReal.neg_bot, Ideal.exp_top, show (1 : EReal) + ⊤ = ⊤ from EReal.coe_add_top 1]; exact EReal.top_ne_zero
    | top => rw [EReal.neg_top, Ideal.exp_bot, add_zero]; exact one_ne_zero
    | coe r =>
      rw [← EReal.coe_neg, Ideal.exp_coe, show (1 : EReal) + ((Real.exp (-r) : ℝ) : EReal) = ((1 + Real.exp (-r) : ℝ) : EReal) from rfl]
      exact EReal.coe_ne_zero.mpr (ne_of_gt (by have := Real.exp_pos (-r); linarith))
  unfold silu Ideal.div
  rw [zero_sub, if_neg h0, if_neg h0, one_mul]

variable {P C A D} (H : Fins (pAt P) (cAt C) (hAt A) (hAt D))
include H

theorem y_apply (t : Fin 8192) (e : Fin 3072) : yOf P C (ix2 t e) = yv (pAt P) (cAt C) t.val e := by
  have hx : convOf (padded P) C (ix2 t e) = taps (pAt P) (cAt C) t.val e := by
    rw [conv_apply, padded_apply, padded_apply, padded_apply, padded_apply]
    unfold taps
    dsimp only
    rw [Nat.add_comm 1, Nat.add_comm 2, Nat.add_comm 3]
  unfold yOf yv
  rw [act_apply, hx, div_silu]

theorem entQ_apply (t : Fin 8192) (h : Fin 8) (d : Fin 128) : entQ P C (ix3 t h d) = qv (pAt P) (cAt C) h t.val d := by
  have hs : entQ P C (ix3 t h d) = unitOf (headQ (yOf P C)) (ix3 t h d) * sc := by
    pointwise [entQ]
  rw [hs, unit_apply]
  unfold qv
  simp only [headQ_apply, y_apply H]
  rw [mul_assoc]

theorem entK_apply (t : Fin 8192) (h : Fin 8) (d : Fin 128) : entK P C (ix3 t h d) = kv (pAt P) (cAt C) h t.val d := by
  unfold entK kv
  rw [unit_apply]
  simp only [headK_apply, y_apply H]

theorem entV_apply (t : Fin 8192) (h : Fin 8) (e : Fin 128) : entV P C (ix3 t h e) = vv (pAt P) (cAt C) h e t.val := by
  unfold entV vv
  rw [headV_apply, y_apply H]
end

end Cert.Reference7Ideal.Gdn

end
-- ==== Proof.Gdn.Reference.lean ====
/- The reference's loop: one trip is one token of the recurrence, and the result is the specification's. -/
module

public import proofs.«01_k».proof.Proof.Gdn.Entry
public import Idealize.ShloMosaic.Lib.WordCmp

@[expose] public section

set_option maxRecDepth 16384

noncomputable section

namespace Cert.Reference7Ideal.Gdn

open Cert.Reference7Ideal Cert.Reference7Ideal.Gen Cert.Reference7Ideal.Value Idealize.ShloMosaic Idealize.ShloMosaic.TcCoe Idealize.SL.Sem
open Idealize.ShloMosaic.StableHlo Idealize.ShloMosaic.HostLoop Idealize.ShloMosaic.Tactic
open AttMath GdnMath
open Cert.Kernel7Ideal.Gdn (silu)

section
variable {F : FTy → Type} [FloatOps F]

/-! ## One trip's expressions -/

abbrev start3 (n : IVec S_ 32) : Fin 3 → Int :=
  fun k => (((![n, constantI S_ 32 0#32, constantI S_ 32 0#32] : Fin 3 → IVec S_ 32)) k (Shape.Idx.first h_S_)).toInt
abbrev start2 (n : IVec S_ 32) : Fin 2 → Int :=
  fun k => (((![n, constantI S_ 32 0#32] : Fin 2 → IVec S_ 32)) k (Shape.Idx.first h_S_)).toInt

/-- Token `n`'s rows, of every head. -/
def row3 (x : FVec F S8192x8x128 .f32) (n : IVec S_ 32) : FVec F S8x128 .f32 :=
  shapeCast S8x128 (Host.dynamicSlice S1x8x128 x (start3 n) sliceFits_S8192x8x128_S1x8x128) shapeCasts_S1x8x128_S8x128
def row2 (x : FVec F S8192x8 .f32) (n : IVec S_ 32) : FVec F S8 .f32 :=
  shapeCast S8 (Host.dynamicSlice S1x8 x (start2 n) sliceFits_S8192x8_S1x8) shapeCasts_S1x8_S8

def decayed (g : FVec F S8 .f32) (s : FVec F S8x128x128 .f32) : FVec F S8x128x128 .f32 :=
  mulf (broadcastInDim S8x128x128 ![0, 1, 2] bcast_S8x1x1_S8x128x128_0_1_2 (broadcastInDim S8x1x1 ![0] bcast_S8_S8x1x1_0 (Host.exp g))) s

/-- The state applied to one row of every head. -/
def against (s : FVec F S8x128x128 .f32) (x : FVec F S8x128 .f32) : FVec F S8x128 .f32 :=
  Host.dotGeneral dot_S8x128x128_S8x128_S8x128_1_1_2_n_0_0 none s x

def nextOf (k v : FVec F S8x128 .f32) (g b : FVec F S8 .f32) (s : FVec F S8x128x128 .f32) : FVec F S8x128x128 .f32 :=
  addf (decayed g s) (mulf
    (broadcastInDim S8x128x128 ![0, 1, 2] bcast_S8x128x1_S8x128x128_0_1_2 (broadcastInDim S8x128x1 ![0, 1] bcast_S8x128_S8x128x1_0_1 k))
    (broadcastInDim S8x128x128 ![0, 1, 2] bcast_S8x1x128_S8x128x128_0_1_2 (broadcastInDim S8x1x128 ![0, 2] bcast_S8x128_S8x1x128_0_2
      (mulf (broadcastInDim S8x128 ![0, 1] bcast_S8x1_S8x128_0_1 (broadcastInDim S8x1 ![0] bcast_S8_S8x1_0 b)) (subf v (against (decayed g s) k))))))

def putRow (o : FVec F S8192x8x128 .f32) (x : FVec F S8x128 .f32) (n : IVec S_ 32) : FVec F S8192x8x128 .f32 :=
  Host.dynamicUpdateSlice o (broadcastInDim S1x8x128 ![1, 2] bcast_S8x128_S1x8x128_1_2 x) (start3 n) updateFits_S8192x8x128_S1x8x128

theorem state_eq (V0 : Valuation τ sig (Elt F)) : step_main_v83_6 V0
    = nextOf (row3 (V0 (Proc.devRef .tc main_v83_1)) (V0 (Proc.devRef .tc main_v83_5))) (row3 (V0 (Proc.devRef .tc main_v83_2)) (V0 (Proc.devRef .tc main_v83_5)))
      (row2 (V0 (Proc.devRef .tc main_v83_3)) (V0 (Proc.devRef .tc main_v83_5))) (row2 (V0 (Proc.devRef .tc main_v83_4)) (V0 (Proc.devRef .tc main_v83_5)))
      (V0 (Proc.devRef .tc main_v83_6)) := rfl

theorem out_eq (V0 : Valuation τ sig (Elt F)) : step_main_v83_7 V0
    = putRow (V0 (Proc.devRef .tc main_v83_7)) (against (step_main_v83_6 V0) (row3 (V0 (Proc.devRef .tc main_v83_0)) (V0 (Proc.devRef .tc main_v83_5))))
      (V0 (Proc.devRef .tc main_v83_5)) := rfl

/-! ## After the loop -/

def normOf (o : FVec F S8192x8x128 .f32) (w : FVec F S128 .f32) : FVec F S8192x8x128 .f32 :=
  mulf (mulf o (broadcastInDim S8192x8x128 ![0, 1, 2] bcast_S8192x8x1_S8192x8x128_0_1_2 (Host.rsqrt (addf (Host.divf
    (broadcastInDim S8192x8x1 ![0, 1] bcast_S8192x8_S8192x8x1_0_1 (Host.reduceAdd (mulf o o) (constant S_ .f32 0x00000000#32) reducesTo_S8192x8x128_S8192x8_d2 h_S_))
    (broadcastInDim S8192x8x1 ![] bcast_S_S8192x8x1 (constant S_ .f32 0x43000000#32)))
    (broadcastInDim S8192x8x1 ![] bcast_S_S8192x8x1 (constant S_ .f32 0x358637BD#32))))))
    (broadcastInDim S8192x8x128 ![0, 1, 2] bcast_S1x1x128_S8192x8x128_0_1_2 (broadcastInDim S1x1x128 ![2] bcast_S128_S1x1x128_2 w))

def finalOf (o : FVec F S8192x8x128 .f32) (w : FVec F S128 .f32) (P : FVec F S8192x11280 .f32) : FVec F S8192x1024 .bf16 :=
  truncf .bf16 (mulf (shapeCast S8192x1024 (normOf o w) shapeCasts_S8192x8x128_S8192x1024)
    (Host.divf (extractStridedSlice S8192x1024 ![0, 3072] P slices_S8192x11280_S8192x1024_0_3072)
      (addf (broadcastInDim S8192x1024 ![] bcast_S_S8192x1024 (constant S_ .f32 0x3F800000#32))
        (Host.exp (Host.negf (extractStridedSlice S8192x1024 ![0, 3072] P slices_S8192x11280_S8192x1024_0_3072)))))) bitsLt_bf16_f32

theorem final_eq (V0 : Valuation τ sig (Elt F)) : out_main_v105 V0
    = finalOf (V0 (Proc.devRef .tc main_v83_7)) (V0 (Proc.devRef .tc main_arg4)) (V0 (Proc.devRef .tc main_arg0)) := rfl
end

/-! ## At an index -/

/-- The counter at trip `t`. -/
abbrev word (t : ℕ) : IVec S_ 32 := fun _ => BitVec.ofNat 32 t

theorem fits3 (t : Fin 8192) : S8192x8x128.Slices ![t.val, 0, 0] S1x8x128 :=
  ⟨rfl, fun a => by
    have := t.isLt
    match a with
    | ⟨0, _⟩ => show t.val + 1 ≤ 8192; omega
    | ⟨1, _⟩ => show 0 + 8 ≤ 8; omega
    | ⟨2, _⟩ => show 0 + 128 ≤ 128; omega⟩
theorem fits2 (t : Fin 8192) : S8192x8.Slices ![t.val, 0] S1x8 :=
  ⟨rfl, fun a => by
    have := t.isLt
    match a with
    | ⟨0, _⟩ => show t.val + 1 ≤ 8192; omega
    | ⟨1, _⟩ => show 0 + 8 ≤ 8; omega⟩

theorem starts3 (t : Fin 8192) (a : Fin 3) : start3 (word t.val) a = ((![t.val, 0, 0] : Fin 3 → ℕ) a : Int) := by
  have := t.isLt
  match a with
  | ⟨0, _⟩ => exact WordCmp.toInt_ofNat_of_lt (by norm_num; omega)
  | ⟨1, _⟩ => rfl
  | ⟨2, _⟩ => rfl
theorem starts2 (t : Fin 8192) (a : Fin 2) : start2 (word t.val) a = ((![t.val, 0] : Fin 2 → ℕ) a : Int) := by
  have := t.isLt
  match a with
  | ⟨0, _⟩ => exact WordCmp.toInt_ofNat_of_lt (by norm_num; omega)
  | ⟨1, _⟩ => rfl

theorem row3_apply (x : FVec Ideal S8192x8x128 .f32) (t : Fin 8192) (h : Fin 8) (d : Fin 128) : row3 x (word t.val) (ix2 h d) = x (ix3 t h d) := by
  unfold row3
  rw [WordCmp.dynamicSlice_eq_extract _ _ _ _ _ (fits3 t) (starts3 t)]
  pointwise
theorem row2_apply (x : FVec Ideal S8192x8 .f32) (t : Fin 8192) (h : Fin 8) : row2 x (word t.val) (ix1 h) = x (ix2 t h) := by
  unfold row2
  rw [WordCmp.dynamicSlice_eq_extract _ _ _ _ _ (fits2 t) (starts2 t)]
  pointwise

theorem decayed_apply (g : FVec Ideal S8 .f32) (s : FVec Ideal S8x128x128 .f32) (h : Fin 8) (d e : Fin 128) :
    decayed g s (ix3 h d e) = Ideal.exp (g (ix1 h)) * s (ix3 h d e) := by
  pointwise [decayed]

theorem against_apply (s : FVec Ideal S8x128x128 .f32) (x : FVec Ideal S8x128 .f32) (h : Fin 8) (e : Fin 128) :
    against s x (ix2 h e) = ∑ d : Fin 128, s (ix3 h d e) * x (ix2 h d) := by
  pointwise [against]

theorem next_apply (k v : FVec Ideal S8x128 .f32) (g b : FVec Ideal S8 .f32) (s : FVec Ideal S8x128x128 .f32) (h : Fin 8) (d e : Fin 128) :
    nextOf k v g b s (ix3 h d e) = decayed g s (ix3 h d e) + k (ix2 h d) * (b (ix1 h) * (v (ix2 h e) - against (decayed g s) k (ix2 h e))) := by
  pointwise [nextOf]

theorem put_apply (o : FVec Ideal S8192x8x128 .f32) (x : FVec Ideal S8x128 .f32) (t r : Fin 8192) (h : Fin 8) (e : Fin 128) :
    putRow o x (word t.val) (ix3 r h e) = if r.val = t.val then x (ix2 h e) else o (ix3 r h e) := by
  unfold putRow
  rw [WordCmp.dynamicUpdateSlice_eq_update _ _ _ _ _ (fits3 t) (starts3 t)]
  pointwise
  by_cases hr : r.val = t.val
  · rw [if_pos hr, dif_pos (by omega)]
  · rw [if_neg hr, dif_neg (by omega)]

theorem norm_apply (o : FVec Ideal S8192x8x128 .f32) (w : FVec Ideal S128 .f32) (r : Fin 8192) (h : Fin 8) (e : Fin 128) :
    normOf o w (ix3 r h e) = nrm (fun d => o (ix3 r h d)) (fun d => w (ix1 d)) e := by
  unfold nrm rscale
  pointwise [normOf]

theorem final_apply (o : FVec Ideal S8192x8x128 .f32) (w : FVec Ideal S128 .f32) (P : FVec Ideal S8192x11280 .f32) (r : Fin 8192) (h : Fin 8) (e : Fin 128) :
    finalOf o w P (ix2 r ⟨128 * h.val + e.val, by omega⟩) = normOf o w (ix3 r h e)
      * Ideal.div (P (ix2 r ⟨3072 + (128 * h.val + e.val), by omega⟩)) (1 + Ideal.exp (-P (ix2 r ⟨3072 + (128 * h.val + e.val), by omega⟩))) := by
  pointwise [finalOf]

/-! ## The loop -/

section
variable (m : (ℓ : Loc nD τ sig) → Buf (Elt Ideal) ℓ) (c : Dev nD)

abbrev arrP : FVec Ideal S8192x11280 .f32 := m ((c.tc : Thread nD τ).loc main_arg0)
abbrev arrC : FVec Ideal S4x3072 .f32 := m ((c.tc : Thread nD τ).loc main_arg1)
abbrev arrA : FVec Ideal S8 .f32 := m ((c.tc : Thread nD τ).loc main_arg2)
abbrev arrD : FVec Ideal S8 .f32 := m ((c.tc : Thread nD τ).loc main_arg3)
abbrev arrW : FVec Ideal S128 .f32 := m ((c.tc : Thread nD τ).loc main_arg4)

/-- Every buffer before trip `t`. -/
abbrev at_ (t : ℕ) : Valuation τ sig (Elt Ideal) := STEP^[t] (entryContents preI m c)

theorem at_q (t : ℕ) : at_ m c t (Proc.devRef .tc main_v83_0) = entQ (arrP m c) (arrC m c) := by
  induction t with
  | zero => exact entry_q m c
  | succ t ih => unfold at_; rw [Function.iterate_succ_apply', STEP_main_v83_0]; exact ih
theorem at_k (t : ℕ) : at_ m c t (Proc.devRef .tc main_v83_1) = entK (arrP m c) (arrC m c) := by
  induction t with
  | zero => exact entry_k m c
  | succ t ih => unfold at_; rw [Function.iterate_succ_apply', STEP_main_v83_1]; exact ih
theorem at_v (t : ℕ) : at_ m c t (Proc.devRef .tc main_v83_2) = entV (arrP m c) (arrC m c) := by
  induction t with
  | zero => exact entry_v m c
  | succ t ih => unfold at_; rw [Function.iterate_succ_apply', STEP_main_v83_2]; exact ih
theorem at_g (t : ℕ) : at_ m c t (Proc.devRef .tc main_v83_3) = entG (arrP m c) (arrA m c) (arrD m c) := by
  induction t with
  | zero => exact entry_g m c
  | succ t ih => unfold at_; rw [Function.iterate_succ_apply', STEP_main_v83_3]; exact ih
theorem at_b (t : ℕ) : at_ m c t (Proc.devRef .tc main_v83_4) = entB (arrP m c) := by
  induction t with
  | zero => exact entry_b m c
  | succ t ih => unfold at_; rw [Function.iterate_succ_apply', STEP_main_v83_4]; exact ih
theorem at_n (t : ℕ) : at_ m c t (Proc.devRef .tc main_v83_5) = word t := by
  induction t with
  | zero => exact ctr_entry m c
  | succ t ih =>
    unfold at_
    rw [Function.iterate_succ_apply', STEP_main_v83_5]
    unfold step_main_v83_5
    rw [show (STEP^[t] (entryContents preI m c)) (Proc.devRef .tc main_v83_5) = word t from ih]
    funext i
    show BitVec.ofNat 32 t + 1#32 = BitVec.ofNat 32 (t + 1)
    rw [BitVec.ofNat_add]

/-- The state and the outputs before trip `t`. -/
abbrev stateAt (t : ℕ) : FVec Ideal S8x128x128 .f32 := at_ m c t (Proc.devRef .tc main_v83_6)
abbrev outsAt (t : ℕ) : FVec Ideal S8192x8x128 .f32 := at_ m c t (Proc.devRef .tc main_v83_7)

theorem state_next (t : ℕ) : stateAt m c (t + 1) = nextOf (row3 (entK (arrP m c) (arrC m c)) (word t)) (row3 (entV (arrP m c) (arrC m c)) (word t))
    (row2 (entG (arrP m c) (arrA m c) (arrD m c)) (word t)) (row2 (entB (arrP m c)) (word t)) (stateAt m c t) := by
  have h := state_eq (at_ m c t)
  rw [at_k, at_v, at_g, at_b, at_n] at h
  unfold stateAt at_
  rw [Function.iterate_succ_apply', STEP_main_v83_6]
  exact h

theorem outs_next (t : ℕ) : outsAt m c (t + 1) = putRow (outsAt m c t) (against (stateAt m c (t + 1)) (row3 (entQ (arrP m c) (arrC m c)) (word t))) (word t) := by
  have h := out_eq (at_ m c t)
  rw [at_q, at_n] at h
  unfold outsAt stateAt at_
  rw [Function.iterate_succ_apply', STEP_main_v83_7, STEP_main_v83_6]
  exact h

variable (H : Fins (pAt (arrP m c)) (cAt (arrC m c)) (hAt (arrA m c)) (hAt (arrD m c)))
include H

theorem state_at (t : ℕ) (ht : t ≤ 8192) (h : Fin 8) (d e : Fin 128) : stateAt m c t (ix3 h d e)
    = ((stR (pAt (arrP m c)) (cAt (arrC m c)) (hAt (arrA m c)) (hAt (arrD m c)) h e t d : ℝ) : EReal) := by
  induction t generalizing d with
  | zero =>
    show entryContents preI m c (Proc.devRef .tc main_v83_6) (ix3 h d e) = _
    rw [entry_s]
    exact (by pointwise : broadcastInDim S8x128x128 ![] bcast_S_S8x128x128 (constant (F := Ideal) S_ .f32 0x00000000#32) (ix3 h d e) = 0)
  | succ t ih =>
    obtain ⟨n, rfl⟩ : ∃ n : Fin 8192, t = n.val := ⟨⟨t, ht⟩, rfl⟩
    rw [state_next, next_apply, against_apply]
    simp only [decayed_apply, row3_apply, row2_apply, entK_apply H, entV_apply H, entG_apply, entB_apply, kv_real H, vv_real H, gv_real H, bv_real H,
      ih (by omega), Ideal.exp_coe]
    simp only [← EReal.coe_mul]
    rw [← real_sum, ← EReal.coe_sub, ← EReal.coe_mul, ← EReal.coe_mul, ← EReal.coe_add]
    rfl

theorem outs_at (t : ℕ) (ht : t ≤ 8192) (r : Fin 8192) (hr : r.val < t) (h : Fin 8) (e : Fin 128) : outsAt m c t (ix3 r h e)
    = ((outR (pAt (arrP m c)) (cAt (arrC m c)) (hAt (arrA m c)) (hAt (arrD m c)) h e r.val : ℝ) : EReal) := by
  induction t with
  | zero => exact absurd hr (Nat.not_lt_zero _)
  | succ t ih =>
    obtain ⟨n, rfl⟩ : ∃ n : Fin 8192, t = n.val := ⟨⟨t, ht⟩, rfl⟩
    rw [outs_next, put_apply]
    by_cases hn : r.val = n.val
    · obtain rfl : r = n := Fin.ext hn
      rw [if_pos rfl, against_apply]
      simp only [state_at m c H (r.val + 1) ht, row3_apply, entQ_apply H, qv_real H, ← EReal.coe_mul]
      rw [← real_sum]
      rfl
    · rw [if_neg hn]
      exact ih (by omega) (by omega)

/-- The reference's result at an index. -/
theorem result_apply (r : Fin 8192) (h : Fin 8) (e : Fin 128) :
    (out_main_v105 (STEP^[8192] (entryContents preI m c)) : FVec Ideal S8192x1024 .bf16) (ix2 r ⟨128 * h.val + e.val, by omega⟩)
      = resultAt (pAt (arrP m c)) (cAt (arrC m c)) (hAt (arrA m c)) (hAt (arrD m c)) (fun d => arrW m c (ix1 d)) h r.val e := by
  rw [final_eq, iter_main_arg4, iter_main_arg0, final_apply, norm_apply, div_silu]
  unfold resultAt
  rw [show rowAt (pAt (arrP m c)) r.val ⟨3072 + (128 * h.val + e.val), by omega⟩ = pAt (arrP m c) r ⟨3072 + (128 * h.val + e.val), by omega⟩ from dif_pos r.isLt]
  refine congrArg₂ (· * ·) (congrArg (fun x => nrm x _ e) (funext fun d => ?_)) rfl
  exact outs_at m c H 8192 le_rfl r r.isLt h d
omit H

/-- The reference's result array. -/
def resultOf : FVec Ideal S8192x1024 .bf16 := out_main_v105 (STEP^[8192] (entryContents preI m c))

theorem resultOf_apply (P : FVec Ideal S8192x11280 .f32) (C : FVec Ideal S4x3072 .f32) (A D : FVec Ideal S8 .f32) (W : FVec Ideal S128 .f32)
    (hP : arrP m c = P) (hC : arrC m c = C) (hA : arrA m c = A) (hD : arrD m c = D) (hW : arrW m c = W)
    (H : Fins (pAt P) (cAt C) (hAt A) (hAt D)) (r : Fin 8192) (h : Fin 8) (e : Fin 128) :
    resultOf m c (ix2 r ⟨128 * h.val + e.val, by omega⟩) = resultAt (pAt P) (cAt C) (hAt A) (hAt D) (fun d => W (ix1 d)) h r.val e := by
  subst hP hC hA hD hW
  exact result_apply m c H r h e
end

end Cert.Reference7Ideal.Gdn

end
-- ==== Proof.Gdn.Finite.lean ====
/- What the precondition says of the arguments' entries: which are finite, and which are not plus infinity. -/
module

public import proofs.«01_k».proof.Proof.Gen.Pre_finite7
public import proofs.«01_k».proof.Proof.Gdn.Spec
public import Idealize.ShloMosaic.Lib.ReduceAll
public import Idealize.ShloMosaic.Lib.Pointwise
public import Idealize.ShloMosaic.Lib.IdealHost

@[expose] public section

noncomputable section

namespace Cert.Pre_finite7.Gdn

open Cert.Pre_finite7 Cert.Pre_finite7.Gen Idealize.ShloMosaic
open AttMath GdnMath

instance : Subsingleton S_.Idx := ⟨fun _ _ => funext fun a => a.elim0⟩

/-- A value whose magnitude is below `+∞` is finite. -/
theorem fin_of_lt (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- A value below `+∞` is not `+∞`. -/
theorem ne_of_lt (x : EReal) (h : Ideal.cmp .olt x (Ideal.ofBits .f32 0x7F800000#32) = 1#1) : x ≠ ⊤ := by
  have htop : Ideal.ofBits .f32 0x7F800000#32 = ⊤ := by simp [Ideal.ofBits, Ideal.ieee]
  rw [htop] at h
  rintro rfl
  simp [Ideal.cmp] at h

theorem and_one : ∀ a b : BitVec 1, IntOp.andi a b = 1#1 → a = 1#1 ∧ b = 1#1 := by decide

variable (P : FVec Ideal S8192x11280 .f32) (C : FVec Ideal S4x3072 .f32) (A D : FVec Ideal S8 .f32) (W : FVec Ideal S128 .f32)

def okP (x : FVec Ideal S8192x11280 .f32) : IVec S8192x3072 1 :=
  cmpf .olt (Host.absf (extractStridedSlice S8192x3072 ![0, 0] x slices_S8192x11280_S8192x3072_0_0))
    (broadcastInDim S8192x3072 ![] bcast_S_S8192x3072 (constant S_ .f32 0x7F800000#32))
def okS (x : FVec Ideal S8192x11280 .f32) : IVec S8192x8 1 :=
  cmpf .olt (extractStridedSlice S8192x8 ![0, 4096] x slices_S8192x11280_S8192x8_0_4096)
    (broadcastInDim S8192x8 ![] bcast_S_S8192x8 (constant S_ .f32 0x7F800000#32))
def okC (x : FVec Ideal S4x3072 .f32) : IVec S4x3072 1 := cmpf .olt (Host.absf x) (broadcastInDim S4x3072 ![] bcast_S_S4x3072 (constant S_ .f32 0x7F800000#32))
def okA (x : FVec Ideal S8 .f32) : IVec S8 1 := cmpf .olt x (broadcastInDim S8 ![] bcast_S_S8 (constant S_ .f32 0x7F800000#32))
def allP (x : IVec S8192x3072 1) : IVec S_ 1 := Host.reduce IntOp.andi x (constantI S_ 1 1#1) reducesTo_S8192x3072_S_d0_1 h_S_
def allS (x : IVec S8192x8 1) : IVec S_ 1 := Host.reduce IntOp.andi x (constantI S_ 1 1#1) reducesTo_S8192x8_S_d0_1 h_S_
def allC (x : IVec S4x3072 1) : IVec S_ 1 := Host.reduce IntOp.andi x (constantI S_ 1 1#1) reducesTo_S4x3072_S_d0_1 h_S_
def allA (x : IVec S8 1) : IVec S_ 1 := Host.reduce IntOp.andi x (constantI S_ 1 1#1) reducesTo_S8_S_d0 h_S_

theorem fn_eq : fn (F := Ideal) P C A D W
    = andi (andi (andi (andi (allP (okP P)) (allS (okS P))) (allC (okC C))) (allA (okA A))) (allA (okA D)) := rfl

theorem okP_fin (x : FVec Ideal S8192x11280 .f32) (r : Fin 8192) (n : Fin 11280) (hn : n.val < 3072) (h : okP x (ix2 r ⟨n.val, hn⟩) = 1#1) :
    Fin' (x (ix2 r n)) := by
  have e : okP x (ix2 r ⟨n.val, hn⟩) = Ideal.cmp .olt (max (x (ix2 r n)) (-x (ix2 r n))) (Ideal.ofBits .f32 0x7F800000#32) := by
    pointwise [okP]
    rfl
  exact fin_of_lt _ (e.symm.trans h)
theorem okS_ne (x : FVec Ideal S8192x11280 .f32) (r : Fin 8192) (i : Fin 8) (h : okS x (ix2 r i) = 1#1) :
    x (ix2 r ⟨4096 + i.val, by omega⟩) ≠ ⊤ := by
  have e : okS x (ix2 r i) = Ideal.cmp .olt (x (ix2 r ⟨4096 + i.val, by omega⟩)) (Ideal.ofBits .f32 0x7F800000#32) := by
    pointwise [okS]
  exact ne_of_lt _ (e.symm.trans h)
theorem okC_fin (x : FVec Ideal S4x3072 .f32) (i) (h : okC x i = 1#1) : Fin' (x i) := fin_of_lt _ h
theorem okA_ne (x : FVec Ideal S8 .f32) (i) (h : okA x i = 1#1) : x i ≠ ⊤ := ne_of_lt _ h

theorem finite (h : fn (F := Ideal) P C A D W = fun _ => 1#1) :
    Fins (fun r n => P (ix2 r n)) (fun r n => C (ix2 r n)) (fun i => A (ix1 i)) (fun i => D (ix1 i)) := by
  rw [fn_eq] at h
  have h0 := congrFun h (fun a => a.elim0)
  obtain ⟨h1, hD⟩ := and_one _ _ h0
  obtain ⟨h2, hA⟩ := and_one _ _ h1
  obtain ⟨h3, hC⟩ := and_one _ _ h2
  obtain ⟨hP, hS⟩ := and_one _ _ h3
  refine ⟨fun r n hn => ?_, fun r i => ?_, fun r n => ?_, fun a => ?_, fun a => ?_⟩
  · exact okP_fin _ _ _ hn (Host.reduce_andi_all _ _ _ _ _ hP _)
  · exact okS_ne _ _ _ (Host.reduce_andi_all _ _ _ _ _ hS _)
  · exact okC_fin _ _ (Host.reduce_andi_all _ _ _ _ _ hC _)
  · exact okA_ne _ _ (Host.reduce_andi_all _ _ _ _ _ hA _)
  · exact okA_ne _ _ (Host.reduce_andi_all _ _ _ _ _ hD _)

end Cert.Pre_finite7.Gdn

end
-- ==== Proof.Gdn.Equation.lean ====
/- The equation of the gated delta rule's claim: over finite arguments the reference's result is the array the kernel ends with. -/
module

public import proofs.«01_k».proof.Proof.Gdn.Fold
public import proofs.«01_k».proof.Proof.Gdn.Reference
public import proofs.«01_k».proof.Proof.Gdn.Finite

@[expose] public section

set_option maxRecDepth 16384

noncomputable section

namespace Cert.Kernel7Ideal.Gdn

open Cert.Kernel7Ideal Cert.Kernel7Ideal.Gen Idealize.ShloMosaic Idealize.ShloMosaic.TcCoe Idealize.SL.Sem
open AttMath GdnMath

variable (m : (ℓ : Loc nD τ sig) → Buf (Elt Ideal) ℓ) (c : Dev nD)
variable (m' : (ℓ : Loc Cert.Reference7Ideal.nD Cert.Reference7Ideal.τ Cert.Reference7Ideal.sig) → Buf (Elt Ideal) ℓ)

theorem equation
    (hP : Cert.Reference7Ideal.Gdn.arrP m' c = m ((c : Thread nD τ).loc main_arg0)) (hC : Cert.Reference7Ideal.Gdn.arrC m' c = m ((c : Thread nD τ).loc main_arg1))
    (hA : Cert.Reference7Ideal.Gdn.arrA m' c = m ((c : Thread nD τ).loc main_arg2)) (hD : Cert.Reference7Ideal.Gdn.arrD m' c = m ((c : Thread nD τ).loc main_arg3))
    (hW : Cert.Reference7Ideal.Gdn.arrW m' c = m ((c : Thread nD τ).loc main_arg4))
    (hfin : Cert.Pre_finite7.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Cert.Reference7Ideal.Gdn.resultOf m' c = (Value.G7 m c : Vec Ideal S8192x1024 .bf16) := by
  have H := Cert.Pre_finite7.Gdn.finite _ _ _ _ _ hfin
  funext i
  obtain ⟨r, q, rfl⟩ : ∃ (r : Fin 8192) (q : Fin 1024), i = ix2 r q := ⟨i 0, i 1, eq_ix2 i⟩
  obtain ⟨h, e, rfl⟩ : ∃ (h : Fin 8) (e : Fin 128), q = ⟨128 * h.val + e.val, by omega⟩ :=
    ⟨⟨q.val / 128, by omega⟩, ⟨q.val % 128, by omega⟩, Fin.ext (by show q.val = 128 * (q.val / 128) + q.val % 128; omega)⟩
  exact (Cert.Reference7Ideal.Gdn.resultOf_apply m' c _ _ _ _ _ hP hC hA hD hW H r h e).trans (result_apply m c H h r e).symm

end Cert.Kernel7Ideal.Gdn

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Ffn.Equation
public import proofs.«01_k».proof.Proof.Gen.Kernel2.Frame
public import proofs.«01_k».proof.Proof.Gen.Kernel2Ideal.Value
public import proofs.«01_k».proof.Proof.Ffn2.Equation
public import proofs.«01_k».proof.Proof.Gen.Kernel3.Frame
public import proofs.«01_k».proof.Proof.Gen.Kernel3Ideal.Value
public import proofs.«01_k».proof.Proof.Gen.Reference3Ideal.Run
public import proofs.«01_k».proof.Proof.Merge.Equation
public import proofs.«01_k».proof.Proof.Regroup.FrameWords
public import proofs.«01_k».proof.Proof.Gen.Reference4Ideal.Run
public import proofs.«01_k».proof.Proof.Regroup.Equation
public import proofs.«01_k».proof.Proof.Inproj.FrameWords
public import proofs.«01_k».proof.Proof.Gen.Reference5Ideal.Run
public import proofs.«01_k».proof.Proof.Inproj.Equation
public import proofs.«01_k».proof.Proof.Gen.Kernel6.Frame
public import proofs.«01_k».proof.Proof.Gen.Kernel6Ideal.Value
public import proofs.«01_k».proof.Proof.Gen.Reference6Ideal.Run
public import proofs.«01_k».proof.Proof.Att.Equation
public import proofs.«01_k».proof.Proof.Gen.Kernel7.Frame
public import proofs.«01_k».proof.Proof.Gen.Kernel7Ideal.Value
public import proofs.«01_k».proof.Proof.Gen.Reference7Ideal.Run
public import proofs.«01_k».proof.Proof.Gdn.Equation
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2.2.2.2.2.2.2, sem_eq_zero_of_no_sems (by decide) r.2⟩)
    (Cert.Reference5Ideal.Value.run (F := Ideal) m ρ)

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.KernelIdeal.Ffn.equation m c

theorem algebraic_Kernel2Ideal_ReferenceIdeal : algebraic_Kernel2Ideal_ReferenceIdeal := by
  intro m ρ m' ρ' _ hagree
  refine ⟨_, Cert.Kernel2Ideal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.Kernel2Ideal.Ffn2.equation m c

theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  simp only [hagree c]
  exact Cert.Kernel3Ideal.Merge.equation m c

theorem algebraic_Kernel4Ideal_Reference4Ideal : algebraic_Kernel4Ideal_Reference4Ideal := by
  intro m ρ m' ρ' _ hagree
  refine ⟨_, _, Cert.Kernel4Ideal.Regroup.run m ρ, ?_⟩
  refine (θ_run Cert.Reference4Ideal.defs _ _).mono (fun _ h c => ⟨?_, ?_, (h c).2.2⟩) (Cert.Reference4Ideal.Value.run (F := Ideal) m' ρ')
  · rw [(h c).1]
    exact (congrArg Cert.Reference4Ideal.Regroup.wpacked (hagree c)).trans (Cert.Kernel4Ideal.Regroup.equation_main m c)
  · rw [(h c).2.1]
    simp only [hagree c]
    exact Cert.Kernel4Ideal.Regroup.equation_ab m c

theorem algebraic_Kernel5Ideal_Reference5Ideal : algebraic_Kernel5Ideal_Reference5Ideal := by
  intro m ρ m' ρ' _ hagree
  refine ⟨_, _, _, _, _, _, _, _, Cert.Kernel5Ideal.Inproj.run m ρ, ?_⟩
  refine (θ_run Cert.Reference5Ideal.defs _ _).mono (fun _ h c => ⟨?_, ?_, ?_, ?_, ?_, ?_, ?_, ?_, (h c).2.2.2.2.2.2.2.2⟩) (Cert.Reference5Ideal.Value.run (F := Ideal) m' ρ')
  · rw [(h c).1]
    exact (congrArg Cert.Reference5Ideal.Inproj.packed (congr (congr (congrArg Cert.Reference5Ideal.Inproj.projected (hagree c).1) (hagree c).2.1) (hagree c).2.2.1)).trans (Cert.Kernel5Ideal.Inproj.equation_p m c)
  · rw [(h c).2.1]
    simp only [hagree c]
    exact Cert.Kernel5Ideal.Inproj.equation_ab m c
  · rw [(h c).2.2.1]
    simp only [hagree c]
    exact Cert.Kernel5Ideal.Inproj.equation_3 m c
  · rw [(h c).2.2.2.1]
    simp only [hagree c]
    exact Cert.Kernel5Ideal.Inproj.equation_4 m c
  · rw [(h c).2.2.2.2.1]
    simp only [hagree c]
    exact Cert.Kernel5Ideal.Inproj.equation_5 m c
  · rw [(h c).2.2.2.2.2.1]
    simp only [hagree c]
    exact Cert.Kernel5Ideal.Inproj.equation_6 m c
  · rw [(h c).2.2.2.2.2.2.1]
    simp only [hagree c]
    exact Cert.Kernel5Ideal.Inproj.equation_7 m c
  · rw [(h c).2.2.2.2.2.2.2.1]
    simp only [hagree c]
    exact Cert.Kernel5Ideal.Inproj.equation_8 m c

theorem algebraic_Kernel6Ideal_Reference6Ideal_pre_finite6 : algebraic_Kernel6Ideal_Reference6Ideal_pre_finite6 := by
  intro m ρ m' ρ' hpre hagree
  refine ⟨_, Cert.Kernel6Ideal.Value.run (F := Ideal) m ρ, ?_⟩
  refine (θ_run Cert.Reference6Ideal.defs _ _).mono (fun _ h c => ⟨?_, (h c).2⟩) (Cert.Reference6Ideal.Value.run (F := Ideal) m' ρ')
  rw [(h c).1]
  refine (Cert.Reference6Ideal.Att.result_eq m' c).trans ?_
  exact (congr (congr (congr (congrArg Cert.Kernel6Ideal.Att.expected (hagree c).1) (hagree c).2.1) (hagree c).2.2.1) (hagree c).2.2.2).trans
    (Cert.Kernel6Ideal.Att.equation m c (hpre c))

theorem algebraic_Kernel7Ideal_Reference7Ideal_pre_finite7 : algebraic_Kernel7Ideal_Reference7Ideal_pre_finite7 := by
  intro m ρ m' ρ' hpre hagree
  refine ⟨_, Cert.Kernel7Ideal.Value.run (F := Ideal) m ρ, ?_⟩
  refine (θ_run Cert.Reference7Ideal.defs _ _).mono (fun _ h c => ⟨?_, (h c).2⟩) (Cert.Reference7Ideal.Value.run (F := Ideal) m' ρ')
  rw [(h c).1]
  exact Cert.Kernel7Ideal.Gdn.equation m c m' (hagree c).1 (hagree c).2.1 (hagree c).2.2.1 (hagree c).2.2.2.1 (hagree c).2.2.2.2 (hpre c)

theorem claim : Cert.Claim := ⟨Cert.Kernel.Gen.facts, Cert.KernelIdeal.Gen.facts, Cert.ReferenceIdeal.Gen.facts, Cert.Kernel2.Gen.facts, Cert.Kernel2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite6.Gen.facts, Cert.Pre_finite7.Gen.facts,
  fun m ρ _ => Cert.Kernel.Gen.frame m ρ,
  fun m ρ _ => Cert.KernelIdeal.Gen.frame m ρ,
  quiescent_ReferenceIdeal,
  fun m ρ _ => Cert.Kernel2.Gen.frame m ρ,
  fun m ρ _ => Cert.Kernel2Ideal.Gen.frame m ρ,
  fun m ρ _ => Cert.Kernel3.Gen.frame m ρ,
  fun m ρ _ => Cert.Kernel3Ideal.Gen.frame m ρ,
  quiescent_Reference3Ideal,
  fun m ρ _ => Cert.Kernel4.Regroup.frame m ρ,
  fun m ρ _ => Cert.Kernel4Ideal.Regroup.frame m ρ,
  quiescent_Reference4Ideal,
  fun m ρ _ => Cert.Kernel5.Inproj.frame m ρ,
  fun m ρ _ => Cert.Kernel5Ideal.Inproj.frame m ρ,
  quiescent_Reference5Ideal,
  fun m ρ _ => Cert.Kernel6.Gen.frame m ρ,
  fun m ρ _ => Cert.Kernel6Ideal.Gen.frame m ρ,
  fun m ρ _ => Cert.Kernel6Ideal.Gen.frame m ρ,
  quiescent_Reference6Ideal,
  fun m ρ _ => quiescent_Reference6Ideal m ρ trivial,
  fun m ρ _ => Cert.Kernel7.Gen.frame m ρ,
  fun m ρ _ => Cert.Kernel7Ideal.Gen.frame m ρ,
  fun m ρ _ => Cert.Kernel7Ideal.Gen.frame m ρ,
  quiescent_Reference7Ideal,
  fun m ρ _ => quiescent_Reference7Ideal m ρ trivial,
  (trivial : preserves_Kernel_KernelIdeal),
  algebraic_KernelIdeal_ReferenceIdeal,
  (trivial : preserves_Kernel2_Kernel2Ideal),
  algebraic_Kernel2Ideal_ReferenceIdeal,
  (trivial : preserves_Kernel3_Kernel3Ideal),
  algebraic_Kernel3Ideal_Reference3Ideal,
  (trivial : preserves_Kernel4_Kernel4Ideal),
  algebraic_Kernel4Ideal_Reference4Ideal,
  (trivial : preserves_Kernel5_Kernel5Ideal),
  algebraic_Kernel5Ideal_Reference5Ideal,
  IdealRules.named_const.statement _ _ _ _ _ rfl,
  algebraic_Kernel6Ideal_Reference6Ideal_pre_finite6,
  (trivial : preserves_Kernel7_Kernel7Ideal),
  algebraic_Kernel7Ideal_Reference7Ideal_pre_finite7⟩

end Cert.Proof

end
